-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_heads [hPre_finite_heads : Cert.Pre_finite_heads.Facts] (m : (ℓ : Loc Cert.RetIdeal.nD Cert.RetIdeal.τ Cert.RetIdeal.sig) → Buf (Elt Ideal) ℓ) : Prop :=
  ∀ c : Dev Cert.RetIdeal.nD,
    (Cert.Pre_finite_heads.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_heads [hPre_finite_heads : Cert.Pre_finite_heads.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_heads.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetIdeal_pre_finite_heads [hRetIdeal : Cert.RetIdeal.Facts] [hPre_finite_heads : Cert.Pre_finite_heads.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_heads m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_RetRefIdeal_pre_finite_heads [hRetRefIdeal : Cert.RetRefIdeal.Facts] [hPre_finite_heads : Cert.Pre_finite_heads.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_heads m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v4)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v4) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v54) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Ret_RetIdeal : Prop :=
  True

def algebraic_RetIdeal_RetRefIdeal_pre_finite_heads [hRetIdeal : Cert.RetIdeal.Facts] [hRetRefIdeal : Cert.RetRefIdeal.Facts] [hPre_finite_heads : Cert.Pre_finite_heads.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_heads m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v18)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v18) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v157) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v17) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)) →
    ∃ (v0 : (c : Dev Cert.InputIdeal.nD) → Buf (Elt Ideal) ((c.tc : Thread Cert.InputIdeal.nD Cert.InputIdeal.τ).loc Cert.InputIdeal.main_v15_0)) (v1 : (c : Dev Cert.InputIdeal.nD) → Buf (Elt Ideal) ((c.tc : Thread Cert.InputIdeal.nD Cert.InputIdeal.τ).loc Cert.InputIdeal.main_v15_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v15_0) = v0 c
          ∧ r.2.mem ((c.tc : Thread Cert.InputIdeal.nD Cert.InputIdeal.τ).loc Cert.InputIdeal.main_v15_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v25) = v0 c
          ∧ r.2.mem ((c.tc : Thread Cert.InputRefIdeal.nD Cert.InputRefIdeal.τ).loc Cert.InputRefIdeal.main_v26) = v1 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v13) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v1)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v1) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v2) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v22) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hGla : Cert.Gla.Facts) (hGlaIdeal : Cert.GlaIdeal.Facts) (hGlaRefIdeal : Cert.GlaRefIdeal.Facts) (hRet : Cert.Ret.Facts) (hRetIdeal : Cert.RetIdeal.Facts) (hRetRefIdeal : Cert.RetRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInput : Cert.Input.Facts) (hInputIdeal : Cert.InputIdeal.Facts) (hInputRefIdeal : Cert.InputRefIdeal.Facts) (hMixOut : Cert.MixOut.Facts) (hMixOutIdeal : Cert.MixOutIdeal.Facts) (hMixOutRefIdeal : Cert.MixOutRefIdeal.Facts) (hQkv : Cert.Qkv.Facts) (hQkvIdeal : Cert.QkvIdeal.Facts) (hQkvRefIdeal : Cert.QkvRefIdeal.Facts) (hAttOut : Cert.AttOut.Facts) (hAttOutIdeal : Cert.AttOutIdeal.Facts) (hAttOutRefIdeal : Cert.AttOutRefIdeal.Facts) (hPle : Cert.Ple.Facts) (hPleIdeal : Cert.PleIdeal.Facts) (hPleRefIdeal : Cert.PleRefIdeal.Facts) (hFinalNorm : Cert.FinalNorm.Facts) (hFinalNormIdeal : Cert.FinalNormIdeal.Facts) (hFinalNormRefIdeal : Cert.FinalNormRefIdeal.Facts) (hPre_finite_heads : Cert.Pre_finite_heads.Facts),
    quiescent_Gla (hGla := hGla)
    ∧ quiescent_GlaIdeal (hGlaIdeal := hGlaIdeal)
    ∧ quiescent_GlaRefIdeal (hGlaRefIdeal := hGlaRefIdeal)
    ∧ quiescent_Ret (hRet := hRet)
    ∧ quiescent_RetIdeal (hRetIdeal := hRetIdeal)
    ∧ quiescent_RetIdeal_pre_finite_heads (hRetIdeal := hRetIdeal) (hPre_finite_heads := hPre_finite_heads)
    ∧ quiescent_RetRefIdeal (hRetRefIdeal := hRetRefIdeal)
    ∧ quiescent_RetRefIdeal_pre_finite_heads (hRetRefIdeal := hRetRefIdeal) (hPre_finite_heads := hPre_finite_heads)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Input (hInput := hInput)
    ∧ quiescent_InputIdeal (hInputIdeal := hInputIdeal)
    ∧ quiescent_InputRefIdeal (hInputRefIdeal := hInputRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_Ple (hPle := hPle)
    ∧ quiescent_PleIdeal (hPleIdeal := hPleIdeal)
    ∧ quiescent_PleRefIdeal (hPleRefIdeal := hPleRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_Gla_GlaIdeal
    ∧ algebraic_GlaIdeal_GlaRefIdeal (hGlaIdeal := hGlaIdeal) (hGlaRefIdeal := hGlaRefIdeal)
    ∧ preserves_Ret_RetIdeal
    ∧ algebraic_RetIdeal_RetRefIdeal_pre_finite_heads (hRetIdeal := hRetIdeal) (hRetRefIdeal := hRetRefIdeal) (hPre_finite_heads := hPre_finite_heads)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Input_InputIdeal
    ∧ algebraic_InputIdeal_InputRefIdeal (hInputIdeal := hInputIdeal) (hInputRefIdeal := hInputRefIdeal)
    ∧ preserves_MixOut_MixOutIdeal
    ∧ algebraic_MixOutIdeal_MixOutRefIdeal (hMixOutIdeal := hMixOutIdeal) (hMixOutRefIdeal := hMixOutRefIdeal)
    ∧ preserves_Qkv_QkvIdeal
    ∧ algebraic_QkvIdeal_QkvRefIdeal (hQkvIdeal := hQkvIdeal) (hQkvRefIdeal := hQkvRefIdeal)
    ∧ preserves_AttOut_AttOutIdeal
    ∧ algebraic_AttOutIdeal_AttOutRefIdeal (hAttOutIdeal := hAttOutIdeal) (hAttOutRefIdeal := hAttOutRefIdeal)
    ∧ preserves_Ple_PleIdeal
    ∧ algebraic_PleIdeal_PleRefIdeal (hPleIdeal := hPleIdeal) (hPleRefIdeal := hPleRefIdeal)
    ∧ preserves_FinalNorm_FinalNormIdeal
    ∧ algebraic_FinalNormIdeal_FinalNormRefIdeal (hFinalNormIdeal := hFinalNormIdeal) (hFinalNormRefIdeal := hFinalNormRefIdeal)
-- ==== Pre_finite_heads.lean ====
abbrev S16384x7168 : Shape := ⟨2, ![16384, 7168]⟩
abbrev S8x2048 : Shape := ⟨2, ![8, 2048]⟩
abbrev S1024 : Shape := ⟨1, ![1024]⟩
abbrev S16384x3072 : Shape := ⟨2, ![16384, 3072]⟩
abbrev S_ : Shape := ⟨0, ![]⟩

class Facts : Prop where
  slices_S16384x7168_S16384x3072_0_0 : S16384x7168.Slices ![0, 0] S16384x3072
  bitsLt_bf16_f32 : FTy.bits .bf16 < FTy.bits .f32
  bcast_S_S16384x3072 : S_.BroadcastsInDim S16384x3072 (![] : Fin 0 → Fin S16384x3072.rank)

variable [Facts]

def fn {F : FTy → Type} [FloatOps F] (main_arg0 : FVec F S16384x7168 .bf16) (main_arg1 : IVec S8x2048 32) (main_arg2 : FVec F S1024 .f32) : IVec S16384x3072 1 :=
  let main_v0 : FVec F S16384x3072 .bf16 := (extractStridedSlice S16384x3072 ![0, 0] · slices_S16384x7168_S16384x3072_0_0) main_arg0
  let main_v1 : FVec F S16384x3072 .f32 := (extf .f32 · bitsLt_bf16_f32) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  main_v4
-- ==== Gla.lean ====
abbrev S16384x7168 : Shape := ⟨2, ![16384, 7168]⟩
abbrev S16384x128 : Shape := ⟨2, ![16384, 128]⟩
abbrev S16x512 : Shape := ⟨2, ![16, 512]⟩
abbrev S512 : Shape := ⟨1, ![512]⟩
abbrev S1024 : Shape := ⟨1, ![1024]⟩
abbrev S_ : Shape := ⟨0, ![]⟩
abbrev S128x512 : Shape := ⟨2, ![128, 512]⟩
abbrev S1x512 : Shape := ⟨2, ![1, 512]⟩
abbrev S1x1024 : Shape := ⟨2, ![1, 1024]⟩
abbrev S16384x1024 : Shape := ⟨2, ![16384, 1024]⟩
abbrev S2048x128 : Shape := ⟨2, ![2048, 128]⟩
abbrev S2048x256 : Shape := ⟨2, ![2048, 256]⟩
abbrev S128x128 : Shape := ⟨2, ![128, 128]⟩
abbrev S1x128 : Shape := ⟨2, ![1, 128]⟩
abbrev S1x256 : Shape := ⟨2, ![1, 256]⟩
abbrev S256x128 : Shape := ⟨2, ![256, 128]⟩
abbrev S256x256 : Shape := ⟨2, ![256, 256]⟩
abbrev S64x256 : Shape := ⟨2, ![64, 256]⟩
abbrev S64x128 : Shape := ⟨2, ![64, 128]⟩
abbrev S64 : Shape := ⟨1, ![64]⟩
abbrev S64x1 : Shape := ⟨2, ![64, 1]⟩

abbrev nBuf : Space → Nat
  | .hbm => 12
  | .vmem => 19
  | .smem => 0
  | _ => 0

abbrev bufTy : (tb : Table) → Fin (tcTables nBuf tb) → BufTy
  | .hbm, ⟨0, _⟩ => ⟨S16384x7168, .bf16⟩
  | .hbm, ⟨1, _⟩ => ⟨S16384x128, .f32⟩
  | .hbm, ⟨2, _⟩ => ⟨S16x512, .f32⟩
  | .hbm, ⟨3, _⟩ => ⟨S512, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S1x1024, .f32⟩
  | .hbm, ⟨11, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x128, .f32⟩
  | .local _ .vmem, ⟨9, _⟩ => ⟨S2048x128, .f32⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x256, .f32⟩
  | .local _ .vmem, ⟨16, _⟩ => ⟨S2048x256, .bf16⟩
  | .local _ .vmem, ⟨17, _⟩ => ⟨S2048x256, .bf16⟩
  | .local _ .vmem, ⟨18, _⟩ => ⟨S256x128, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_12 : BitVec 32 := 0#32
  let c8_i32 : BitVec 32 := 8#32
  let v60 : BitVec 32 := Scalar.addi c0_i32_12 c8_i32
  let c1_i32_13 : BitVec 32 := 1#32
  ⟨c0_i32_12, v60, c1_i32_13⟩
def k0_mult1 (k0_t1 : Fin k0_t1_loop.trips) : BitVec 32 :=
  let c0_i32_12 : BitVec 32 := 0#32
  let c1_i32_13 : BitVec 32 := 1#32
  let arg12 : BitVec 32 := Scf.iv c0_i32_12 c1_i32_13 k0_t1
  let c256_i32 : BitVec 32 := 256#32
  let v61 : BitVec 32 := Scalar.muli arg12 c256_i32
  v61
def k0_off1 (k0_t1 : Fin k0_t1_loop.trips) : Fin 2 → Nat :=
  let c0_i32_12 : BitVec 32 := 0#32
  let c1_i32_13 : BitVec 32 := 1#32
  let arg12 : BitVec 32 := Scf.iv c0_i32_12 c1_i32_13 k0_t1
  let c256_i32 : BitVec 32 := 256#32
  let v61 : BitVec 32 := Scalar.muli arg12 c256_i32
  let v62 : BitVec 32 := v61
  let v63 : Index := Scalar.indexCast v62
  let c0_15 : Index := 0#32
  ![v63.toNat, 0]
def k0_off2 (k0_t1 : Fin k0_t1_loop.trips) : Fin 2 → Nat :=
  let c0_i32_12 : BitVec 32 := 0#32
  let c1_i32_13 : BitVec 32 := 1#32
  let arg12 : BitVec 32 := Scf.iv c0_i32_12 c1_i32_13 k0_t1
  let c256_i32 : BitVec 32 := 256#32
  let v61 : BitVec 32 := Scalar.muli arg12 c256_i32
  let v62 : BitVec 32 := v61
  let v109 : Index := Scalar.indexCast v62
  let c0_31 : Index := 0#32
  ![v109.toNat, 0]
def k0_off3 (k0_t1 : Fin k0_t1_loop.trips) (c0_i32_47 : BitVec 32) : Fin 2 → Nat :=
  let c0_i32_12 : BitVec 32 := 0#32
  let c1_i32_13 : BitVec 32 := 1#32
  let arg12 : BitVec 32 := Scf.iv c0_i32_12 c1_i32_13 k0_t1
  let c256_i32 : BitVec 32 := 256#32
  let v61 : BitVec 32 := Scalar.muli arg12 c256_i32
  let v62 : BitVec 32 := v61
  let v163 : BitVec 32 := Scalar.addi v62 c0_i32_47
  let v164 : Index := Scalar.indexCast v163
  let c0_48 : Index := 0#32
  ![v164.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S16384x7168 : Shape := ⟨2, ![16384, 7168]⟩
abbrev S16384x128 : Shape := ⟨2, ![16384, 128]⟩
abbrev S16x512 : Shape := ⟨2, ![16, 512]⟩
abbrev S512 : Shape := ⟨1, ![512]⟩
abbrev S1024 : Shape := ⟨1, ![1024]⟩
abbrev S8x2048x7168 : Shape := ⟨3, ![8, 2048, 7168]⟩
abbrev S8x2048x128 : Shape := ⟨3, ![8, 2048, 128]⟩
abbrev S8x2048x16 : Shape := ⟨3, ![8, 2048, 16]⟩
abbrev S8x2048x512 : Shape := ⟨3, ![8, 2048, 512]⟩
abbrev S8x2048x1024 : Shape := ⟨3, ![8, 2048, 1024]⟩
abbrev S1x1x512 : Shape := ⟨3, ![1, 1, 512]⟩
abbrev S_ : Shape := ⟨0, ![]⟩
abbrev S8x2048x4x128 : Shape := ⟨4, ![8, 2048, 4, 128]⟩
abbrev S8x2048x4x256 : Shape := ⟨4, ![8, 2048, 4, 256]⟩
abbrev S64x64 : Shape := ⟨2, ![64, 64]⟩
abbrev S8x4x128x256 : Shape := ⟨4, ![8, 4, 128, 256]⟩
abbrev S8x32x64x4x128 : Shape := ⟨5, ![8, 32, 64, 4, 128]⟩
abbrev S32x8x64x4x128 : Shape := ⟨5, ![32, 8, 64, 4, 128]⟩
abbrev S8x32x64x4x256 : Shape := ⟨5, ![8, 32, 64, 4, 256]⟩
abbrev S32x8x64x4x256 : Shape := ⟨5, ![32, 8, 64, 4, 256]⟩
abbrev S1x8x64x4x128 : Shape := ⟨5, ![1, 8, 64, 4, 128]⟩
abbrev S8x64x4x128 : Shape := ⟨4, ![8, 64, 4, 128]⟩
abbrev S1x8x64x4x256 : Shape := ⟨5, ![1, 8, 64, 4, 256]⟩
abbrev S8x64x4x256 : Shape := ⟨4, ![8, 64, 4, 256]⟩
abbrev S8x1x4x128 : Shape := ⟨4, ![8, 1, 4, 128]⟩
abbrev S8x4x128 : Shape := ⟨3, ![8, 4, 128]⟩
abbrev S8x4x64x64 : Shape := ⟨4, ![8, 4, 64, 64]⟩
abbrev S8x4x256x64 : Shape := ⟨4, ![8, 4, 256, 64]⟩
abbrev S8x4x128x1 : Shape := ⟨4, ![8, 4, 128, 1]⟩
abbrev S4x256 : Shape := ⟨2, ![4, 256]⟩
abbrev S8x2048x4 : Shape := ⟨3, ![8, 2048, 4]⟩
abbrev S8x2048x4x1 : Shape := ⟨4, ![8, 2048, 4, 1]⟩
abbrev S1x1x4x256 : Shape := ⟨4, ![1, 1, 4, 256]⟩
abbrev S16384x1024 : Shape := ⟨2, ![16384, 1024]⟩

abbrev nBuf : Space → Nat
  | .hbm => 173
  | .vmem => 0
  | .smem => 0
  | _ => 0

abbrev hbmTy0_0 (i : Nat) : BufTy := match i % 128 with
  | 0 => ⟨S16384x7168, .bf16⟩
  | 1 => ⟨S16384x128, .f32⟩
  | 2 => ⟨S16x512, .f32⟩
  | 3 => ⟨S512, .f32⟩
  | 4 => ⟨S1024, .f32⟩
  | 5 => ⟨S16384x7168, .f32⟩
  | 6 => ⟨S8x2048x7168, .f32⟩
  | 7 => ⟨S8x2048x128, .f32⟩
  | 8 => ⟨S8x2048x16, .f32⟩
  | 9 => ⟨S8x2048x512, .f32⟩
  | 10 => ⟨S8x2048x512, .f32⟩
  | 11 => ⟨S8x2048x1024, .f32⟩
  | 12 => ⟨S8x2048x1024, .f32⟩
  | 13 => ⟨S8x2048x512, .f32⟩
  | 14 => ⟨S1x1x512, .f32⟩
  | 15 => ⟨S8x2048x512, .f32⟩
  | 16 => ⟨S8x2048x512, .f32⟩
  | 17 => ⟨S8x2048x512, .f32⟩
  | 18 => ⟨S_, .f32⟩
  | 19 => ⟨S8x2048x512, .f32⟩
  | 20 => ⟨S8x2048x512, .f32⟩
  | 21 => ⟨S8x2048x512, .f32⟩
  | 22 => ⟨S8x2048x512, .f32⟩
  | 23 => ⟨S8x2048x512, .i1⟩
  | 24 => ⟨S8x2048x512, .f32⟩
  | 25 => ⟨S8x2048x512, .f32⟩
  | 26 => ⟨S8x2048x512, .f32⟩
  | 27 => ⟨S8x2048x512, .f32⟩
  | 28 => ⟨S8x2048x512, .f32⟩
  | 29 => ⟨S8x2048x512, .f32⟩
  | 30 => ⟨S8x2048x512, .f32⟩
  | 31 => ⟨S8x2048x512, .f32⟩
  | 32 => ⟨S8x2048x512, .f32⟩
  | 33 => ⟨S_, .f32⟩
  | 34 => ⟨S8x2048x512, .f32⟩
  | 35 => ⟨S8x2048x512, .f32⟩
  | 36 => ⟨S8x2048x4x128, .f32⟩
  | 37 => ⟨S8x2048x4x128, .f32⟩
  | 38 => ⟨S8x2048x4x256, .f32⟩
  | 39 => ⟨S8x2048x4x128, .f32⟩
  | 40 => ⟨S_, .f32⟩
  | 41 => ⟨S8x2048x4x128, .f32⟩
  | 42 => ⟨S8x2048x4x128, .f32⟩
  | 43 => ⟨S_, .i1⟩
  | 44 => ⟨S64x64, .i1⟩
  | 45 => ⟨S64x64, .i32⟩
  | 46 => ⟨S_, .i32⟩
  | 47 => ⟨S64x64, .i32⟩
  | 48 => ⟨S64x64, .i32⟩
  | 49 => ⟨S64x64, .i32⟩
  | 50 => ⟨S64x64, .i1⟩
  | 51 => ⟨S_, .i1⟩
  | 52 => ⟨S64x64, .i1⟩
  | 53 => ⟨S64x64, .i1⟩
  | 54 => ⟨S_, .f32⟩
  | 55 => ⟨S8x4x128x256, .f32⟩
  | 56 => ⟨S8x32x64x4x128, .f32⟩
  | 57 => ⟨S32x8x64x4x128, .f32⟩
  | 58 => ⟨S8x32x64x4x128, .f32⟩
  | 59 => ⟨S32x8x64x4x128, .f32⟩
  | 60 => ⟨S8x32x64x4x256, .f32⟩
  | 61 => ⟨S32x8x64x4x256, .f32⟩
  | 62 => ⟨S8x32x64x4x128, .f32⟩
  | 63 => ⟨S32x8x64x4x128, .f32⟩
  | 64 => ⟨S_, .f32⟩
  | 65 => ⟨S32x8x64x4x256, .f32⟩
  | 66 => ⟨S_, .i32⟩
  | 67 => ⟨S32x8x64x4x128, .f32⟩
  | 68 => ⟨S32x8x64x4x128, .f32⟩
  | 69 => ⟨S32x8x64x4x256, .f32⟩
  | 70 => ⟨S32x8x64x4x128, .f32⟩
  | 71 => ⟨S64x64, .i1⟩
  | 72 => ⟨S_, .i32⟩
  | 73 => ⟨S8x4x128x256, .f32⟩
  | 74 => ⟨S32x8x64x4x256, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x8x64x4x128, .f32⟩
  | 82 => ⟨S8x64x4x128, .f32⟩
  | 83 => ⟨S_, .i32⟩
  | 84 => ⟨S_, .i32⟩
  | 85 => ⟨S_, .i32⟩
  | 86 => ⟨S_, .i32⟩
  | 87 => ⟨S1x8x64x4x128, .f32⟩
  | 88 => ⟨S8x64x4x128, .f32⟩
  | 89 => ⟨S_, .i32⟩
  | 90 => ⟨S_, .i32⟩
  | 91 => ⟨S_, .i32⟩
  | 92 => ⟨S_, .i32⟩
  | 93 => ⟨S1x8x64x4x256, .f32⟩
  | 94 => ⟨S8x64x4x256, .f32⟩
  | 95 => ⟨S_, .i32⟩
  | 96 => ⟨S_, .i32⟩
  | 97 => ⟨S_, .i32⟩
  | 98 => ⟨S_, .i32⟩
  | 99 => ⟨S1x8x64x4x128, .f32⟩
  | 100 => ⟨S8x64x4x128, .f32⟩
  | 101 => ⟨S_, .f32⟩
  | 102 => ⟨S_, .f32⟩
  | 103 => ⟨S8x64x4x128, .f32⟩
  | 104 => ⟨S8x1x4x128, .f32⟩
  | 105 => ⟨S8x4x128, .f32⟩
  | 106 => ⟨S8x64x4x128, .f32⟩
  | 107 => ⟨S8x64x4x128, .f32⟩
  | 108 => ⟨S8x64x4x128, .f32⟩
  | 109 => ⟨S8x64x4x128, .f32⟩
  | 110 => ⟨S8x64x4x128, .f32⟩
  | 111 => ⟨S8x4x64x64, .f32⟩
  | 112 => ⟨S_, .f32⟩
  | 113 => ⟨S_, .f32⟩
  | 114 => ⟨S8x4x64x64, .i1⟩
  | 115 => ⟨S8x4x64x64, .f32⟩
  | 116 => ⟨S8x4x64x64, .f32⟩
  | 117 => ⟨S8x4x256x64, .f32⟩
  | 118 => ⟨S8x64x4x256, .f32⟩
  | 119 => ⟨S8x4x256x64, .f32⟩
  | 120 => ⟨S8x64x4x256, .f32⟩
  | 121 => ⟨S8x64x4x256, .f32⟩
  | 122 => ⟨S8x4x128, .f32⟩
  | 123 => ⟨S8x4x128x1, .f32⟩
  | 124 => ⟨S8x4x128x256, .f32⟩
  | 125 => ⟨S8x4x128x256, .f32⟩
  | 126 => ⟨S8x1x4x128, .f32⟩
  | 127 => ⟨S8x64x4x128, .f32⟩
  | _ => ⟨S16384x7168, .bf16⟩

abbrev hbmTy0_1 (i : Nat) : BufTy := match i % 128 with
  | 0 => ⟨S8x64x4x128, .f32⟩
  | 1 => ⟨S8x64x4x128, .f32⟩
  | 2 => ⟨S8x64x4x128, .f32⟩
  | 3 => ⟨S8x4x128x256, .f32⟩
  | 4 => ⟨S8x4x128x256, .f32⟩
  | 5 => ⟨S1x8x64x4x256, .f32⟩
  | 6 => ⟨S_, .i32⟩
  | 7 => ⟨S_, .i32⟩
  | 8 => ⟨S_, .i32⟩
  | 9 => ⟨S_, .i32⟩
  | 10 => ⟨S32x8x64x4x256, .f32⟩
  | 11 => ⟨S_, .i32⟩
  | 12 => ⟨S_, .i32⟩
  | 13 => ⟨S8x32x64x4x256, .f32⟩
  | 14 => ⟨S8x2048x4x256, .f32⟩
  | 15 => ⟨S4x256, .f32⟩
  | 16 => ⟨S8x2048x4x256, .f32⟩
  | 17 => ⟨S_, .f32⟩
  | 18 => ⟨S8x2048x4, .f32⟩
  | 19 => ⟨S8x2048x4x1, .f32⟩
  | 20 => ⟨S_, .f32⟩
  | 21 => ⟨S8x2048x4x1, .f32⟩
  | 22 => ⟨S8x2048x4x1, .f32⟩
  | 23 => ⟨S_, .f32⟩
  | 24 => ⟨S8x2048x4x1, .f32⟩
  | 25 => ⟨S8x2048x4x1, .f32⟩
  | 26 => ⟨S8x2048x4x1, .f32⟩
  | 27 => ⟨S8x2048x4x256, .f32⟩
  | 28 => ⟨S8x2048x4x256, .f32⟩
  | 29 => ⟨S1x1x4x256, .f32⟩
  | 30 => ⟨S8x2048x4x256, .f32⟩
  | 31 => ⟨S8x2048x4x256, .f32⟩
  | 32 => ⟨S8x2048x4x256, .f32⟩
  | 33 => ⟨S8x2048x4x256, .f32⟩
  | 34 => ⟨S8x2048x4x256, .f32⟩
  | 35 => ⟨S_, .f32⟩
  | 36 => ⟨S8x2048x4x256, .f32⟩
  | 37 => ⟨S8x2048x4x256, .f32⟩
  | 38 => ⟨S_, .f32⟩
  | 39 => ⟨S8x2048x4x256, .f32⟩
  | 40 => ⟨S8x2048x4x256, .f32⟩
  | 41 => ⟨S8x2048x4x256, .f32⟩
  | 42 => ⟨S8x2048x4x256, .f32⟩
  | 43 => ⟨S16384x1024, .f32⟩
  | 44 => ⟨S16384x1024, .bf16⟩
  | _ => ⟨S16384x7168, .bf16⟩

abbrev hbmTy (i : Nat) : BufTy := match i / 128 with
  | 0 => hbmTy0_0 i
  | 1 => hbmTy0_1 i
  | _ => ⟨S16384x7168, .bf16⟩

abbrev bufTy : (tb : Table) → Fin (tcTables nBuf tb) → BufTy
  | .hbm, ⟨i, _⟩ => hbmTy i
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_0 : Ref sig .tc := ⟨.hbm, 51, rfl⟩
abbrev main_call1_v5 : Ref sig .tc := ⟨.hbm, 52, rfl⟩
abbrev main_v22 : Ref sig .tc := ⟨.hbm, 53, rfl⟩
abbrev main_cst_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_2 : Ref sig .tc := ⟨.hbm, 64, rfl⟩
abbrev main_v32 : Ref sig .tc := ⟨.hbm, 65, rfl⟩
abbrev main_c_3 : Ref sig .tc := ⟨.hbm, 66, rfl⟩
abbrev main_v33_0 : Ref sig .tc := ⟨.hbm, 67, rfl⟩
abbrev main_v33_1 : Ref sig .tc := ⟨.hbm, 68, rfl⟩
abbrev main_v33_2 : Ref sig .tc := ⟨.hbm, 69, rfl⟩
abbrev main_v33_3 : Ref sig .tc := ⟨.hbm, 70, rfl⟩
abbrev main_v33_4 : Ref sig .tc := ⟨.hbm, 71, rfl⟩
abbrev main_v33_5 : Ref sig .tc := ⟨.hbm, 72, rfl⟩
abbrev main_v33_6 : Ref sig .tc := ⟨.hbm, 73, rfl⟩
abbrev main_v33_7 : Ref sig .tc := ⟨.hbm, 74, rfl⟩
abbrev main_while0c_c_14 : Ref sig .tc := ⟨.hbm, 75, rfl⟩
abbrev main_while0c_v55 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v55 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v56 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v57 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v58 : Ref sig .tc := ⟨.hbm, 100, rfl⟩
abbrev main_while0b_call6_call0_cst : Ref sig .tc := ⟨.hbm, 101, rfl⟩
abbrev main_while0b_call6_call0_v0 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_v63 : Ref sig .tc := ⟨.hbm, 107, rfl⟩
abbrev main_while0b_v64 : Ref sig .tc := ⟨.hbm, 108, rfl⟩
abbrev main_while0b_v65 : Ref sig .tc := ⟨.hbm, 109, rfl⟩
abbrev main_while0b_v66 : Ref sig .tc := ⟨.hbm, 110, rfl⟩
abbrev main_while0b_v67 : Ref sig .tc := ⟨.hbm, 111, rfl⟩
abbrev main_while0b_cst_14 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_v68 : Ref sig .tc := ⟨.hbm, 116, rfl⟩
abbrev main_while0b_v69 : Ref sig .tc := ⟨.hbm, 117, rfl⟩
abbrev main_while0b_v70 : Ref sig .tc := ⟨.hbm, 118, rfl⟩
abbrev main_while0b_v71 : Ref sig .tc := ⟨.hbm, 119, rfl⟩
abbrev main_while0b_v72 : Ref sig .tc := ⟨.hbm, 120, rfl⟩
abbrev main_while0b_v73 : Ref sig .tc := ⟨.hbm, 121, rfl⟩
abbrev main_while0b_v74 : Ref sig .tc := ⟨.hbm, 122, rfl⟩
abbrev main_while0b_v75 : Ref sig .tc := ⟨.hbm, 123, rfl⟩
abbrev main_while0b_v76 : Ref sig .tc := ⟨.hbm, 124, rfl⟩
abbrev main_while0b_v77 : Ref sig .tc := ⟨.hbm, 125, rfl⟩
abbrev main_while0b_v78 : Ref sig .tc := ⟨.hbm, 126, rfl⟩
abbrev main_while0b_v79 : Ref sig .tc := ⟨.hbm, 127, rfl⟩
abbrev main_while0b_v80 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_v84 : Ref sig .tc := ⟨.hbm, 132, rfl⟩
abbrev main_while0b_call8_v0 : Ref sig .tc := ⟨.hbm, 133, rfl⟩
abbrev main_while0b_call8_c : Ref sig .tc := ⟨.hbm, 134, rfl⟩
abbrev main_while0b_call8_c_0 : Ref sig .tc := ⟨.hbm, 135, rfl⟩
abbrev main_while0b_call8_c_1 : Ref sig .tc := ⟨.hbm, 136, rfl⟩
abbrev main_while0b_call8_c_2 : Ref sig .tc := ⟨.hbm, 137, rfl⟩
abbrev main_while0b_v85 : Ref sig .tc := ⟨.hbm, 138, rfl⟩
abbrev main_while0b_c_15 : Ref sig .tc := ⟨.hbm, 139, rfl⟩
abbrev main_while0b_v86 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_cst_4 : Ref sig .tc := ⟨.hbm, 145, rfl⟩
abbrev main_v38 : Ref sig .tc := ⟨.hbm, 146, rfl⟩
abbrev main_v39 : Ref sig .tc := ⟨.hbm, 147, rfl⟩
abbrev main_cst_5 : Ref sig .tc := ⟨.hbm, 148, rfl⟩
abbrev main_v40 : Ref sig .tc := ⟨.hbm, 149, rfl⟩
abbrev main_v41 : Ref sig .tc := ⟨.hbm, 150, rfl⟩
abbrev main_cst_6 : Ref sig .tc := ⟨.hbm, 151, rfl⟩
abbrev main_v42 : Ref sig .tc := ⟨.hbm, 152, rfl⟩
abbrev main_v43 : Ref sig .tc := ⟨.hbm, 153, rfl⟩
abbrev main_v44 : Ref sig .tc := ⟨.hbm, 154, rfl⟩
abbrev main_v45 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_call9_v0 : Ref sig .tc := ⟨.hbm, 161, rfl⟩
abbrev main_call9_v1 : Ref sig .tc := ⟨.hbm, 162, rfl⟩
abbrev main_call9_cst : Ref sig .tc := ⟨.hbm, 163, rfl⟩
abbrev main_call9_v2 : Ref sig .tc := ⟨.hbm, 164, rfl⟩
abbrev main_call9_v3 : Ref sig .tc := ⟨.hbm, 165, rfl⟩
abbrev main_call9_cst_0 : Ref sig .tc := ⟨.hbm, 166, rfl⟩
abbrev main_call9_v4 : Ref sig .tc := ⟨.hbm, 167, rfl⟩
abbrev main_call9_v5 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩

abbrev nD : Nat := 1
abbrev τ : Topo := Topo.v7x

variable {F : FTy → Type} [FloatOps F]

abbrev main_while0_count : Scf.Loop 32 := ⟨0#32, 32#32, 1#32⟩
-- ==== Ret.lean ====
abbrev S16384x7168 : Shape := ⟨2, ![16384, 7168]⟩
abbrev S8x2048 : Shape := ⟨2, ![8, 2048]⟩
abbrev S1024 : Shape := ⟨1, ![1024]⟩
abbrev S_ : Shape := ⟨0, ![]⟩
abbrev S127 : Shape := ⟨1, ![127]⟩
abbrev S1 : Shape := ⟨1, ![1]⟩
abbrev S128 : Shape := ⟨1, ![128]⟩
abbrev S1x128 : Shape := ⟨2, ![1, 128]⟩
abbrev S4 : Shape := ⟨1, ![4]⟩
abbrev S4x1x1 : Shape := ⟨3, ![4, 1, 1]⟩
abbrev S4x8x128 : Shape := ⟨3, ![4, 8, 128]⟩
abbrev S8x2048x1 : Shape := ⟨3, ![8, 2048, 1]⟩
abbrev S1x1024 : Shape := ⟨2, ![1, 1024]⟩
abbrev S16384x1024 : Shape := ⟨2, ![16384, 1024]⟩
abbrev S1x2048x1 : Shape := ⟨3, ![1, 2048, 1]⟩
abbrev S1x8x128 : Shape := ⟨3, ![1, 8, 128]⟩
abbrev S2048x256 : Shape := ⟨2, ![2048, 256]⟩
abbrev S1x256 : Shape := ⟨2, ![1, 256]⟩
abbrev S256x256 : Shape := ⟨2, ![256, 256]⟩
abbrev S1x1x1 : Shape := ⟨3, ![1, 1, 1]⟩
abbrev S1x1 : Shape := ⟨2, ![1, 1]⟩
abbrev S256x1 : Shape := ⟨2, ![256, 1]⟩
abbrev S1x256x1 : Shape := ⟨3, ![1, 256, 1]⟩
abbrev S256x128 : Shape := ⟨2, ![256, 128]⟩
abbrev S256 : Shape := ⟨1, ![256]⟩

abbrev nBuf : Space → Nat
  | .hbm => 48
  | .vmem => 18
  | .smem => 0
  | _ => 0

abbrev bufTy : (tb : Table) → Fin (tcTables nBuf tb) → BufTy
  | .hbm, ⟨0, _⟩ => ⟨S16384x7168, .bf16⟩
  | .hbm, ⟨1, _⟩ => ⟨S8x2048, .i32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S_, .f32⟩
  | .hbm, ⟨12, _⟩ => ⟨S127, .f32⟩
  | .hbm, ⟨13, _⟩ => ⟨S127, .f32⟩
  | .hbm, ⟨14, _⟩ => ⟨S1, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4x1x1, .f32⟩
  | .hbm, ⟨44, _⟩ => ⟨S4x8x128, .f32⟩
  | .hbm, ⟨45, _⟩ => ⟨S8x2048x1, .i32⟩
  | .hbm, ⟨46, _⟩ => ⟨S1x1024, .f32⟩
  | .hbm, ⟨47, _⟩ => ⟨S16384x1024, .bf16⟩
  | .local _ .vmem, ⟨0, _⟩ => ⟨S1x2048x1, .i32⟩
  | .local _ .vmem, ⟨1, _⟩ => ⟨S1x2048x1, .i32⟩
  | .local _ .vmem, ⟨2, _⟩ => ⟨S1x128, .f32⟩
  | .local _ .vmem, ⟨3, _⟩ => ⟨S1x8x128, .f32⟩
  | .local _ .vmem, ⟨4, _⟩ => ⟨S1x8x128, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S1x256, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S256x256, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_cst_1 : Ref sig .tc := ⟨.hbm, 26, rfl⟩
abbrev main_v1 : Ref sig .tc := ⟨.hbm, 27, rfl⟩
abbrev main_v2 : Ref sig .tc := ⟨.hbm, 28, rfl⟩
abbrev main_cst_2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_3 : Ref sig .tc := ⟨.hbm, 34, rfl⟩
abbrev main_v7 : Ref sig .tc := ⟨.hbm, 35, rfl⟩
abbrev main_v8 : Ref sig .tc := ⟨.hbm, 36, rfl⟩
abbrev main_cst_4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v34 : BitVec 32 := Scalar.addi c0_i32 c8_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v35 : BitVec 32 := Scalar.muli arg12 c256_i32
  v35
def k0_off1 (k0_t1 : Fin k0_t1_loop.trips) : Fin 3 → Nat :=
  let c0_11 : Index := 0#32
  let c0_i32 : BitVec 32 := 0#32
  let c1_i32 : BitVec 32 := 1#32
  let arg12 : BitVec 32 := Scf.iv c0_i32 c1_i32 k0_t1
  let c256_i32 : BitVec 32 := 256#32
  let v35 : BitVec 32 := Scalar.muli arg12 c256_i32
  let v36 : BitVec 32 := v35
  let v37 : Index := Scalar.indexCast v36
  let c0_12 : Index := 0#32
  ![0, v37.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v35 : BitVec 32 := Scalar.muli arg12 c256_i32
  let v36 : BitVec 32 := v35
  let v48 : Index := Scalar.indexCast v36
  let c0_15 : Index := 0#32
  ![v48.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetRefIdeal.lean ====
abbrev S16384x7168 : Shape := ⟨2, ![16384, 7168]⟩
abbrev S8x2048 : Shape := ⟨2, ![8, 2048]⟩
abbrev S1024 : Shape := ⟨1, ![1024]⟩
abbrev S8x2048x7168 : Shape := ⟨3, ![8, 2048, 7168]⟩
abbrev S8x2048x1024 : Shape := ⟨3, ![8, 2048, 1024]⟩
abbrev S8x2048x4x2x128 : Shape := ⟨5, ![8, 2048, 4, 2, 128]⟩
abbrev S8x2048x4x128x2 : Shape := ⟨5, ![8, 2048, 4, 128, 2]⟩
abbrev S8x2048x4x256 : Shape := ⟨4, ![8, 2048, 4, 256]⟩
abbrev S_ : Shape := ⟨0, ![]⟩
abbrev S127 : Shape := ⟨1, ![127]⟩
abbrev S1 : Shape := ⟨1, ![1]⟩
abbrev S128 : Shape := ⟨1, ![128]⟩
abbrev S8x2048x1 : Shape := ⟨3, ![8, 2048, 1]⟩
abbrev S1x1x128 : Shape := ⟨3, ![1, 1, 128]⟩
abbrev S8x2048x128 : Shape := ⟨3, ![8, 2048, 128]⟩
abbrev S8x2048x1x128 : Shape := ⟨4, ![8, 2048, 1, 128]⟩
abbrev S8x2048x4x128x1 : Shape := ⟨5, ![8, 2048, 4, 128, 1]⟩
abbrev S8x2048x4x128 : Shape := ⟨4, ![8, 2048, 4, 128]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S8x4x256x256 : Shape := ⟨4, ![8, 4, 256, 256]⟩
abbrev S8x32x64x4x256 : Shape := ⟨5, ![8, 32, 64, 4, 256]⟩
abbrev S32x8x64x4x256 : Shape := ⟨5, ![32, 8, 64, 4, 256]⟩
abbrev S1x8x64x4x256 : Shape := ⟨5, ![1, 8, 64, 4, 256]⟩
abbrev S8x64x4x256 : Shape := ⟨4, ![8, 64, 4, 256]⟩
abbrev S8x4x64x64 : Shape := ⟨4, ![8, 4, 64, 64]⟩
abbrev S1x4x64x64 : Shape := ⟨4, ![1, 4, 64, 64]⟩
abbrev S8x4x256x64 : Shape := ⟨4, ![8, 4, 256, 64]⟩
abbrev S64x4x1 : Shape := ⟨3, ![64, 4, 1]⟩
abbrev S1x64x4x1 : Shape := ⟨4, ![1, 64, 4, 1]⟩
abbrev S1x4x1x1 : Shape := ⟨4, ![1, 4, 1, 1]⟩
abbrev S4x256 : Shape := ⟨2, ![4, 256]⟩
abbrev S8x2048x4 : Shape := ⟨3, ![8, 2048, 4]⟩
abbrev S8x2048x4x1 : Shape := ⟨4, ![8, 2048, 4, 1]⟩
abbrev S1x1x4x256 : Shape := ⟨4, ![1, 1, 4, 256]⟩
abbrev S16384x1024 : Shape := ⟨2, ![16384, 1024]⟩

abbrev nBuf : Space → Nat
  | .hbm => 295
  | .vmem => 0
  | .smem => 0
  | _ => 0

abbrev hbmTy0_0 (i : Nat) : BufTy := match i % 128 with
  | 0 => ⟨S16384x7168, .bf16⟩
  | 1 => ⟨S8x2048, .i32⟩
  | 2 => ⟨S1024, .f32⟩
  | 3 => ⟨S16384x7168, .f32⟩
  | 4 => ⟨S8x2048x7168, .f32⟩
  | 5 => ⟨S8x2048x1024, .f32⟩
  | 6 => ⟨S8x2048x1024, .f32⟩
  | 7 => ⟨S8x2048x1024, .f32⟩
  | 8 => ⟨S8x2048x1024, .f32⟩
  | 9 => ⟨S8x2048x4x2x128, .f32⟩
  | 10 => ⟨S8x2048x4x128x2, .f32⟩
  | 11 => ⟨S8x2048x4x256, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S127, .f32⟩
  | 20 => ⟨S_, .f32⟩
  | 21 => ⟨S127, .f32⟩
  | 22 => ⟨S127, .f32⟩
  | 23 => ⟨S1, .f32⟩
  | 24 => ⟨S_, .f32⟩
  | 25 => ⟨S127, .f32⟩
  | 26 => ⟨S127, .f32⟩
  | 27 => ⟨S127, .f32⟩
  | 28 => ⟨S127, .f32⟩
  | 29 => ⟨S1, .f32⟩
  | 30 => ⟨S127, .f32⟩
  | 31 => ⟨S127, .f32⟩
  | 32 => ⟨S127, .f32⟩
  | 33 => ⟨S1, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S8x2048, .f32⟩
  | 42 => ⟨S8x2048x1, .f32⟩
  | 43 => ⟨S1x1x128, .f32⟩
  | 44 => ⟨S8x2048x128, .f32⟩
  | 45 => ⟨S8x2048x128, .f32⟩
  | 46 => ⟨S8x2048x128, .f32⟩
  | 47 => ⟨S8x2048x128, .f32⟩
  | 48 => ⟨S8x2048x1x128, .f32⟩
  | 49 => ⟨S8x2048x128, .f32⟩
  | 50 => ⟨S8x2048x1x128, .f32⟩
  | 51 => ⟨S8x2048x4x128x2, .f32⟩
  | 52 => ⟨S8x2048x4x128x1, .f32⟩
  | 53 => ⟨S8x2048x4x128, .f32⟩
  | 54 => ⟨S8x2048x4x128x1, .f32⟩
  | 55 => ⟨S8x2048x4x128, .f32⟩
  | 56 => ⟨S8x2048x4x128, .f32⟩
  | 57 => ⟨S8x2048x4x128, .f32⟩
  | 58 => ⟨S8x2048x4x128, .f32⟩
  | 59 => ⟨S8x2048x4x128, .f32⟩
  | 60 => ⟨S8x2048x4x128, .f32⟩
  | 61 => ⟨S8x2048x4x128, .f32⟩
  | 62 => ⟨S8x2048x4x128, .f32⟩
  | 63 => ⟨S8x2048x4x128, .f32⟩
  | 64 => ⟨S8x2048x4x128, .f32⟩
  | 65 => ⟨S8x2048x4x128, .f32⟩
  | 66 => ⟨S8x2048x4x128x1, .f32⟩
  | 67 => ⟨S8x2048x4x128x1, .f32⟩
  | 68 => ⟨S8x2048x4x128x2, .f32⟩
  | 69 => ⟨S8x2048x4x256, .f32⟩
  | 70 => ⟨S8x2048x4x2x128, .f32⟩
  | 71 => ⟨S8x2048x4x128x2, .f32⟩
  | 72 => ⟨S8x2048x4x256, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S127, .f32⟩
  | 81 => ⟨S_, .f32⟩
  | 82 => ⟨S127, .f32⟩
  | 83 => ⟨S127, .f32⟩
  | 84 => ⟨S1, .f32⟩
  | 85 => ⟨S_, .f32⟩
  | 86 => ⟨S127, .f32⟩
  | 87 => ⟨S127, .f32⟩
  | 88 => ⟨S127, .f32⟩
  | 89 => ⟨S127, .f32⟩
  | 90 => ⟨S1, .f32⟩
  | 91 => ⟨S127, .f32⟩
  | 92 => ⟨S127, .f32⟩
  | 93 => ⟨S127, .f32⟩
  | 94 => ⟨S1, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S8x2048, .f32⟩
  | 103 => ⟨S8x2048x1, .f32⟩
  | 104 => ⟨S1x1x128, .f32⟩
  | 105 => ⟨S8x2048x128, .f32⟩
  | 106 => ⟨S8x2048x128, .f32⟩
  | 107 => ⟨S8x2048x128, .f32⟩
  | 108 => ⟨S8x2048x128, .f32⟩
  | 109 => ⟨S8x2048x1x128, .f32⟩
  | 110 => ⟨S8x2048x128, .f32⟩
  | 111 => ⟨S8x2048x1x128, .f32⟩
  | 112 => ⟨S8x2048x4x128x2, .f32⟩
  | 113 => ⟨S8x2048x4x128x1, .f32⟩
  | 114 => ⟨S8x2048x4x128, .f32⟩
  | 115 => ⟨S8x2048x4x128x1, .f32⟩
  | 116 => ⟨S8x2048x4x128, .f32⟩
  | 117 => ⟨S8x2048x4x128, .f32⟩
  | 118 => ⟨S8x2048x4x128, .f32⟩
  | 119 => ⟨S8x2048x4x128, .f32⟩
  | 120 => ⟨S8x2048x4x128, .f32⟩
  | 121 => ⟨S8x2048x4x128, .f32⟩
  | 122 => ⟨S8x2048x4x128, .f32⟩
  | 123 => ⟨S8x2048x4x128, .f32⟩
  | 124 => ⟨S8x2048x4x128, .f32⟩
  | 125 => ⟨S8x2048x4x128, .f32⟩
  | 126 => ⟨S8x2048x4x128, .f32⟩
  | 127 => ⟨S8x2048x4x128x1, .f32⟩
  | _ => ⟨S16384x7168, .bf16⟩

abbrev hbmTy0_1 (i : Nat) : BufTy := match i % 128 with
  | 0 => ⟨S8x2048x4x128x1, .f32⟩
  | 1 => ⟨S8x2048x4x128x2, .f32⟩
  | 2 => ⟨S8x2048x4x256, .f32⟩
  | 3 => ⟨S8x2048x4x256, .f32⟩
  | 4 => ⟨S4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S4, .f32⟩
  | 12 => ⟨S4, .f32⟩
  | 13 => ⟨S4, .f32⟩
  | 14 => ⟨S64, .f32⟩
  | 15 => ⟨S64x1, .f32⟩
  | 16 => ⟨S1x64, .f32⟩
  | 17 => ⟨S64x64, .f32⟩
  | 18 => ⟨S64x64, .f32⟩
  | 19 => ⟨S64x64, .f32⟩
  | 20 => ⟨S1x64x64, .f32⟩
  | 21 => ⟨S_, .f32⟩
  | 22 => ⟨S1x64x64, .f32⟩
  | 23 => ⟨S1x64x64, .i1⟩
  | 24 => ⟨S_, .f32⟩
  | 25 => ⟨S64x64, .f32⟩
  | 26 => ⟨S64x64, .f32⟩
  | 27 => ⟨S1x64x64, .f32⟩
  | 28 => ⟨S4x1x1, .f32⟩
  | 29 => ⟨S4x64x64, .f32⟩
  | 30 => ⟨S4x64x64, .f32⟩
  | 31 => ⟨S4x64x64, .f32⟩
  | 32 => ⟨S4x64x64, .f32⟩
  | 33 => ⟨S_, .f32⟩
  | 34 => ⟨S_, .f32⟩
  | 35 => ⟨S4x64x64, .i1⟩
  | 36 => ⟨S4x64x64, .f32⟩
  | 37 => ⟨S4x64x64, .f32⟩
  | 38 => ⟨S_, .f32⟩
  | 39 => ⟨S64, .f32⟩
  | 40 => ⟨S64, .f32⟩
  | 41 => ⟨S64x1, .f32⟩
  | 42 => ⟨S1x4, .f32⟩
  | 43 => ⟨S64x4, .f32⟩
  | 44 => ⟨S64x4, .f32⟩
  | 45 => ⟨S64x4, .f32⟩
  | 46 => ⟨S64x4, .f32⟩
  | 47 => ⟨S_, .f32⟩
  | 48 => ⟨S64, .f32⟩
  | 49 => ⟨S64, .f32⟩
  | 50 => ⟨S64x1, .f32⟩
  | 51 => ⟨S1x4, .f32⟩
  | 52 => ⟨S64x4, .f32⟩
  | 53 => ⟨S64x4, .f32⟩
  | 54 => ⟨S64x4, .f32⟩
  | 55 => ⟨S64x4, .f32⟩
  | 56 => ⟨S_, .f32⟩
  | 57 => ⟨S4, .f32⟩
  | 58 => ⟨S4, .f32⟩
  | 59 => ⟨S4, .f32⟩
  | 60 => ⟨S_, .f32⟩
  | 61 => ⟨S8x2048x4x256, .f32⟩
  | 62 => ⟨S8x2048x4x256, .f32⟩
  | 63 => ⟨S_, .f32⟩
  | 64 => ⟨S8x4x256x256, .f32⟩
  | 65 => ⟨S8x32x64x4x256, .f32⟩
  | 66 => ⟨S32x8x64x4x256, .f32⟩
  | 67 => ⟨S8x32x64x4x256, .f32⟩
  | 68 => ⟨S32x8x64x4x256, .f32⟩
  | 69 => ⟨S8x32x64x4x256, .f32⟩
  | 70 => ⟨S32x8x64x4x256, .f32⟩
  | 71 => ⟨S_, .f32⟩
  | 72 => ⟨S32x8x64x4x256, .f32⟩
  | 73 => ⟨S_, .i32⟩
  | 74 => ⟨S32x8x64x4x256, .f32⟩
  | 75 => ⟨S32x8x64x4x256, .f32⟩
  | 76 => ⟨S32x8x64x4x256, .f32⟩
  | 77 => ⟨S4x64x64, .f32⟩
  | 78 => ⟨S64x4, .f32⟩
  | 79 => ⟨S4, .f32⟩
  | 80 => ⟨S64x4, .f32⟩
  | 81 => ⟨S_, .i32⟩
  | 82 => ⟨S8x4x256x256, .f32⟩
  | 83 => ⟨S32x8x64x4x256, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1x8x64x4x256, .f32⟩
  | 91 => ⟨S8x64x4x256, .f32⟩
  | 92 => ⟨S_, .i32⟩
  | 93 => ⟨S_, .i32⟩
  | 94 => ⟨S_, .i32⟩
  | 95 => ⟨S_, .i32⟩
  | 96 => ⟨S1x8x64x4x256, .f32⟩
  | 97 => ⟨S8x64x4x256, .f32⟩
  | 98 => ⟨S_, .i32⟩
  | 99 => ⟨S_, .i32⟩
  | 100 => ⟨S_, .i32⟩
  | 101 => ⟨S_, .i32⟩
  | 102 => ⟨S1x8x64x4x256, .f32⟩
  | 103 => ⟨S8x64x4x256, .f32⟩
  | 104 => ⟨S8x4x64x64, .f32⟩
  | 105 => ⟨S1x4x64x64, .f32⟩
  | 106 => ⟨S8x4x64x64, .f32⟩
  | 107 => ⟨S8x4x64x64, .f32⟩
  | 108 => ⟨S8x4x256x64, .f32⟩
  | 109 => ⟨S8x64x4x256, .f32⟩
  | 110 => ⟨S64x4x1, .f32⟩
  | 111 => ⟨S1x64x4x1, .f32⟩
  | 112 => ⟨S8x64x4x256, .f32⟩
  | 113 => ⟨S8x64x4x256, .f32⟩
  | 114 => ⟨S8x4x256x64, .f32⟩
  | 115 => ⟨S8x64x4x256, .f32⟩
  | 116 => ⟨S8x64x4x256, .f32⟩
  | 117 => ⟨S4x1x1, .f32⟩
  | 118 => ⟨S1x4x1x1, .f32⟩
  | 119 => ⟨S8x4x256x256, .f32⟩
  | 120 => ⟨S8x4x256x256, .f32⟩
  | 121 => ⟨S64x4x1, .f32⟩
  | 122 => ⟨S1x64x4x1, .f32⟩
  | 123 => ⟨S8x64x4x256, .f32⟩
  | 124 => ⟨S8x64x4x256, .f32⟩
  | 125 => ⟨S8x4x256x256, .f32⟩
  | 126 => ⟨S8x4x256x256, .f32⟩
  | 127 => ⟨S1x8x64x4x256, .f32⟩
  | _ => ⟨S16384x7168, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S32x8x64x4x256, .f32⟩
  | 5 => ⟨S_, .i32⟩
  | 6 => ⟨S_, .i32⟩
  | 7 => ⟨S8x32x64x4x256, .f32⟩
  | 8 => ⟨S8x2048x4x256, .f32⟩
  | 9 => ⟨S4x256, .f32⟩
  | 10 => ⟨S8x2048x4x256, .f32⟩
  | 11 => ⟨S_, .f32⟩
  | 12 => ⟨S8x2048x4, .f32⟩
  | 13 => ⟨S8x2048x4x1, .f32⟩
  | 14 => ⟨S_, .f32⟩
  | 15 => ⟨S8x2048x4x1, .f32⟩
  | 16 => ⟨S8x2048x4x1, .f32⟩
  | 17 => ⟨S_, .f32⟩
  | 18 => ⟨S8x2048x4x1, .f32⟩
  | 19 => ⟨S8x2048x4x1, .f32⟩
  | 20 => ⟨S8x2048x4x1, .f32⟩
  | 21 => ⟨S8x2048x4x256, .f32⟩
  | 22 => ⟨S8x2048x4x256, .f32⟩
  | 23 => ⟨S1x1x4x256, .f32⟩
  | 24 => ⟨S8x2048x4x256, .f32⟩
  | 25 => ⟨S8x2048x4x256, .f32⟩
  | 26 => ⟨S8x2048x4x256, .f32⟩
  | 27 => ⟨S8x2048x4x256, .f32⟩
  | 28 => ⟨S8x2048x4x256, .f32⟩
  | 29 => ⟨S_, .f32⟩
  | 30 => ⟨S8x2048x4x256, .f32⟩
  | 31 => ⟨S8x2048x4x256, .f32⟩
  | 32 => ⟨S_, .f32⟩
  | 33 => ⟨S8x2048x4x256, .f32⟩
  | 34 => ⟨S8x2048x4x256, .f32⟩
  | 35 => ⟨S8x2048x4x256, .f32⟩
  | 36 => ⟨S8x2048x4x256, .f32⟩
  | 37 => ⟨S16384x1024, .f32⟩
  | 38 => ⟨S16384x1024, .bf16⟩
  | _ => ⟨S16384x7168, .bf16⟩

abbrev hbmTy (i : Nat) : BufTy := match i / 128 with
  | 0 => hbmTy0_0 i
  | 1 => hbmTy0_1 i
  | 2 => hbmTy0_2 i
  | _ => ⟨S16384x7168, .bf16⟩

abbrev bufTy : (tb : Table) → Fin (tcTables nBuf tb) → BufTy
  | .hbm, ⟨i, _⟩ => hbmTy i
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_cst_4 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_cst : Ref sig .tc := ⟨.hbm, 78, rfl⟩
abbrev main_call1_v3 : Ref sig .tc := ⟨.hbm, 79, rfl⟩
abbrev main_call1_v4 : Ref sig .tc := ⟨.hbm, 80, rfl⟩
abbrev main_call1_cst_0 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_v15 : Ref sig .tc := ⟨.hbm, 93, rfl⟩
abbrev main_call1_v16 : Ref sig .tc := ⟨.hbm, 94, rfl⟩
abbrev main_v46 : Ref sig .tc := ⟨.hbm, 95, rfl⟩
abbrev main_cst_5 : Ref sig .tc := ⟨.hbm, 96, rfl⟩
abbrev main_v47 : Ref sig .tc := ⟨.hbm, 97, rfl⟩
abbrev main_v48 : Ref sig .tc := ⟨.hbm, 98, rfl⟩
abbrev main_cst_6 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_7 : Ref sig .tc := ⟨.hbm, 133, rfl⟩
abbrev main_v82 : Ref sig .tc := ⟨.hbm, 134, rfl⟩
abbrev main_v83 : Ref sig .tc := ⟨.hbm, 135, rfl⟩
abbrev main_cst_8 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_9 : Ref sig .tc := ⟨.hbm, 149, rfl⟩
abbrev main_v96 : Ref sig .tc := ⟨.hbm, 150, rfl⟩
abbrev main_v97 : Ref sig .tc := ⟨.hbm, 151, rfl⟩
abbrev main_cst_10 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_11 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v106 : Ref sig .tc := ⟨.hbm, 165, rfl⟩
abbrev main_cst_12 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_13 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_14 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_15 : Ref sig .tc := ⟨.hbm, 188, rfl⟩
abbrev main_v126 : Ref sig .tc := ⟨.hbm, 189, rfl⟩
abbrev main_v127 : Ref sig .tc := ⟨.hbm, 190, rfl⟩
abbrev main_cst_16 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_17 : Ref sig .tc := ⟨.hbm, 199, rfl⟩
abbrev main_v135 : Ref sig .tc := ⟨.hbm, 200, rfl⟩
abbrev main_c : Ref sig .tc := ⟨.hbm, 201, rfl⟩
abbrev main_v136_0 : Ref sig .tc := ⟨.hbm, 202, rfl⟩
abbrev main_v136_1 : Ref sig .tc := ⟨.hbm, 203, rfl⟩
abbrev main_v136_2 : Ref sig .tc := ⟨.hbm, 204, rfl⟩
abbrev main_v136_3 : Ref sig .tc := ⟨.hbm, 205, rfl⟩
abbrev main_v136_4 : Ref sig .tc := ⟨.hbm, 206, rfl⟩
abbrev main_v136_5 : Ref sig .tc := ⟨.hbm, 207, rfl⟩
abbrev main_v136_6 : Ref sig .tc := ⟨.hbm, 208, rfl⟩
abbrev main_v136_7 : Ref sig .tc := ⟨.hbm, 209, rfl⟩
abbrev main_v136_8 : Ref sig .tc := ⟨.hbm, 210, rfl⟩
abbrev main_v136_9 : Ref sig .tc := ⟨.hbm, 211, rfl⟩
abbrev main_while0c_c_30 : Ref sig .tc := ⟨.hbm, 212, rfl⟩
abbrev main_while0c_v158 : Ref sig .tc := ⟨.hbm, 213, rfl⟩
abbrev main_while0b_call3_c : Ref sig .tc := ⟨.hbm, 214, rfl⟩
abbrev main_while0b_call3_c_0 : Ref sig .tc := ⟨.hbm, 215, rfl⟩
abbrev main_while0b_call3_c_1 : Ref sig .tc := ⟨.hbm, 216, rfl⟩
abbrev main_while0b_call3_c_2 : Ref sig .tc := ⟨.hbm, 217, rfl⟩
abbrev main_while0b_call3_v0 : Ref sig .tc := ⟨.hbm, 218, rfl⟩
abbrev main_while0b_v158 : Ref sig .tc := ⟨.hbm, 219, rfl⟩
abbrev main_while0b_call4_c : Ref sig .tc := ⟨.hbm, 220, rfl⟩
abbrev main_while0b_call4_c_0 : Ref sig .tc := ⟨.hbm, 221, rfl⟩
abbrev main_while0b_call4_c_1 : Ref sig .tc := ⟨.hbm, 222, rfl⟩
abbrev main_while0b_call4_c_2 : Ref sig .tc := ⟨.hbm, 223, rfl⟩
abbrev main_while0b_call4_v0 : Ref sig .tc := ⟨.hbm, 224, rfl⟩
abbrev main_while0b_v159 : Ref sig .tc := ⟨.hbm, 225, rfl⟩
abbrev main_while0b_call5_c : Ref sig .tc := ⟨.hbm, 226, rfl⟩
abbrev main_while0b_call5_c_0 : Ref sig .tc := ⟨.hbm, 227, rfl⟩
abbrev main_while0b_call5_c_1 : Ref sig .tc := ⟨.hbm, 228, rfl⟩
abbrev main_while0b_call5_c_2 : Ref sig .tc := ⟨.hbm, 229, rfl⟩
abbrev main_while0b_call5_v0 : Ref sig .tc := ⟨.hbm, 230, rfl⟩
abbrev main_while0b_v160 : Ref sig .tc := ⟨.hbm, 231, rfl⟩
abbrev main_while0b_v161 : Ref sig .tc := ⟨.hbm, 232, rfl⟩
abbrev main_while0b_v162 : Ref sig .tc := ⟨.hbm, 233, rfl⟩
abbrev main_while0b_v163 : Ref sig .tc := ⟨.hbm, 234, rfl⟩
abbrev main_while0b_v164 : Ref sig .tc := ⟨.hbm, 235, rfl⟩
abbrev main_while0b_v165 : Ref sig .tc := ⟨.hbm, 236, rfl⟩
abbrev main_while0b_v166 : Ref sig .tc := ⟨.hbm, 237, rfl⟩
abbrev main_while0b_v167 : Ref sig .tc := ⟨.hbm, 238, rfl⟩
abbrev main_while0b_v168 : Ref sig .tc := ⟨.hbm, 239, rfl⟩
abbrev main_while0b_v169 : Ref sig .tc := ⟨.hbm, 240, rfl⟩
abbrev main_while0b_v170 : Ref sig .tc := ⟨.hbm, 241, rfl⟩
abbrev main_while0b_v171 : Ref sig .tc := ⟨.hbm, 242, rfl⟩
abbrev main_while0b_v172 : Ref sig .tc := ⟨.hbm, 243, rfl⟩
abbrev main_while0b_v173 : Ref sig .tc := ⟨.hbm, 244, rfl⟩
abbrev main_while0b_v174 : Ref sig .tc := ⟨.hbm, 245, rfl⟩
abbrev main_while0b_v175 : Ref sig .tc := ⟨.hbm, 246, rfl⟩
abbrev main_while0b_v176 : Ref sig .tc := ⟨.hbm, 247, rfl⟩
abbrev main_while0b_v177 : Ref sig .tc := ⟨.hbm, 248, rfl⟩
abbrev main_while0b_v178 : Ref sig .tc := ⟨.hbm, 249, rfl⟩
abbrev main_while0b_v179 : Ref sig .tc := ⟨.hbm, 250, rfl⟩
abbrev main_while0b_v180 : Ref sig .tc := ⟨.hbm, 251, rfl⟩
abbrev main_while0b_v181 : Ref sig .tc := ⟨.hbm, 252, rfl⟩
abbrev main_while0b_v182 : Ref sig .tc := ⟨.hbm, 253, rfl⟩
abbrev main_while0b_v183 : Ref sig .tc := ⟨.hbm, 254, rfl⟩
abbrev main_while0b_call6_v0 : Ref sig .tc := ⟨.hbm, 255, rfl⟩
abbrev main_while0b_call6_c : Ref sig .tc := ⟨.hbm, 256, rfl⟩
abbrev main_while0b_call6_c_0 : Ref sig .tc := ⟨.hbm, 257, rfl⟩
abbrev main_while0b_call6_c_1 : Ref sig .tc := ⟨.hbm, 258, rfl⟩
abbrev main_while0b_call6_c_2 : Ref sig .tc := ⟨.hbm, 259, rfl⟩
abbrev main_while0b_v184 : Ref sig .tc := ⟨.hbm, 260, rfl⟩
abbrev main_while0b_c_30 : Ref sig .tc := ⟨.hbm, 261, rfl⟩
abbrev main_while0b_v185 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_v140 : Ref sig .tc := ⟨.hbm, 266, rfl⟩
abbrev main_cst_18 : Ref sig .tc := ⟨.hbm, 267, rfl⟩
abbrev main_v141 : Ref sig .tc := ⟨.hbm, 268, rfl⟩
abbrev main_v142 : Ref sig .tc := ⟨.hbm, 269, rfl⟩
abbrev main_cst_19 : Ref sig .tc := ⟨.hbm, 270, rfl⟩
abbrev main_v143 : Ref sig .tc := ⟨.hbm, 271, rfl⟩
abbrev main_v144 : Ref sig .tc := ⟨.hbm, 272, rfl⟩
abbrev main_cst_20 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_call7_v0 : Ref sig .tc := ⟨.hbm, 283, rfl⟩
abbrev main_call7_v1 : Ref sig .tc := ⟨.hbm, 284, rfl⟩
abbrev main_call7_cst : Ref sig .tc := ⟨.hbm, 285, rfl⟩
abbrev main_call7_v2 : Ref sig .tc := ⟨.hbm, 286, rfl⟩
abbrev main_call7_v3 : Ref sig .tc := ⟨.hbm, 287, rfl⟩
abbrev main_call7_cst_0 : Ref sig .tc := ⟨.hbm, 288, rfl⟩
abbrev main_call7_v4 : Ref sig .tc := ⟨.hbm, 289, rfl⟩
abbrev main_call7_v5 : Ref sig .tc := ⟨.hbm, 290, rfl⟩
abbrev main_v154 : Ref sig .tc := ⟨.hbm, 291, rfl⟩
abbrev main_v155 : Ref sig .tc := ⟨.hbm, 292, rfl⟩
abbrev main_v156 : Ref sig .tc := ⟨.hbm, 293, rfl⟩
abbrev main_v157 : Ref sig .tc := ⟨.hbm, 294, rfl⟩

abbrev nD : Nat := 1
abbrev τ : Topo := Topo.v7x

variable {F : FTy → Type} [FloatOps F]

abbrev main_while0_count : Scf.Loop 32 := ⟨0#32, 32#32, 1#32⟩
-- ==== FfnUp.lean ====
abbrev S16384x2048 : Shape := ⟨2, ![16384, 2048]⟩
abbrev S2048 : Shape := ⟨1, ![2048]⟩
abbrev S2048x5632 : Shape := ⟨2, ![2048, 5632]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S1x2048, .f32⟩
  | .hbm, ⟨5, _⟩ => ⟨S2048x5632, .bf16⟩
  | .hbm, ⟨6, _⟩ => ⟨S2048x5632, .bf16⟩
  | .hbm, ⟨7, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32 : BitVec 32 := 8#32
  let v16 : BitVec 32 := Scalar.addi c0_i32_11 c8_i32
  let c1_i32 : BitVec 32 := 1#32
  ⟨c0_i32_11, v16, c1_i32⟩
def k0_mult1 (k0_t1 : Fin k0_t1_loop.trips) : BitVec 32 :=
  let c0_i32_11 : BitVec 32 := 0#32
  let c1_i32 : BitVec 32 := 1#32
  let arg8 : BitVec 32 := Scf.iv c0_i32_11 c1_i32 k0_t1
  let c128_i32 : BitVec 32 := 128#32
  let v17 : BitVec 32 := Scalar.muli arg8 c128_i32
  v17
def k0_off1 (k0_t1 : Fin k0_t1_loop.trips) : Fin 2 → Nat :=
  let c0_i32_11 : BitVec 32 := 0#32
  let c1_i32 : BitVec 32 := 1#32
  let arg8 : BitVec 32 := Scf.iv c0_i32_11 c1_i32 k0_t1
  let c128_i32 : BitVec 32 := 128#32
  let v17 : BitVec 32 := Scalar.muli arg8 c128_i32
  let v18 : BitVec 32 := v17
  let v19 : Index := Scalar.indexCast v18
  let c0_13 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S16384x2048 : Shape := ⟨2, ![16384, 2048]⟩
abbrev S2048 : Shape := ⟨1, ![2048]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S_, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== FfnDown.lean ====
abbrev S16384x5632 : Shape := ⟨2, ![16384, 5632]⟩
abbrev S5632x2048 : Shape := ⟨2, ![5632, 2048]⟩
abbrev S16384x2048 : Shape := ⟨2, ![16384, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S5632x2048, .bf16⟩
  | .hbm, ⟨4, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S16384x5632 : Shape := ⟨2, ![16384, 5632]⟩
abbrev S5632x2048 : Shape := ⟨2, ![5632, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S16384x5632, .f32⟩
  | .hbm, ⟨4, _⟩ => ⟨S16384x2048, .f32⟩
  | .hbm, ⟨5, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Input.lean ====
abbrev S16384x2048 : Shape := ⟨2, ![16384, 2048]⟩
abbrev S2048 : Shape := ⟨1, ![2048]⟩
abbrev S2048x7184 : Shape := ⟨2, ![2048, 7184]⟩
abbrev S2048x1024 : Shape := ⟨2, ![2048, 1024]⟩
abbrev S2048x4x128x2 : Shape := ⟨4, ![2048, 4, 128, 2]⟩
abbrev S2048x4x2x128 : Shape := ⟨4, ![2048, 4, 2, 128]⟩
abbrev S2048x5120 : Shape := ⟨2, ![2048, 5120]⟩
abbrev S2048x7168 : Shape := ⟨2, ![2048, 7168]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S16384x7168 : Shape := ⟨2, ![16384, 7168]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S128x2048 : Shape := ⟨2, ![128, 2048]⟩
abbrev S128 : Shape := ⟨1, ![128]⟩
abbrev S128x1 : Shape := ⟨2, ![128, 1]⟩

abbrev nBuf : Space → Nat
  | .hbm => 22
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S2048x1024, .f32⟩
  | .hbm, ⟨4, _⟩ => ⟨S2048x4x128x2, .f32⟩
  | .hbm, ⟨5, _⟩ => ⟨S2048x4x2x128, .f32⟩
  | .hbm, ⟨6, _⟩ => ⟨S2048x1024, .f32⟩
  | .hbm, ⟨7, _⟩ => ⟨S2048x1024, .f32⟩
  | .hbm, ⟨8, _⟩ => ⟨S2048x4x128x2, .f32⟩
  | .hbm, ⟨9, _⟩ => ⟨S2048x4x2x128, .f32⟩
  | .hbm, ⟨10, _⟩ => ⟨S2048x1024, .f32⟩
  | .hbm, ⟨11, _⟩ => ⟨S2048x5120, .f32⟩
  | .hbm, ⟨12, _⟩ => ⟨S2048x7168, .f32⟩
  | .hbm, ⟨13, _⟩ => ⟨S2048x7168, .bf16⟩
  | .hbm, ⟨14, _⟩ => ⟨S2048x16, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S1x2048, .f32⟩
  | .hbm, ⟨20, _⟩ => ⟨S16384x7168, .bf16⟩
  | .hbm, ⟨21, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c128_i32 : BitVec 32 := 128#32
  let v15 : BitVec 32 := Scalar.muli arg9 c128_i32
  v15
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c128_i32 : BitVec 32 := 128#32
  let v15 : BitVec 32 := Scalar.muli arg9 c128_i32
  let v16 : BitVec 32 := v15
  let v17 : Index := Scalar.indexCast v16
  let c0_15 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InputRefIdeal.lean ====
abbrev S16384x2048 : Shape := ⟨2, ![16384, 2048]⟩
abbrev S2048 : Shape := ⟨1, ![2048]⟩
abbrev S2048x7184 : Shape := ⟨2, ![2048, 7184]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7184 : Shape := ⟨2, ![16384, 7184]⟩
abbrev S16384x1024 : Shape := ⟨2, ![16384, 1024]⟩
abbrev S16384x5120 : Shape := ⟨2, ![16384, 5120]⟩
abbrev S16384x16 : Shape := ⟨2, ![16384, 16]⟩
abbrev S16384x4x128x2 : Shape := ⟨4, ![16384, 4, 128, 2]⟩
abbrev S16384x4x2x128 : Shape := ⟨4, ![16384, 4, 2, 128]⟩
abbrev S16384x7168 : Shape := ⟨2, ![16384, 7168]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7184, .f32⟩
  | .hbm, ⟨20, _⟩ => ⟨S16384x1024, .f32⟩
  | .hbm, ⟨21, _⟩ => ⟨S16384x1024, .f32⟩
  | .hbm, ⟨22, _⟩ => ⟨S16384x5120, .f32⟩
  | .hbm, ⟨23, _⟩ => ⟨S16384x16, .f32⟩
  | .hbm, ⟨24, _⟩ => ⟨S16384x4x128x2, .f32⟩
  | .hbm, ⟨25, _⟩ => ⟨S16384x4x2x128, .f32⟩
  | .hbm, ⟨26, _⟩ => ⟨S16384x1024, .f32⟩
  | .hbm, ⟨27, _⟩ => ⟨S16384x4x128x2, .f32⟩
  | .hbm, ⟨28, _⟩ => ⟨S16384x4x2x128, .f32⟩
  | .hbm, ⟨29, _⟩ => ⟨S16384x1024, .f32⟩
  | .hbm, ⟨30, _⟩ => ⟨S16384x7168, .f32⟩
  | .hbm, ⟨31, _⟩ => ⟨S16384x7168, .bf16⟩
  | .hbm, ⟨32, _⟩ => ⟨S_, .i32⟩
  | .hbm, ⟨33, _⟩ => ⟨S_, .f32⟩
  | .hbm, ⟨34, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== MixOut.lean ====
abbrev S16384x1024 : Shape := ⟨2, ![16384, 1024]⟩
abbrev S2048x2048 : Shape := ⟨2, ![2048, 2048]⟩
abbrev S16384x2048 : Shape := ⟨2, ![16384, 2048]⟩
abbrev S1024x1024 : Shape := ⟨2, ![1024, 1024]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutRefIdeal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Qkv.lean ====
abbrev S16384x2048 : Shape := ⟨2, ![16384, 2048]⟩
abbrev S2048 : Shape := ⟨1, ![2048]⟩
abbrev S2048x6144 : Shape := ⟨2, ![2048, 6144]⟩
abbrev S1x2048 : Shape := ⟨2, ![1, 2048]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S1x2048, .f32⟩
  | .hbm, ⟨4, _⟩ => ⟨S2048x6144, .bf16⟩
  | .hbm, ⟨5, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c128_i32 : BitVec 32 := 128#32
  let v9 : BitVec 32 := Scalar.muli arg7 c128_i32
  v9
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c128_i32 : BitVec 32 := 128#32
  let v9 : BitVec 32 := Scalar.muli arg7 c128_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x2048 : Shape := ⟨2, ![16384, 2048]⟩
abbrev S2048 : Shape := ⟨1, ![2048]⟩
abbrev S2048x6144 : Shape := ⟨2, ![2048, 6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6144 : Shape := ⟨2, ![16384, 6144]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== AttOut.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttOutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S16384x2048 : Shape := ⟨2, ![16384, 2048]⟩
abbrev S2048 : Shape := ⟨1, ![2048]⟩
abbrev S2048x2048 : Shape := ⟨2, ![2048, 2048]⟩
abbrev S16384x256 : Shape := ⟨2, ![16384, 256]⟩
abbrev S256x2048 : Shape := ⟨2, ![256, 2048]⟩
abbrev S1x2048 : Shape := ⟨2, ![1, 2048]⟩
abbrev S1024x2048 : Shape := ⟨2, ![1024, 2048]⟩
abbrev S2048x512 : Shape := ⟨2, ![2048, 512]⟩
abbrev S1024x256 : Shape := ⟨2, ![1024, 256]⟩
abbrev S256x512 : Shape := ⟨2, ![256, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x256, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x256, .f32⟩
  | .local _ .vmem, ⟨6, _⟩ => ⟨S1024x256, .f32⟩
  | .local _ .vmem, ⟨7, _⟩ => ⟨S256x512, .bf16⟩
  | .local _ .vmem, ⟨8, _⟩ => ⟨S256x512, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | .local _ .vmem, ⟨12, _⟩ => ⟨S1024x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c8_i32 : BitVec 32 := 8#32
  let v19 : BitVec 32 := Scalar.addi c0_i32_12 c8_i32
  let c1_i32 : BitVec 32 := 1#32
  ⟨c0_i32_12, v19, c1_i32⟩
def k0_mult1 (k0_t1 : Fin k0_t1_loop.trips) : BitVec 32 :=
  let c0_i32_12 : BitVec 32 := 0#32
  let c1_i32 : BitVec 32 := 1#32
  let arg10 : BitVec 32 := Scf.iv c0_i32_12 c1_i32 k0_t1
  let c128_i32 : BitVec 32 := 128#32
  let v25 : BitVec 32 := Scalar.muli arg10 c128_i32
  v25
def k0_off1 (k0_t1 : Fin k0_t1_loop.trips) : Fin 2 → Nat :=
  let c0_i32_12 : BitVec 32 := 0#32
  let c1_i32 : BitVec 32 := 1#32
  let arg10 : BitVec 32 := Scf.iv c0_i32_12 c1_i32 k0_t1
  let c128_i32 : BitVec 32 := 128#32
  let v25 : BitVec 32 := Scalar.muli arg10 c128_i32
  let v26 : BitVec 32 := v25
  let v27 : Index := Scalar.indexCast v26
  let c0_18 : Index := 0#32
  ![v27.toNat, 0]
def k0_mult2 (i : grid0.Coords) : BitVec 32 :=
  let arg1 : BitVec 32 := BitVec.ofNat 32 (i 1).val
  let c512_i32 : BitVec 32 := 512#32
  let v12 : BitVec 32 := Scalar.muli arg1 c512_i32
  v12
def k0_off2 (i : grid0.Coords) : Fin 2 → Nat :=
  let c0_9 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  ![0, v14.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S16384x2048 : Shape := ⟨2, ![16384, 2048]⟩
abbrev S2048 : Shape := ⟨1, ![2048]⟩
abbrev S2048x2048 : Shape := ⟨2, ![2048, 2048]⟩
abbrev S16384x256 : Shape := ⟨2, ![16384, 256]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x256, .f32⟩
  | .hbm, ⟨4, _⟩ => ⟨S256x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== FinalNorm.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.FfnDownValue.lean ====
/-
  The down projection of the feed-forward block: the array the kernel leaves is, element by
  element, the residual plus the whole contraction over the 5632 hidden features, which is what
  the reference computes. Each of the 64 grid points writes one block of 1024 rows by 512 columns.
-/
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.FfnDownTie

open Idealize.ShloMosaic Idealize.ShloMosaic.TcCoe Idealize.SL.Sem Idealize.ShloMosaic.Pipeline
open Cert.FfnDownIdeal Cert.FfnDownIdeal.Gen

variable (m : (ℓ : Loc nD τ sig) → Buf (Elt Ideal) ℓ)

/-- The residual plus the product, at row `i 0` and column `i 1`. -/
def G (res : FVec Ideal S16384x2048 .f32) (x : FVec Ideal S16384x5632 .bf16) (w : FVec Ideal S5632x2048 .f32) :
    FVec Ideal S16384x2048 .f32 := fun i =>
  res (ix2 (i 0) (i 1)) + ∑ k : Fin 5632, x (ix2 (i 0) k) * w (ix2 k (i 1))

theorem idx : ∀ t : Fin cfg0.N,
    win0_0.index t = ![(win0_3.index t) 0, 0] ∧ win0_1.index t = ![0, (win0_3.index t) 1]
    ∧ win0_2.index t = win0_3.index t :=
  (by decide +kernel : ∀ t : Fin grid0.N, win0_0.index t = ![(win0_3.index t) 0, 0] ∧ win0_1.index t = ![0, (win0_3.index t) 1]
    ∧ win0_2.index t = win0_3.index t)

/-- The kernel's array after all grid points is `G`. -/
theorem array (c : Dev nD) : (dats m 0 c).arrAt 3 cfg0.N
    = G (m ((c : Thread nD τ).loc main_arg2)) (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, G]
  blk_point [iblk, V, idx t]

/-- The reference's composed term is `G` of the same arrays. -/
theorem reference (res : FVec Ideal S16384x2048 .f32) (x : FVec Ideal S16384x5632 .bf16) (w : FVec Ideal S5632x2048 .f32) :
    addf res (Host.dotGeneral (F := Ideal) Cert.FfnDownRefIdeal.dot_S16384x5632_S5632x2048_S16384x2048_1_0_0_1_n_n none
      (extf .f32 x bitsLt_bf16_f32) w) = G res x w := by
  funext j
  idx_vars j
  pointwise [G]

/-- At exact arithmetic the down projection and its reference leave equal arrays. -/
theorem algebraic : Cert.algebraic_FfnDownIdeal_FfnDownRefIdeal := by
  pair_intro
  · run_from Cert.FfnDownIdeal.Value.run_blocks m g
  · run_from Cert.FfnDownRefIdeal.Value.run m' g'
    rw [array m c]
    exact reference _ _ _

/-- The reference ends with its arguments as they were and no semaphore held. -/
theorem reference_frame : Cert.quiescent_FfnDownRefIdeal := fun m g _ =>
  (θ_run Cert.FfnDownRefIdeal.defs _ _).mono
    (fun r h => ⟨fun c => (h c).2, Idealize.ShloMosaic.sem_eq_zero_of_no_sems (by decide) r.2⟩)
    (Cert.FfnDownRefIdeal.Value.run m g)

end Cert.FfnDownTie

end
-- ==== Proof.FfnUpValue.lean ====
/-
  The gate and up projections of the feed-forward block. At the first of the 11 column blocks of a
  row block the kernel normalises the 1024 rows, 128 at a time, into a scratch buffer which the other
  ten points read. So every point's output block is the gated product of two contractions with the
  same normalised rows, and the array is the reference's.
-/
module

public import proofs.«01_k».proof.Defs
public import proofs.«01_k».proof.Proof.FfnDownValue
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent

@[expose] public section

set_option maxRecDepth 16384

noncomputable section

namespace Cert.FfnUpTie

open Idealize.ShloMosaic Idealize.ShloMosaic.TcCoe Idealize.SL.Sem Idealize.ShloMosaic.Pipeline
open Cert.FfnUpIdeal Cert.FfnUpIdeal.Gen

variable (m : (ℓ : Loc nD τ sig) → Buf (Elt Ideal) ℓ)

/-- Row `i 0` of the input, normalised by its root mean square and scaled by the weight, at column `i 1`. -/
def normed (x : FVec Ideal S1024x2048 .f32) (w : FVec Ideal S1x2048 .f32) : FVec Ideal S1024x2048 .bf16 := fun i =>
  x (ix2 (i 0) (i 1)) * Ideal.rsqrt (Ideal.div (∑ k : Fin 2048, x (ix2 (i 0) k) * x (ix2 (i 0) k)) (Ideal.ofBits .f32 1157627904#32)
    + Ideal.ofBits .f32 897988541#32) * w (ix2 0 (i 1))

section Points

variable (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S1024x512 .bf16) (harg6 : arg6.IsWhole)
    (arg7 : Memref sig .tc .vmem S1024x2048 .bf16) (harg7 : arg7.IsWhole) (h1 : k0_cond1 i = 1#1) (x0 : Vec Ideal S1024x2048 .f32) (x1 : Vec Ideal S1x2048 .f32)

/-- What a trip of the normalising loop stores is its 128 rows of `normed`. -/
theorem trip_piece (k : Fin k0_t1_loop.trips) :
    ∀ p ∈ (trip_k0_t1 (F := Ideal) Variants.none c none i arg2 harg2 arg3 harg3 arg4 harg4 arg5 harg5 arg6 harg6 arg7 harg7 h1
        (harg2.unread x0) (harg3.unread x1) k).1, ∀ y : p.1.shape.Idx, p.2 y = normed x0 x1 (p.1.emb y) := by
  unfold trip_k0_t1
  dsimp only
  intro p hp y
  obtain rfl := List.mem_singleton.mp hp
  dsimp only at y ⊢
  have e := k0_off1_eq k
  simp only [View.readAt_eq_ld, harg2.read_unread, harg3.read_unread]
  pointwise [k0_pay1, normed]
  blk_point [e]

/-- All the trips before `k` store rows of `normed`. -/
theorem loop_pieces : ∀ k ≤ k0_t1_loop.trips,
    ∀ p ∈ pb_k0_t1 (F := Ideal) Variants.none c none i arg2 harg2 arg3 harg3 arg4 harg4 arg5 harg5 arg6 harg6 arg7 harg7 h1
        (harg2.unread x0) (harg3.unread x1) k, ∀ y : p.1.shape.Idx, p.2 y = normed x0 x1 (p.1.emb y)
  | 0, _, p, hp, _ => absurd hp List.not_mem_nil
  | k + 1, hk, p, hp, y => by
    rw [pb_k0_t1_succ (k := ⟨k, hk⟩)] at hp
    rcases List.mem_append.mp hp with hp | hp
    · exact trip_piece c i arg2 harg2 arg3 harg3 arg4 harg4 arg5 harg5 arg6 harg6 arg7 harg7 h1 x0 x1 ⟨k, hk⟩ p hp y
    · exact loop_pieces k (Nat.le_of_succ_le hk) p hp y

/-- The loop's stores reach every cell of the scratch. -/
theorem loop_cover (y : S1024x2048.Idx) :
    ∃ p ∈ pb_k0_t1 (F := Ideal) Variants.none c none i arg2 harg2 arg3 harg3 arg4 harg4 arg5 harg5 arg6 harg6 arg7 harg7 h1
        (harg2.unread x0) (harg3.unread x1) (Scf.trips (0#32) (Scalar.addi 0#32 8#32) 1#32), y ∈ p.1.set :=
  View.cover_of_tiledL (pb_k0_t1 (F := Ideal) Variants.none c none i arg2 harg2 arg3 harg3 arg4 harg4 arg5 harg5 arg6 harg6 arg7 harg7 h1
        (harg2.unread x0) (harg3.unread x1) (Scf.trips (0#32) (Scalar.addi 0#32 8#32) 1#32)) S128x2048.size (by sl_kernel_rfl) y

/-- The scratch after the loop is `normed`. -/
theorem loop_canon :
    View.canon (pb_k0_t1 (F := Ideal) Variants.none c none i arg2 harg2 arg3 harg3 arg4 harg4 arg5 harg5 arg6 harg6 arg7 harg7 h1
        (harg2.unread x0) (harg3.unread x1) (Scf.trips (0#32) (Scalar.addi 0#32 8#32) 1#32)) = normed x0 x1 :=
  funext fun y => View.canon_eq_of_allAt _ y _ (loop_cover c i arg2 harg2 arg3 harg3 arg4 harg4 arg5 harg5 arg6 harg6 arg7 harg7 h1 x0 x1 y)
    fun p hp x hx => hx ▸ loop_pieces c i arg2 harg2 arg3 harg3 arg4 harg4 arg5 harg5 arg6 harg6 arg7 harg7 h1 x0 x1 _ le_rfl p hp x

/-- The scratch a point of a run's first column block leaves. -/
theorem scratch_A (x2 x3 : Vec Ideal S2048x512 .bf16) (hc0 : cond0_0 i) :
    sout0_A_0 c i arg2 harg2 arg3 harg3 arg4 harg4 arg5 harg5 arg6 harg6 arg7 harg7 hc0 x0 x1 x2 x3 = normed x0 x1 := by
  frame_out
  exact loop_canon c i arg2 harg2 arg3 harg3 arg4 harg4 arg5 harg5 arg6 harg6 arg7 harg7 hc0 x0 x1

/-- The output block of such a point: the payload at the scratch just filled. -/
theorem out_A (x2 x3 : Vec Ideal S2048x512 .bf16) (hc0 : cond0_0 i) :
    out0_A_4 c i arg2 harg2 arg3 harg3 arg4 harg4 arg5 harg5 arg6 harg6 arg7 harg7 hc0 x0 x1 x2 x3
      = k0_pay2 (F := Ideal) (normed x0 x1) x2 (normed x0 x1) x3 := by
  have e : arg7.view.readCov (pb_k0_t1 (F := Ideal) Variants.none c none i arg2 harg2 arg3 harg3 arg4 harg4 arg5 harg5 arg6 harg6 arg7 harg7 hc0
          (harg2.unread x0) (harg3.unread x1) (Scf.trips (0#32) (Scalar.addi 0#32 8#32) 1#32))
        (Rect.unit ![0, 0] ![1024, 2048] inb_S1024x2048_S1024x2048_0_0).toLoadRect = normed x0 x1 := by
    rw [View.readCov_eq_canon_ld _ _ _ (loop_cover c i arg2 harg2 arg3 harg3 arg4 harg4 arg5 harg5 arg6 harg6 arg7 harg7 hc0 x0 x1),
      loop_canon]
    exact View.ld_unit_lit _ _ (by decide)
  frame_out
  rw [e]

/-- The output block of the other points: the payload at the scratch they find. -/
theorem out_B (x2 x3 : Vec Ideal S2048x512 .bf16) (hc0 : ¬cond0_0 i) (xs : Vec Ideal S1024x2048 .bf16) :
    out0_B_4 c i arg2 harg2 arg3 harg3 arg4 harg4 arg5 harg5 arg6 harg6 arg7 harg7 hc0 x0 x1 x2 x3 xs
      = k0_pay2 (F := Ideal) xs x2 xs x3 := by
  frame_out

end Points

/-- The rows of grid point `t`, normalised. -/
def rows (c : Dev nD) (t : Fin cfg0.N) : FVec Ideal S1024x2048 .bf16 := normed (iblk m c 0 t) (iblk m c 1 t)

/-- The 11 points of one run read the same rows. -/
theorem idx : ∀ t : Fin cfg0.N, ∀ h : 11 * (t.val / 11) < cfg0.N,
    win0_0.index ⟨11 * (t.val / 11), h⟩ = ![(win0_4.index t) 0, 0] ∧ win0_0.index t = ![(win0_4.index t) 0, 0] ∧ win0_1.index t = ![0, 0] ∧ win0_1.index ⟨11 * (t.val / 11), h⟩ = ![0, 0]
    ∧ win0_2.index t = ![0, (win0_4.index t) 1] ∧ win0_3.index t = ![0, (win0_4.index t) 1] :=
  (by decide +kernel : ∀ t : Fin grid0.N, ∀ h : 11 * (t.val / 11) < grid0.N,
    win0_0.index ⟨11 * (t.val / 11), h⟩ = ![(win0_4.index t) 0, 0] ∧ win0_0.index t = ![(win0_4.index t) 0, 0] ∧ win0_1.index t = ![0, 0] ∧ win0_1.index ⟨11 * (t.val / 11), h⟩ = ![0, 0]
    ∧ win0_2.index t = ![0, (win0_4.index t) 1] ∧ win0_3.index t = ![0, (win0_4.index t) 1])

/-- At every point the scratch holds the normalised rows of the point's own row block. -/
theorem scratch (c : Dev nD) (t : Fin cfg0.N) : (outsAt0 m c t.val t.isLt).2 = rows m c t := by
  funext y
  rw [Pipeline.eq_of_write_hold_apply (fun n h => (outsAt0 m c n h).2) 11 (rows m c)
    (fun t ht y => by
      simp only [outsAt0_A m c t ht]
      rw [scratch_A]; rfl)
    (fun t ht y => by
      simp only [outsAt0_B m c t ht]
      rfl) t y]
  idx_vars y
  simp only [rows, normed]
  obtain ⟨e0, e1, e2, e3, -, -⟩ := idx t (Pipeline.run_start_lt t)
  blk_point [iblk, V, e0, e1, e2, e3]

/-- The gated product of the two projections of the normalised rows, at row `i 0` and hidden feature `i 1`. -/
def G (x : FVec Ideal S16384x2048 .f32) (nw : FVec Ideal S2048 .f32) (wg wu : FVec Ideal S2048x5632 .f32) :
    FVec Ideal S16384x5632 .bf16 := fun i =>
  let n := fun k : Fin 2048 => x (ix2 (i 0) k) * Ideal.rsqrt (Ideal.div (∑ k : Fin 2048, x (ix2 (i 0) k) * x (ix2 (i 0) k)) (Ideal.ofBits .f32 1157627904#32)
    + Ideal.ofBits .f32 897988541#32) * nw (ix1 k)
  let g := ∑ k : Fin 2048, n k * wg (ix2 k (i 1))
  let u := ∑ k : Fin 2048, n k * wu (ix2 k (i 1))
  g * Ideal.logistic g * u

/-- The kernel's array after all grid points is `G`. -/
theorem array (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : (outsAt0 m c t.val t.isLt).1 = k0_pay2 (F := Ideal) (rows m c t) (iblk m c 2 t) (rows m c t) (iblk m c 3 t) := by
    by_cases ht : t.val % 11 = 0
    · simp only [outsAt0_A m c t ht]
      rw [out_A]; rfl
    · have hs := scratch m c t
      simp only [outsAt0_B m c t ht] at hs ⊢
      rw [out_B]
      rw [show (outsAt0 m c (t.val - 1) (Nat.lt_of_le_of_lt (Nat.sub_le _ _) t.isLt)).2 = rows m c t from hs]
  blk_simp
  rw [after0_4, h]
  obtain ⟨-, e1, e2, -, e3, e4⟩ := idx t (Pipeline.run_start_lt t)
  pointwise [k0_pay2, G, rows, normed]
  blk_point [iblk, V, e1, e2, e3, e4]

/-- At exact arithmetic the gate and up projections and their reference leave equal arrays. -/
theorem algebraic : Cert.algebraic_FfnUpIdeal_FfnUpRefIdeal := by
  pair_intro
  · run_from Cert.FfnUpIdeal.Value.run_blocks m g
  · run_from Cert.FfnUpRefIdeal.Value.run m' g'
    rw [array m c]
    funext j
    idx_vars j
    pointwise [G]
    rfl

/-- The reference ends with its arguments as they were and no semaphore held. -/
theorem reference_frame : Cert.quiescent_FfnUpRefIdeal := fun m g _ =>
  (θ_run Cert.FfnUpRefIdeal.defs _ _).mono
    (fun r h => ⟨fun c => (h c).2, Idealize.ShloMosaic.sem_eq_zero_of_no_sems (by decide) r.2⟩)
    (Cert.FfnUpRefIdeal.Value.run m g)

end Cert.FfnUpTie

end
-- ==== Proof.InputFrame.lean ====
/-
  The input projection's launch at the machine's own arithmetic: every execution ends, the arguments end as
  they began and no semaphore is held. Nothing is said of what the output arrays hold.
-/
module

public import proofs.«01_k».proof.Defs
public import proofs.«01_k».proof.Proof.Gen.Input.Frame
public import proofs.«01_k».proof.Proof.Gen.Input.Skeleton
public import proofs.«01_k».proof.Proof.Gen.Input.Loops
public import proofs.«01_k».proof.Proof.Gen.Input.Points
public import Idealize.ShloMosaic.Lib.Tactic
public import Idealize.ShloMosaic.Lib.WordCmp
public import Idealize.ShloMosaic.Lib.Claim

@[expose] public section

set_option maxRecDepth 16384

noncomputable section

namespace Cert.InputEnds

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Input Cert.Input.Gen

variable {F : FTy → Type} [FloatOps F]

local notation "𝕄" => MT nD τ sig Unit (Elt F) ℕ (UR sig nD τ) ℕ

/-- The buffer window 0 stages in at a point. -/
abbrev ms0_0 (t : Fin cfg0.N) : Memref sig .tc .vmem S1024x2048 .f32 := win0_0.stage (cfg0.slots t 0)
/-- It is a whole buffer. -/
abbrev hs0_0 (t : Fin cfg0.N) : (ms0_0 t).IsWhole := hstage0_0 ((cfg0.slots t 0).cast nbuf0_0)
/-- The buffer window 1 stages in at a point. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- The buffer window 2 stages in at a point. -/
abbrev ms0_2 (t : Fin cfg0.N) : Memref sig .tc .vmem S2048x1024 .bf16 := win0_2.stage (cfg0.slots t 2)
/-- It is a whole buffer. -/
abbrev hs0_2 (t : Fin cfg0.N) : (ms0_2 t).IsWhole := hstage0_2 ((cfg0.slots t 2).cast nbuf0_2)
/-- The buffer window 3 stages in at a point. -/
abbrev ms0_3 (t : Fin cfg0.N) : Memref sig .tc .vmem S2048x128 .bf16 := win0_3.stage (cfg0.slots t 3)
/-- It is a whole buffer. -/
abbrev hs0_3 (t : Fin cfg0.N) : (ms0_3 t).IsWhole := hstage0_3 ((cfg0.slots t 3).cast nbuf0_3)
/-- The buffer window 4 stages in at a point. -/
abbrev ms0_4 (t : Fin cfg0.N) : Memref sig .tc .vmem S1024x1024 .bf16 := win0_4.stage (cfg0.slots t 4)
/-- It is a whole buffer. -/
abbrev hs0_4 (t : Fin cfg0.N) : (ms0_4 t).IsWhole := hstage0_4 ((cfg0.slots t 4).cast nbuf0_4)
/-- The buffer window 5 stages in at a point. -/
abbrev ms0_5 (t : Fin cfg0.N) : Memref sig .tc .vmem S1024x128 .f32 := win0_5.stage (cfg0.slots t 5)
/-- It is a whole buffer. -/
abbrev hs0_5 (t : Fin cfg0.N) : (ms0_5 t).IsWhole := hstage0_5 ((cfg0.slots t 5).cast nbuf0_5)
/-- The scratch. -/
abbrev scM0_0 : Memref sig .tc .vmem S1024x2048 .bf16 := Memref.whole cc0_scratch0

/-- What the launch holds between points: the scratch, at any contents, and the register. -/
theorem between_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at any coordinates, from any blocks: it ends, the input blocks as they were. -/
theorem body_ends (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (x0 : Vec F S1024x2048 .f32) (x1 : Vec F S1x2048 .f32) (x2 : Vec F S2048x1024 .bf16) (x3 : Vec F S2048x128 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_norm_matmul_tail i arg2 harg2 arg3 harg3 arg4 harg4 arg5 harg5 arg6 harg6 arg7 harg7 arg8 harg8) K := by
  intro E K
  simp only [cc0_norm_matmul_tail_eq_skeleton]; unfold cc0_norm_matmul_tail_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  by_cases hc0 : k0_cond1 i = 1#1
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

variable (m : (ℓ : Loc nD τ sig) → Buf (Elt F) ℓ) (ρ : Dev nD → PrngReg)

/-- The two output windows, of which nothing is said. -/
def unsaid : Fin 6 → Bool := fun w => decide (4 ≤ w.val)

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays as the launch finds them. -/
theorem dats_A (c : Dev nD) (w : Fin cfg0.W) : (dats m 0 c).A w = V m c (Pipeline.arrRef spec0 w) := by
  dsimp only [dats]

/-- The block that a point leaves in window 0. -/
theorem after_0 (c : Dev nD) (t : Fin cfg0.N) : (dats m 0 c).after 0 t = iblk m c 0 t := by dsimp only [dats]
/-- The block that a point leaves in window 1. -/
theorem after_1 (c : Dev nD) (t : Fin cfg0.N) : (dats m 0 c).after 1 t = iblk m c 1 t := by dsimp only [dats]
/-- The block that a point leaves in window 2. -/
theorem after_2 (c : Dev nD) (t : Fin cfg0.N) : (dats m 0 c).after 2 t = iblk m c 2 t := by dsimp only [dats]
/-- The block that a point leaves in window 3. -/
theorem after_3 (c : Dev nD) (t : Fin cfg0.N) : (dats m 0 c).after 3 t = iblk m c 3 t := by dsimp only [dats]
/-- The block that a point reads in window 0. -/
theorem before_0 (c : Dev nD) (t : Fin cfg0.N) (d) : (dats m 0 c).before 0 t d = iblk m c 0 t :=
  before0_0_of m (dats m 0 c) (dats_A m c 0) (after_0 m c) t d
/-- The block that a point reads in window 1. -/
theorem before_1 (c : Dev nD) (t : Fin cfg0.N) (d) : (dats m 0 c).before 1 t d = iblk m c 1 t :=
  before0_1_of m (dats m 0 c) (dats_A m c 1) (after_1 m c) t d
/-- The block that a point reads in window 2. -/
theorem before_2 (c : Dev nD) (t : Fin cfg0.N) (d) : (dats m 0 c).before 2 t d = iblk m c 2 t :=
  before0_2_of m (dats m 0 c) (dats_A m c 2) (after_2 m c) t d
/-- The block that a point reads in window 3. -/
theorem before_3 (c : Dev nD) (t : Fin cfg0.N) (d) : (dats m 0 c).before 3 t d = iblk m c 3 t :=
  before0_3_of m (dats m 0 c) (dats_A m c 3) (after_3 m c) t d

set_option maxHeartbeats 1000000 in
/-- The body at any grid point, from its input blocks. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare d)
        ∗ (∃ d, owns (c : Thread nD τ) (ms0_5 t) fullShare d))
      ⊢ wp frame (wpE (defs₀ (F := F)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ (∃ d, owns (c : Thread nD τ) (ms0_4 t) fullShare d)
            ∗ (∃ d, owns (c : Thread nD τ) (ms0_5 t) fullShare d))) := by
  unfold bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, between_eq]
  iintro ⟨⟨HS, Hg⟩, Ho, ⟨%d0, H0⟩, ⟨%d1, H1⟩, ⟨%d2, H2⟩, ⟨%d3, H3⟩, ⟨%d4, H4⟩, ⟨%d5, H5⟩⟩
  iapply (body_ends (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body of the pipeline at every point. -/
theorem obligation (c : Dev nD) : BodyObligation (dats m 0 c) (defs₀ (F := F)) Variants.none () Set.univ unsaid := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- Every execution ends, with no semaphore held. -/
theorem launched : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they began, and no semaphore is held. -/
theorem kernel_frame : Cert.quiescent_Input := fun m ρ _ =>
  θ_run_and ((θ_run defs _ _).mono (fun _ h c =>
      ⟨(Pipeline.RDat.FramePost.arr_in h.1 c 0 rfl).trans ((dats_A m c 0).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩) (launched m ρ))
    ((θ_run defs _ _).mono (fun _ h => h.2) (launched m ρ))

end Cert.InputEnds

end
-- ==== Proof.InputBody.lean ====
/-
  The body of the input projection at exact arithmetic. At the first of the 7 column blocks of a row block it
  normalises the 1024 rows, 128 at a time, into a scratch buffer and stores the 16 gate columns' product; at
  every point it stores the product of the scratch with its own columns of the weights.
-/
module

public import proofs.«01_k».proof.Defs
public import proofs.«01_k».proof.Proof.FfnDownValue
public import proofs.«01_k».proof.Proof.Gen.InputIdeal.Frame
public import proofs.«01_k».proof.Proof.Gen.InputIdeal.Skeleton
public import proofs.«01_k».proof.Proof.Gen.InputIdeal.Loops
public import proofs.«01_k».proof.Proof.Gen.InputIdeal.Points
public import Idealize.ShloMosaic.Lib.Tactic
public import Idealize.ShloMosaic.Lib.WordCmp
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InputTie

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.InputIdeal Cert.InputIdeal.Gen

local notation "𝕄" => MT nD τ sig Unit (Elt Ideal) ℕ (UR sig nD τ) ℕ

/-- Row `i 0` of the input, normalised by its root mean square and scaled by the weight, at column `i 1`. -/
def normed (x : FVec Ideal S1024x2048 .f32) (w : FVec Ideal S1x2048 .f32) : FVec Ideal S1024x2048 .bf16 := fun i =>
  x (ix2 (i 0) (i 1)) * Ideal.rsqrt (Ideal.div (∑ k : Fin 2048, x (ix2 (i 0) k) * x (ix2 (i 0) k)) (Ideal.ofBits .f32 1157627904#32)
    + Ideal.ofBits .f32 897988541#32) * w (ix2 0 (i 1))

section Loop

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (h1 : k0_cond1 i = 1#1) (x0 : Vec Ideal S1024x2048 .f32) (x1 : Vec Ideal S1x2048 .f32)

/-- A trip of the loop stores its 128 rows of `normed`. -/
theorem trip_rows (k : Fin k0_t1_loop.trips) :
    ∀ p ∈ (trip_k0_t1 (F := Ideal) Variants.none c none i arg2 harg2 arg3 harg3 arg4 harg4 arg5 harg5 arg6 harg6 arg7 harg7 arg8 harg8 h1
        (harg2.unread x0) (harg3.unread x1) k).1, ∀ y : p.1.shape.Idx, p.2 y = normed x0 x1 (p.1.emb y) := by
  unfold trip_k0_t1
  dsimp only
  intro p hp y
  obtain rfl := List.mem_singleton.mp hp
  dsimp only at y ⊢
  have e := k0_off1_eq k
  simp only [View.readAt_eq_ld, harg2.read_unread, harg3.read_unread]
  pointwise [k0_pay1, normed]
  blk_point [e]

/-- All the trips before `k` store rows of `normed`. -/
theorem trips_rows : ∀ k ≤ k0_t1_loop.trips,
    ∀ p ∈ pb_k0_t1 (F := Ideal) Variants.none c none i arg2 harg2 arg3 harg3 arg4 harg4 arg5 harg5 arg6 harg6 arg7 harg7 arg8 harg8 h1
        (harg2.unread x0) (harg3.unread x1) k, ∀ y : p.1.shape.Idx, p.2 y = normed x0 x1 (p.1.emb y)
  | 0, _, p, hp, _ => absurd hp List.not_mem_nil
  | k + 1, hk, p, hp, y => by
    rw [pb_k0_t1_succ (k := ⟨k, hk⟩)] at hp
    rcases List.mem_append.mp hp with hp | hp
    · exact trip_rows c i arg2 harg2 arg3 harg3 arg4 harg4 arg5 harg5 arg6 harg6 arg7 harg7 arg8 harg8 h1 x0 x1 ⟨k, hk⟩ p hp y
    · exact trips_rows k (Nat.le_of_succ_le hk) p hp y

/-- The loop's stores reach every cell of the scratch. -/
theorem reach (y : S1024x2048.Idx) :
    ∃ p ∈ pb_k0_t1 (F := Ideal) Variants.none c none i arg2 harg2 arg3 harg3 arg4 harg4 arg5 harg5 arg6 harg6 arg7 harg7 arg8 harg8 h1
        (harg2.unread x0) (harg3.unread x1) (Scf.trips k0_t1_loop.lb k0_t1_loop.ub k0_t1_loop.st), y ∈ p.1.set :=
  View.cover_of_tiledL (pb_k0_t1 (F := Ideal) Variants.none c none i arg2 harg2 arg3 harg3 arg4 harg4 arg5 harg5 arg6 harg6 arg7 harg7 arg8 harg8 h1
        (harg2.unread x0) (harg3.unread x1) (Scf.trips k0_t1_loop.lb k0_t1_loop.ub k0_t1_loop.st)) S128x2048.size (by sl_kernel_rfl) y

/-- The scratch reads `normed` after the loop. -/
theorem read_loop (f : BufTy.Contents (Elt Ideal) arg8.view.ty) :
    arg8.view.read (Elt Ideal) (arg8.view.writes (Elt Ideal) f (pb_k0_t1 (F := Ideal) Variants.none c none i arg2 harg2 arg3 harg3 arg4 harg4 arg5 harg5 arg6 harg6 arg7 harg7 arg8 harg8 h1
        (harg2.unread x0) (harg3.unread x1) (Scf.trips k0_t1_loop.lb k0_t1_loop.ub k0_t1_loop.st))) = normed x0 x1 := by
  rw [View.read_writes_eq_canon _ _ _ (reach c i arg2 harg2 arg3 harg3 arg4 harg4 arg5 harg5 arg6 harg6 arg7 harg7 arg8 harg8 h1 x0 x1)]
  exact funext fun y => View.canon_eq_of_allAt _ y _ (reach c i arg2 harg2 arg3 harg3 arg4 harg4 arg5 harg5 arg6 harg6 arg7 harg7 arg8 harg8 h1 x0 x1 y)
    fun p hp x hx => hx ▸ trips_rows c i arg2 harg2 arg3 harg3 arg4 harg4 arg5 harg5 arg6 harg6 arg7 harg7 arg8 harg8 h1 x0 x1 _ le_rfl p hp x

end Loop

/-- A buffer whose one store filled it reads what was stored. -/
theorem read_one {s : Shape} {e : EltTy} (v : View sig .tc .vmem s e) (f : BufTy.Contents (Elt Ideal) v.ty) (off : Fin s.rank → ℕ)
    (inb : ∀ a, off a + s.size a ≤ s.size a) (h0 : ∀ d, off d = 0) (w : s.Idx → Elt Ideal e) :
    v.read (Elt Ideal) (v.writes (Elt Ideal) f [⟨Rect.unit off s.size inb, w⟩]) = w := by
  have hm : ∀ y : s.Idx, y ∈ (Rect.unit off s.size inb).set := fun y => Rect.mem_set_unit.2 fun a =>
    ⟨by rw [h0 a]; exact Nat.zero_le _, by rw [h0 a, Nat.zero_add]; exact (y a).isLt⟩
  rw [View.read_writes_eq_canon v f _ (fun y => ⟨_, List.mem_cons_self, hm y⟩)]
  exact View.canon_cons_unit_lit _ _ _ h0

set_option maxHeartbeats 1000000 in
/-- The body at the first column block of a row block. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (hc0 : k0_cond1 i = 1#1)
    (x0 : Vec Ideal S1024x2048 .f32) (x1 : Vec Ideal S1x2048 .f32) (x2 : Vec Ideal S2048x1024 .bf16) (x3 : Vec Ideal S2048x128 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (F := Ideal) (normed x0 x1) x2) ∗ owns (c : Thread nD τ) arg7 fullShare (k0_pay2 (F := Ideal) (normed x0 x1) x3) ∗ owns (c : Thread nD τ) arg8 fullShare (normed x0 x1)) -∗ K ⟨⟩))
          ⊢ wp frame (wpE (defs₀ (F := Ideal)) Variants.none c none) E (cc0_norm_matmul_tail i arg2 harg2 arg3 harg3 arg4 harg4 arg5 harg5 arg6 harg6 arg7 harg7 arg8 harg8) K := by
  intro E K
  simp only [cc0_norm_matmul_tail_eq_skeleton]; unfold cc0_norm_matmul_tail_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  have hr := fun f => read_loop c i arg2 harg2 arg3 harg3 arg4 harg4 arg5 harg5 arg6 harg6 arg7 harg7 arg8 harg8 hc0 x0 x1 f
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [read_one _ _ _ _ (by decide)]
    unfold body_first.sl.v10
    simp only [View.readAt_eq_ld, hr, harg4.read_unread, harg5.read_unread]
    rw [View.ld_unit_lit _ _ (by decide), View.ld_unit_lit _ _ (by decide)]
  isplitl [H5]
  · iexists _; isplitr; swap; · iexact H5
    ipureintro
    rw [read_one _ _ _ _ (by decide)]
    unfold body_first.sl.v10
    simp only [View.readAt_eq_ld, hr, harg4.read_unread, harg5.read_unread]
    rw [View.ld_unit_lit _ _ (by decide), View.ld_unit_lit _ _ (by decide)]
  iexists _; isplitr; swap; · iexact H6
  ipureintro
  exact hr _

set_option maxHeartbeats 1000000 in
/-- The body at the other column blocks: the scratch and the gate columns' block stay. -/
theorem body_next (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole) (hc0 : ¬k0_cond1 i = 1#1)
    (x0 : Vec Ideal S1024x2048 .f32) (x1 : Vec Ideal S1x2048 .f32) (x2 : Vec Ideal S2048x1024 .bf16) (x3 : Vec Ideal S2048x128 .bf16) (y5 : Vec Ideal S1024x128 .f32) (xs : Vec Ideal S1024x2048 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (F := Ideal) xs x2) ∗ owns (c : Thread nD τ) arg7 fullShare y5 ∗ owns (c : Thread nD τ) arg8 fullShare xs) -∗ K ⟨⟩))
          ⊢ wp frame (wpE (defs₀ (F := Ideal)) Variants.none c none) E (cc0_norm_matmul_tail i arg2 harg2 arg3 harg3 arg4 harg4 arg5 harg5 arg6 harg6 arg7 harg7 arg8 harg8) K := by
  intro E K
  simp only [cc0_norm_matmul_tail_eq_skeleton]; unfold cc0_norm_matmul_tail_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [read_one _ _ _ _ (by decide)]
    simp only [View.readAt_eq_ld, harg4.read_unread, harg8.read_unread]
    rw [View.ld_unit_lit _ _ (by decide), View.ld_unit_lit _ _ (by decide)]
  isplitl [H5]
  · iexists _; isplitr; · ipureintro; exact harg7.read_unread _
    iexact H5
  iexists _; isplitr; · ipureintro; exact harg8.read_unread _
  iexact H6

end Cert.InputTie

end
-- ==== Proof.InputLaunch.lean ====
/-
  The input projection's launch at exact arithmetic. The 7 points of a row block share its rows, so the scratch
  that the first of them fills holds the normalised rows of each of them, and the gate columns' block that the
  first stores is the one written back after the last.
-/
module

public import proofs.«01_k».proof.Defs
public import proofs.«01_k».proof.Proof.InputBody
public import Idealize.ShloMosaic.Lib.Claim

@[expose] public section

set_option maxRecDepth 16384

noncomputable section

namespace Cert.InputTie

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.InputIdeal Cert.InputIdeal.Gen

local notation "𝕄" => MT nD τ sig Unit (Elt Ideal) ℕ (UR sig nD τ) ℕ

/-- The scratch is filled at the first of the 7 column blocks of a row block. -/
theorem first_iff : ∀ t : Fin cfg0.N, k0_cond1 (grid0.coords t) = 1#1 ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 7 = 0)

/-- The buffer window 0 stages in at a point. -/
abbrev ms0_0 (t : Fin cfg0.N) : Memref sig .tc .vmem S1024x2048 .f32 := win0_0.stage (cfg0.slots t 0)
/-- It is a whole buffer. -/
abbrev hs0_0 (t : Fin cfg0.N) : (ms0_0 t).IsWhole := hstage0_0 ((cfg0.slots t 0).cast nbuf0_0)
/-- The buffer window 1 stages in at a point. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- The buffer window 2 stages in at a point. -/
abbrev ms0_2 (t : Fin cfg0.N) : Memref sig .tc .vmem S2048x1024 .bf16 := win0_2.stage (cfg0.slots t 2)
/-- It is a whole buffer. -/
abbrev hs0_2 (t : Fin cfg0.N) : (ms0_2 t).IsWhole := hstage0_2 ((cfg0.slots t 2).cast nbuf0_2)
/-- The buffer window 3 stages in at a point. -/
abbrev ms0_3 (t : Fin cfg0.N) : Memref sig .tc .vmem S2048x128 .bf16 := win0_3.stage (cfg0.slots t 3)
/-- It is a whole buffer. -/
abbrev hs0_3 (t : Fin cfg0.N) : (ms0_3 t).IsWhole := hstage0_3 ((cfg0.slots t 3).cast nbuf0_3)
/-- The buffer window 4 stages in at a point. -/
abbrev ms0_4 (t : Fin cfg0.N) : Memref sig .tc .vmem S1024x1024 .bf16 := win0_4.stage (cfg0.slots t 4)
/-- It is a whole buffer. -/
abbrev hs0_4 (t : Fin cfg0.N) : (ms0_4 t).IsWhole := hstage0_4 ((cfg0.slots t 4).cast nbuf0_4)
/-- The buffer window 5 stages in at a point. -/
abbrev ms0_5 (t : Fin cfg0.N) : Memref sig .tc .vmem S1024x128 .f32 := win0_5.stage (cfg0.slots t 5)
/-- It is a whole buffer. -/
abbrev hs0_5 (t : Fin cfg0.N) : (ms0_5 t).IsWhole := hstage0_5 ((cfg0.slots t 5).cast nbuf0_5)
/-- The scratch. -/
abbrev scM0_0 : Memref sig .tc .vmem S1024x2048 .bf16 := Memref.whole cc0_scratch0

/-- What the launch holds between points: the scratch, at any contents, and the register. -/
theorem between_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The scratch at any contents is what the launch holds. -/
theorem between_any (c : Dev nD) :
    iprop(iprop((∃ d, owns (c : Thread nD τ) scM0_0 fullShare d)) ∗ (∃ r, prngReg c r)) ⊢ (Pipeline.ΦA spec0 c : sProp 𝕄) := by
  rw [between_eq]

variable (m : (ℓ : Loc nD τ sig) → Buf (Elt Ideal) ℓ) (ρ : Dev nD → PrngReg)

/-- The rows of grid point `t`, normalised. -/
def rows (c : Dev nD) (t : Fin cfg0.N) : FVec Ideal S1024x2048 .bf16 := normed (iblk m c 0 t) (iblk m c 1 t)

/-- The gate columns' block of grid point `t`. -/
def gates (c : Dev nD) (t : Fin cfg0.N) : FVec Ideal S1024x128 .f32 := k0_pay2 (F := Ideal) (rows m c t) (iblk m c 3 t)

/-- The main block of grid point `t`. -/
def block (c : Dev nD) (t : Fin cfg0.N) : FVec Ideal S1024x1024 .bf16 := k0_pay3 (F := Ideal) (rows m c t) (iblk m c 2 t)

/-- A point that is no first column block reads the rows and the scale of the point before. -/
theorem idx_next : ∀ t s : Fin cfg0.N, t.val % 7 ≠ 0 → s.val + 1 = t.val →
    win0_0.index s = win0_0.index t ∧ win0_1.index s = win0_1.index t := by
  intro t s ht hs
  have h := (by decide +kernel : ∀ s : Fin grid0.N, ∀ h : s.val + 1 < grid0.N, (s.val + 1) % 7 ≠ 0 →
    win0_0.index s = win0_0.index ⟨s.val + 1, h⟩ ∧ win0_1.index s = win0_1.index ⟨s.val + 1, h⟩) s (by rw [hs]; exact t.isLt) (by rw [hs]; exact ht)
  have e : (⟨s.val + 1, by rw [hs]; exact t.isLt⟩ : Fin grid0.N) = t := Fin.ext hs
  rw [e] at h
  exact h

/-- So its normalised rows are those of the point before. -/
theorem rows_next (c : Dev nD) (t s : Fin cfg0.N) (ht : t.val % 7 ≠ 0) (hs : s.val + 1 = t.val) : rows m c s = rows m c t := by
  obtain ⟨e0, e1⟩ := idx_next t s ht hs
  funext y
  idx_vars y
  simp only [rows, normed]
  blk_point [iblk, e0, e1]

/-- And its gate block too. -/
theorem gates_next (c : Dev nD) (t s : Fin cfg0.N) (ht : t.val % 7 ≠ 0) (hs : s.val + 1 = t.val) : gates m c s = gates m c t := by
  unfold gates
  rw [rows_next m c t s ht hs]
  congr 1

/-- What is held before point `n`: at first the scratch at any contents, later at the rows of the point before. -/
def held (c : Dev nD) : (n : ℕ) → n < cfg0.N + 1 → sProp 𝕄
  | 0, _ => Pipeline.ΦA spec0 c
  | n + 1, h => iprop(owns (c : Thread nD τ) scM0_0 fullShare (rows m c ⟨n, Nat.lt_of_succ_lt_succ h⟩) ∗ (∃ r, prngReg c r))

/-- What each window's buffer holds after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => gates m c t
  Φ n := held m c n.val n.isLt
  q _ := fullShare
  owed _ := 0

/-- The arrays as the launch finds them. -/
theorem dats_A (c : Dev nD) (w : Fin cfg0.W) : (dats m 0 c).A w = V m c (Pipeline.arrRef spec0 w) := by
  dsimp only [dats]

/-- The block that a point leaves in window 0. -/
theorem after_0 (c : Dev nD) (t : Fin cfg0.N) : (dats m 0 c).after 0 t = iblk m c 0 t := by dsimp only [dats]
/-- The block that a point leaves in window 1. -/
theorem after_1 (c : Dev nD) (t : Fin cfg0.N) : (dats m 0 c).after 1 t = iblk m c 1 t := by dsimp only [dats]
/-- The block that a point leaves in window 2. -/
theorem after_2 (c : Dev nD) (t : Fin cfg0.N) : (dats m 0 c).after 2 t = iblk m c 2 t := by dsimp only [dats]
/-- The block that a point leaves in window 3. -/
theorem after_3 (c : Dev nD) (t : Fin cfg0.N) : (dats m 0 c).after 3 t = iblk m c 3 t := by dsimp only [dats]
/-- The block that a point leaves in window 4. -/
theorem after_4 (c : Dev nD) (t : Fin cfg0.N) : (dats m 0 c).after 4 t = block m c t := by dsimp only [dats]
/-- The block that a point leaves in window 5. -/
theorem after_5 (c : Dev nD) (t : Fin cfg0.N) : (dats m 0 c).after 5 t = gates m c t := by dsimp only [dats]
/-- The block that a point reads in window 0. -/
theorem before_0 (c : Dev nD) (t : Fin cfg0.N) (d) : (dats m 0 c).before 0 t d = iblk m c 0 t :=
  before0_0_of m (dats m 0 c) (dats_A m c 0) (after_0 m c) t d
/-- The block that a point reads in window 1. -/
theorem before_1 (c : Dev nD) (t : Fin cfg0.N) (d) : (dats m 0 c).before 1 t d = iblk m c 1 t :=
  before0_1_of m (dats m 0 c) (dats_A m c 1) (after_1 m c) t d
/-- The block that a point reads in window 2. -/
theorem before_2 (c : Dev nD) (t : Fin cfg0.N) (d) : (dats m 0 c).before 2 t d = iblk m c 2 t :=
  before0_2_of m (dats m 0 c) (dats_A m c 2) (after_2 m c) t d
/-- The block that a point reads in window 3. -/
theorem before_3 (c : Dev nD) (t : Fin cfg0.N) (d) : (dats m 0 c).before 3 t d = iblk m c 3 t :=
  before0_3_of m (dats m 0 c) (dats_A m c 3) (after_3 m c) t d

/-- The gate block is written back only after the last column block. -/
theorem flush_5 : ∀ s : Fin cfg0.N, (s.val + 1) % 7 ≠ 0 → (cfg0.win 5).flush s = false :=
  (by decide +kernel : ∀ s : Fin grid0.N, (s.val + 1) % 7 ≠ 0 → win0_5.flush s = false)

/-- The body stores no gate block at the points that are no first column block. -/
theorem idle_5 (t : Fin cfg0.N) : cfg0.idle 5 (cfg0.grid.coords t) = true ↔ t.val % 7 ≠ 0 := by
  show (!(k0_cond1 (grid0.coords t) == 1#1)) = true ↔ _
  rw [Bool.not_eq_true', beq_eq_false_iff_ne, ne_eq, first_iff]

/-- A point that is no first column block finds its own gate block, stored by an earlier point. -/
theorem before_5 (c : Dev nD) (d) : ∀ (n : ℕ) (h : n < cfg0.N), n % 7 ≠ 0 → (dats m 0 c).before 5 ⟨n, h⟩ d = gates m c ⟨n, h⟩
  | 0, _, ht => absurd rfl ht
  | n + 1, h, ht => by
    refine ((dats m 0 c).before_of_pos 5 ⟨n + 1, h⟩ (Nat.succ_ne_zero n) ((cfg0.win 5).fetch_out rfl _) d).trans ?_
    refine (if_neg (fun hi => Bool.false_ne_true ((flush_5 ⟨n, Nat.lt_of_succ_lt h⟩ ht).symm.trans hi))).trans ?_
    show (dats m 0 c).left 5 ⟨n, Nat.lt_of_succ_lt h⟩ d = _
    rw [← gates_next m c ⟨n + 1, h⟩ ⟨n, Nat.lt_of_succ_lt h⟩ ht rfl]
    unfold Dat.left
    by_cases hn : n % 7 = 0
    · rw [show cfg0.idle 5 (cfg0.grid.coords ⟨n, Nat.lt_of_succ_lt h⟩) = false from
        Bool.eq_false_iff.2 fun hi => (idle_5 _).1 hi hn]
      exact after_5 m c _
    · rw [(idle_5 ⟨n, Nat.lt_of_succ_lt h⟩).2 hn]
      exact before_5 c d n (Nat.lt_of_succ_lt h) hn

/-- The gate block in place is what a point is to leave. -/
theorem leaves_5 (c : Dev nD) (t : Fin cfg0.N) :
    (owns (c : Thread nD τ) (ms0_5 t) fullShare ((dats m 0 c).after 5 t) : sProp 𝕄) ⊢ (dats m 0 c).leavesExact 5 t := by
  unfold Dat.leavesExact
  cases hi : cfg0.idle 5 (cfg0.grid.coords t)
  · exact .rfl
  · cases (cfg0.win 5).flush t
    · iintro H
      iexists gates m c t
      rw [before_5 m c _ t.val t.isLt ((idle_5 t).1 hi), after_5]
      iexact H
    · exact .rfl

/-- Whatever is held before a point, the scratch is there at some contents. -/
theorem held_any (c : Dev nD) (n : ℕ) (h : n < cfg0.N + 1) :
    held m c n h ⊢ iprop(iprop((∃ d, owns (c : Thread nD τ) scM0_0 fullShare d)) ∗ (∃ r, prngReg c r)) := by
  cases n with
  | zero => exact (show held m c 0 h = _ from between_eq c) ▸ .rfl
  | succ n =>
    unfold held
    iintro ⟨HS, Hg⟩
    isplitl [HS]
    · iexists _; iexact HS
    iexact Hg

/-- Before a point that is no first column block the scratch holds the point's own normalised rows. -/
theorem held_own (c : Dev nD) (t : Fin cfg0.N) (ht : t.val % 7 ≠ 0) :
    held m c t.val (Nat.lt_succ_of_lt t.isLt) = iprop(owns (c : Thread nD τ) scM0_0 fullShare (rows m c t) ∗ (∃ r, prngReg c r)) := by
  obtain ⟨_ | n, hn⟩ := t
  · exact absurd rfl ht
  · show (iprop(owns (c : Thread nD τ) scM0_0 fullShare (rows m c ⟨n, Nat.lt_of_succ_lt hn⟩) ∗ (∃ r, prngReg c r)) : sProp 𝕄) = _
    rw [rows_next m c ⟨n + 1, hn⟩ ⟨n, Nat.lt_of_succ_lt hn⟩ ht rfl]

set_option maxHeartbeats 1000000 in
/-- The body at a first column block. -/
theorem at_first (c : Dev nD) (t : Fin cfg0.N) (ht : t.val % 7 = 0) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t))) := by
  unfold bodyAt0
  simp only [before_0, before_1, before_2, before_3]
  rw [show (dats m 0 c).Φ t.succ = iprop(owns (c : Thread nD τ) scM0_0 fullShare (rows m c t) ∗ (∃ r, prngReg c r)) from rfl,
    show (dats m 0 c).owesAt () t.succ = (dats m 0 c).owesAt () t.castSucc from rfl,
    after_0, after_1, after_2, after_3, after_4, after_5,
    show (dats m 0 c).Φ t.castSucc = held m c t.val (Nat.lt_succ_of_lt t.isLt) from rfl]
  refine (sep_mono (held_any m c _ _) .rfl).trans ?_
  iintro ⟨⟨HS, Hg⟩, Ho, ⟨%d0, H0⟩, ⟨%d1, H1⟩, ⟨%d2, H2⟩, ⟨%d3, H3⟩, ⟨%d4, H4⟩, ⟨%d5, H5⟩⟩
  iapply (body_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((first_iff t).mpr ht) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
/-- The body at another column block. -/
theorem at_next (c : Dev nD) (t : Fin cfg0.N) (ht : t.val % 7 ≠ 0) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t))) := by
  unfold bodyAt0
  simp only [before_0, before_1, before_2, before_3, before_5 m c _ t.val t.isLt ht]
  rw [show (dats m 0 c).Φ t.succ = iprop(owns (c : Thread nD τ) scM0_0 fullShare (rows m c t) ∗ (∃ r, prngReg c r)) from rfl,
    show (dats m 0 c).owesAt () t.succ = (dats m 0 c).owesAt () t.castSucc from rfl,
    after_0, after_1, after_2, after_3, after_4, after_5,
    show (dats m 0 c).Φ t.castSucc = held m c t.val (Nat.lt_succ_of_lt t.isLt) from rfl]
  rw [held_own m c t ht]
  iintro ⟨⟨HS, Hg⟩, Ho, ⟨%d0, H0⟩, ⟨%d1, H1⟩, ⟨%d2, H2⟩, ⟨%d3, H3⟩, ⟨%d4, H4⟩, ⟨%d5, H5⟩⟩
  iapply (body_next c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => ht ((first_iff t).mp h)) (iblk m c 0 t) (iblk m c 1 t) (iblk m c 2 t) (iblk m c 3 t) (gates m c t) (rows m c t) Set.univ _)
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t))) := by
  by_cases ht : t.val % 7 = 0
  · exact at_first m c t ht
  · exact at_next m c t ht

/-- The body of the pipeline at every point. -/
theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by
    unfold defs₀; rw [Defs.onTc_tc]]
  exact triple_restated (body_at m c t) rfl .rfl fun _ =>
    sep_mono .rfl (sep_mono .rfl (sep_mono .rfl (sep_mono .rfl (sep_mono .rfl (sep_mono .rfl (sep_mono .rfl (leaves_5 m c t)))))))

set_option backward.isDefEq.respectTransparency.types false in
/-- Every execution ends, with the arrays the points leave and no semaphore held. -/
theorem launched : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun _ => .rfl) (hout := fun c => (held_any m c cfg0.N (Nat.lt_succ_self _)).trans (between_any c))

/-- The arguments end as they began, and no semaphore is held. -/
theorem kernel_frame : Cert.quiescent_InputIdeal := fun m ρ _ =>
  θ_run_and (frame_of m ρ (dats m) (dats_A m) ((θ_run defs _ _).mono (fun _ h => h.1) (launched m ρ)))
    ((θ_run defs _ _).mono (fun _ h => h.2) (launched m ρ))

end Cert.InputTie

end
-- ==== Proof.InputValue.lean ====
/-
  The input projection's two results at exact arithmetic, and its reference's. The kernel permutes the columns
  of the weights before the product, the reference the columns of the product; and the kernel pads the gate
  columns of the weights with zeros, the reference those of the product.
-/
module

public import proofs.«01_k».proof.Defs
public import proofs.«01_k».proof.Proof.InputLaunch
public import proofs.«01_k».proof.Proof.Gen.InputRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.InputTie

open Idealize.ShloMosaic Idealize.ShloMosaic.TcCoe Idealize.SL.Sem Idealize.ShloMosaic.Pipeline
open Cert.InputIdeal Cert.InputIdeal.Gen

variable (m : (ℓ : Loc nD τ sig) → Buf (Elt Ideal) ℓ)

/-- The column of the weights that column `j` of the product belongs to: of each rotated head of 256 the even
    columns first, then the odd ones; the other columns in place. -/
def col (j : Fin 7168) : Fin 7184 :=
  ⟨if j.val < 2048 then 256 * (j.val / 256) + 2 * (j.val % 128) + j.val % 256 / 128 else j.val, by
    have := j.isLt
    split <;> omega⟩

/-- The main weights as the launch finds them. -/
theorem main_w (c : Dev nD) (k : Fin 2048) (j : Fin 7168) :
    (V m c main_v10 : FVec Ideal S2048x7168 .bf16) (ix2 k j) = (m ((c : Thread nD τ).loc main_arg2) : FVec Ideal S2048x7184 .f32) (ix2 k (col j)) := by
  unfold V
  after_reads_simp
  have hj := j.isLt
  pointwise
  after_reads_simp
  pointwise
  split
  · refine congrArg _ (congrArg₂ ix2 rfl (Fin.ext ?_))
    simp only [col]
    split <;> omega
  · split
    · refine congrArg _ (congrArg₂ ix2 rfl (Fin.ext ?_))
      simp only [col]
      split <;> omega
    · refine congrArg _ (congrArg₂ ix2 rfl (Fin.ext ?_))
      simp only [col]
      split <;> omega

/-- The gate weights as the launch finds them. -/
theorem gate_w (c : Dev nD) (k : Fin 2048) (j : Fin 128) :
    (V m c main_v13 : FVec Ideal S2048x128 .bf16) (ix2 k j)
      = if h : j.val < 16 then (m ((c : Thread nD τ).loc main_arg2) : FVec Ideal S2048x7184 .f32) (ix2 k ⟨7168 + j.val, by omega⟩) else (0 : EReal) := by
  unfold V
  after_reads_simp
  simp only [StableHlo.TRef.toBuf, StableHlo.TRef.ofBuf, cast_eq]
  pointwise
  have h0 : (FloatOps.sitofp (F := Ideal) FTy.f32 0#32 : EReal) = 0 := by
    show ((((0#32 : BitVec 32).toInt : ℝ)) : EReal) = 0
    simp
  split
  · rfl
  · exact h0

/-- The scale as the launch finds it. -/
theorem scale_w (c : Dev nD) (k : Fin 2048) :
    (V m c main_v14 : FVec Ideal S1x2048 .f32) (ix2 0 k) = (m ((c : Thread nD τ).loc main_arg1) : FVec Ideal S2048 .f32) (ix1 k) := by
  unfold V
  after_reads_simp
  pointwise

/-- The blocks each point reads and writes. -/
theorem idx : ∀ t : Fin cfg0.N, win0_0.index t = ![(win0_4.index t) 0, 0] ∧ win0_1.index t = ![0, 0] ∧ win0_2.index t = ![0, (win0_4.index t) 1]
    ∧ win0_3.index t = ![0, 0] ∧ win0_5.index t = ![(win0_4.index t) 0, 0] :=
  (by decide +kernel : ∀ t : Fin grid0.N, win0_0.index t = ![(win0_4.index t) 0, 0] ∧ win0_1.index t = ![0, 0] ∧ win0_2.index t = ![0, (win0_4.index t) 1]
    ∧ win0_3.index t = ![0, 0] ∧ win0_5.index t = ![(win0_4.index t) 0, 0])

/-- Row `r` of the input, normalised and scaled, at column `k`. -/
def unit (x : FVec Ideal S16384x2048 .f32) (nw : FVec Ideal S2048 .f32) (r : Fin 16384) (k : Fin 2048) : EReal :=
  x (ix2 r k) * Ideal.rsqrt (Ideal.div (∑ k : Fin 2048, x (ix2 r k) * x (ix2 r k)) (Ideal.ofBits .f32 1157627904#32)
    + Ideal.ofBits .f32 897988541#32) * nw (ix1 k)

/-- That row times column `j` of the weights. -/
def proj (x : FVec Ideal S16384x2048 .f32) (nw : FVec Ideal S2048 .f32) (w : FVec Ideal S2048x7184 .f32) (r : Fin 16384) (j : Fin 7184) : EReal :=
  ∑ k : Fin 2048, unit x nw r k * w (ix2 k j)

/-- The main result. -/
def G (x : FVec Ideal S16384x2048 .f32) (nw : FVec Ideal S2048 .f32) (w : FVec Ideal S2048x7184 .f32) : FVec Ideal S16384x7168 .bf16 := fun i =>
  proj x nw w (i 0) (col (i 1))

/-- The gate columns' result. -/
def H (x : FVec Ideal S16384x2048 .f32) (nw : FVec Ideal S2048 .f32) (w : FVec Ideal S2048x7184 .f32) : FVec Ideal S16384x128 .f32 := fun i =>
  if h : (i 1).val < 16 then proj x nw w (i 0) ⟨7168 + (i 1).val, by omega⟩ else 0

/-- The rows a point reads are those of the input. -/
theorem rows_eq (c : Dev nD) (t : Fin cfg0.N) (r : Fin 1024) (k : Fin 2048) (R : Fin 16384) (hR : R.val = 1024 * (win0_4.index t) 0 + r.val) :
    rows m c t (ix2 r k) = unit (m ((c : Thread nD τ).loc main_arg0)) (m ((c : Thread nD τ).loc main_arg1)) R k := by
  have h0 : ∀ k : Fin 2048, iblk m c 0 t (ix2 r k) = (m ((c : Thread nD τ).loc main_arg0) : FVec Ideal S16384x2048 .f32) (ix2 R k) := by
    intro k
    obtain ⟨e0, -⟩ := idx t
    rw [← V_main_arg0 m c]
    blk_point [iblk, e0, hR]
  have h1 : iblk m c 1 t (ix2 0 k) = (m ((c : Thread nD τ).loc main_arg1) : FVec Ideal S2048 .f32) (ix1 k) := by
    obtain ⟨-, e1, -⟩ := idx t
    rw [← scale_w m c]
    blk_point [iblk, e1]
  exact congrArg₂ (fun a b : EReal => a * b) (congrArg₂ (fun a b : EReal => a * b) (h0 k)
    (congrArg (fun s : EReal => Ideal.rsqrt (Ideal.div s (Ideal.ofBits .f32 1157627904#32) + Ideal.ofBits .f32 897988541#32))
      (Finset.sum_congr rfl fun k _ => congrArg₂ (fun a b : EReal => a * b) (h0 k) (h0 k)))) h1

/-- The kernel's main array after all grid points is `G`. -/
theorem main_array (c : Dev nD) : (dats m 0 c).arrAt 4 cfg0.N
    = G (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after_4]
  idx_vars y
  obtain ⟨-, -, e2, -, -⟩ := idx t
  pointwise [block, k0_pay3, G, proj]
  have hw : ∀ k : Fin 2048, iblk m c 2 t (ix2 k y1)
      = (V m c main_v10 : FVec Ideal S2048x7168 .bf16) (ix2 k (((View.whole main_v15_0).slice (win0_4.rect t)).emb (ix2 y0 y1) 1)) := by
    intro k
    blk_point [iblk, e2]
  refine congrArg (fun f : Fin 2048 → EReal => ∑ k, f k) (funext fun k => congrArg₂ (fun a b : EReal => a * b) (rows_eq m c t y0 k _ ?_) ((hw k).trans (main_w m c k _)))
  rw [Nat.mul_comm]
  blk_point []

/-- The kernel's gate array after all grid points is `H`. -/
theorem gate_array (c : Dev nD) : (dats m 0 c).arrAt 5 cfg0.N
    = H (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after_5]
  idx_vars y
  obtain ⟨-, -, -, e3, e5⟩ := idx t
  pointwise [gates, k0_pay2, H, proj]
  have h1 : (((View.whole main_v15_1).slice (win0_5.rect t)).emb (ix2 y0 y1) 1).val = y1.val := by
    blk_point [e5]
  have hw : ∀ k : Fin 2048, iblk m c 3 t (ix2 k y1) = (V m c main_v13 : FVec Ideal S2048x128 .bf16) (ix2 k y1) := by
    intro k
    blk_point [iblk, e3]
  split
  · refine congrArg (fun f : Fin 2048 → EReal => ∑ k, f k) (funext fun k => congrArg₂ (fun a b : EReal => a * b) (rows_eq m c t y0 k _ ?_) ((hw k).trans ((gate_w m c k _).trans ?_)))
    · rw [Nat.mul_comm]
      blk_point [e5]
    · rename_i hp
      rw [h1] at hp
      rw [dif_pos hp]
      exact congrArg _ (congrArg₂ ix2 rfl (Fin.ext (congrArg (fun n => 7168 + n) h1.symm)))
  · rename_i hn
    rw [h1] at hn
    refine (congrArg (fun f : Fin 2048 → EReal => ∑ k, f k) (funext fun k => ?_)).trans
      (Finset.sum_const_zero (s := (Finset.univ : Finset (Fin 2048))))
    refine (congrArg (fun b : EReal => (rows m c t (ix2 y0 k) : EReal) * b) ((hw k).trans ((gate_w m c k _).trans (dif_neg hn)))).trans ?_
    exact mul_zero _

/-- The kernel ends with `G` and `H` of its arguments, which end as they began. -/
theorem run_value (ρ : Dev nD → PrngReg) : θ_run defs (onTc (τ := τ) (main (F := Ideal))) ⟨m, fun _ => 0, ρ⟩ fun r => ∀ c : Dev nD,
      r.2.mem ((c : Thread nD τ).loc main_v15_0) = G (m ((c : Thread nD τ).loc main_arg0)) (m ((c : Thread nD τ).loc main_arg1)) (m ((c : Thread nD τ).loc main_arg2))
      ∧ r.2.mem ((c : Thread nD τ).loc main_v15_1) = H (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 4).trans (main_array m c), ((h.1.1 c).1 5).trans (gate_array m c), h.2 c⟩)
    (θ_run_and (launched m ρ) (frame_of m ρ (dats m) (dats_A m) ((θ_run defs _ _).mono (fun _ h => h.1) (launched m ρ))))

/-- The reference ends with its arguments as they were and no semaphore held. -/
theorem reference_frame : Cert.quiescent_InputRefIdeal := fun m g _ =>
  (θ_run Cert.InputRefIdeal.defs _ _).mono
    (fun r h => ⟨fun c => (h c).2.2, Idealize.ShloMosaic.sem_eq_zero_of_no_sems (by decide) r.2⟩)
    (Cert.InputRefIdeal.Value.run m g)

/-- The kernel and the reference hold the same two arrays on the same arguments. -/
theorem algebraic : Cert.algebraic_InputIdeal_InputRefIdeal := by
  pair_intro
  · run_from Cert.InputTie.run_value m g
  · run_from Cert.InputRefIdeal.Value.run m' g'
    · funext j
      idx_vars j
      have hj := j1.isLt
      pointwise [G, proj, unit]
      rw [(hagree c).2.2]
      split
      · refine congrArg (fun f : Fin 2048 → EReal => ∑ k, f k) (funext fun x => congrArg (fun a : EReal => _ * a) (congrArg _ (congrArg₂ ix2 rfl (Fin.ext ?_))))
        simp only [col]
        split <;> omega
      · split
        · refine congrArg (fun f : Fin 2048 → EReal => ∑ k, f k) (funext fun x => congrArg (fun a : EReal => _ * a) (congrArg _ (congrArg₂ ix2 rfl (Fin.ext ?_))))
          simp only [col]
          split <;> omega
        · refine congrArg (fun f : Fin 2048 → EReal => ∑ k, f k) (funext fun x => congrArg (fun a : EReal => _ * a) (congrArg _ (congrArg₂ ix2 rfl (Fin.ext ?_))))
          simp only [col]
          split <;> omega
    · funext j
      idx_vars j
      have hj := j1.isLt
      pointwise [H, proj, unit]
      split
      · rfl
      · show ((((0#32 : BitVec 32).toInt : ℝ)) : EReal) = 0
        simp

end Cert.InputTie

end
-- ==== Proof.MixOutValue.lean ====
/-
  The output projection of the retention and attention heads: the residual plus the product of the two
  halves of the mixed features, each with its half of the weights. The reference contracts the joined
  features in one product.
-/
module

public import proofs.«01_k».proof.Defs
public import proofs.«01_k».proof.Proof.FfnDownValue
public import proofs.«01_k».proof.Proof.Gen.MixOutIdeal.Value
public import proofs.«01_k».proof.Proof.Gen.MixOutRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent

@[expose] public section

set_option maxRecDepth 16384

noncomputable section

namespace Cert.MixOutTie

open Idealize.ShloMosaic Idealize.ShloMosaic.TcCoe Idealize.SL.Sem Idealize.ShloMosaic.Pipeline
open Cert.MixOutIdeal Cert.MixOutIdeal.Gen

variable (m : (ℓ : Loc nD τ sig) → Buf (Elt Ideal) ℓ)

/-- The residual plus the two products, at row `i 0` and column `i 1`. -/
def G (res : FVec Ideal S16384x2048 .f32) (a b : FVec Ideal S16384x1024 .bf16) (w : FVec Ideal S2048x2048 .f32) :
    FVec Ideal S16384x2048 .f32 := fun i =>
  res (ix2 (i 0) (i 1)) + ∑ k : Fin 1024, a (ix2 (i 0) k) * w (ix2 ⟨k.val, by omega⟩ (i 1))
    + ∑ k : Fin 1024, b (ix2 (i 0) k) * w (ix2 ⟨1024 + k.val, by omega⟩ (i 1))

/-- The block indices of the operands, from the output block's. -/
theorem idx : ∀ t : Fin cfg0.N,
    win0_0.index t = ![(win0_5.index t) 0, 0] ∧ win0_1.index t = ![(win0_5.index t) 0, 0] ∧ win0_2.index t = ![0, (win0_5.index t) 1]
    ∧ win0_3.index t = ![1, (win0_5.index t) 1] ∧ win0_4.index t = win0_5.index t :=
  (by decide +kernel : ∀ t : Fin grid0.N,
    win0_0.index t = ![(win0_5.index t) 0, 0] ∧ win0_1.index t = ![(win0_5.index t) 0, 0] ∧ win0_2.index t = ![0, (win0_5.index t) 1]
    ∧ win0_3.index t = ![1, (win0_5.index t) 1] ∧ win0_4.index t = win0_5.index t)

/-- The kernel's array after all grid points is `G`. -/
theorem array (c : Dev nD) : (dats m 0 c).arrAt 5 cfg0.N
    = G (m ((c : Thread nD τ).loc main_arg3)) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, G]
  blk_point [iblk, V, idx t]

/-- At exact arithmetic the output projection and its reference leave equal arrays. -/
theorem algebraic : Cert.algebraic_MixOutIdeal_MixOutRefIdeal := by
  pair_intro
  · run_from Cert.MixOutIdeal.Value.run_blocks m g
  · run_from Cert.MixOutRefIdeal.Value.run m' g'
    rw [array m c]
    funext j
    idx_vars j
    pointwise [G]
    exact (add_assoc _ _ _).symm

/-- The reference ends with its arguments as they were and no semaphore held. -/
theorem reference_frame : Cert.quiescent_MixOutRefIdeal := fun m g _ =>
  (θ_run Cert.MixOutRefIdeal.defs _ _).mono
    (fun r h => ⟨fun c => (h c).2, Idealize.ShloMosaic.sem_eq_zero_of_no_sems (by decide) r.2⟩)
    (Cert.MixOutRefIdeal.Value.run m g)

end Cert.MixOutTie

end
-- ==== Proof.QkvValue.lean ====
/-
  The joint projection to queries, keys and values of the dilated attention. At the first of the 6 column
  blocks of a row block the kernel normalises the 1024 rows, 128 at a time, into a scratch buffer which the
  other points read. So every point's output block is the contraction of the same normalised rows with its
  columns of the weights.
-/
module

public import proofs.«01_k».proof.Defs
public import proofs.«01_k».proof.Proof.FfnUpValue
public import proofs.«01_k».proof.Proof.Gen.QkvIdeal.Value
public import proofs.«01_k».proof.Proof.Gen.QkvRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent

@[expose] public section

set_option maxRecDepth 16384

noncomputable section

namespace Cert.QkvTie

open Idealize.ShloMosaic Idealize.ShloMosaic.TcCoe Idealize.SL.Sem Idealize.ShloMosaic.Pipeline
open Cert.QkvIdeal Cert.QkvIdeal.Gen

variable (m : (ℓ : Loc nD τ sig) → Buf (Elt Ideal) ℓ)

/-- Row `i 0` of the input, normalised by its root mean square and scaled by the weight, at column `i 1`. -/
def normed (x : FVec Ideal S1024x2048 .f32) (w : FVec Ideal S1x2048 .f32) : FVec Ideal S1024x2048 .bf16 := fun i =>
  x (ix2 (i 0) (i 1)) * Ideal.rsqrt (Ideal.div (∑ k : Fin 2048, x (ix2 (i 0) k) * x (ix2 (i 0) k)) (Ideal.ofBits .f32 1157627904#32)
    + Ideal.ofBits .f32 897988541#32) * w (ix2 0 (i 1))

section Points

variable (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S1024x1024 .f32) (harg5 : arg5.IsWhole) (arg6 : Memref sig .tc .vmem S1024x2048 .bf16) (harg6 : arg6.IsWhole) (h1 : k0_cond1 i = 1#1) (x0 : Vec Ideal S1024x2048 .f32) (x1 : Vec Ideal S1x2048 .f32)

/-- What a trip of the normalising loop stores is its 128 rows of `normed`. -/
theorem trip_piece (k : Fin k0_t1_loop.trips) :
    ∀ p ∈ (trip_k0_t1 (F := Ideal) Variants.none c none i arg2 harg2 arg3 harg3 arg4 harg4 arg5 harg5 arg6 harg6 h1
        (harg2.unread x0) (harg3.unread x1) k).1, ∀ y : p.1.shape.Idx, p.2 y = normed x0 x1 (p.1.emb y) := by
  unfold trip_k0_t1
  dsimp only
  intro p hp y
  obtain rfl := List.mem_singleton.mp hp
  dsimp only at y ⊢
  have e := k0_off1_eq k
  simp only [View.readAt_eq_ld, harg2.read_unread, harg3.read_unread]
  pointwise [k0_pay1, normed]
  blk_point [e]

/-- All the trips before `k` store rows of `normed`. -/
theorem loop_pieces : ∀ k ≤ k0_t1_loop.trips,
    ∀ p ∈ pb_k0_t1 (F := Ideal) Variants.none c none i arg2 harg2 arg3 harg3 arg4 harg4 arg5 harg5 arg6 harg6 h1
        (harg2.unread x0) (harg3.unread x1) k, ∀ y : p.1.shape.Idx, p.2 y = normed x0 x1 (p.1.emb y)
  | 0, _, p, hp, _ => absurd hp List.not_mem_nil
  | k + 1, hk, p, hp, y => by
    rw [pb_k0_t1_succ (k := ⟨k, hk⟩)] at hp
    rcases List.mem_append.mp hp with hp | hp
    · exact trip_piece c i arg2 harg2 arg3 harg3 arg4 harg4 arg5 harg5 arg6 harg6 h1 x0 x1 ⟨k, hk⟩ p hp y
    · exact loop_pieces k (Nat.le_of_succ_le hk) p hp y

/-- The loop's stores reach every cell of the scratch. -/
theorem loop_cover (y : S1024x2048.Idx) :
    ∃ p ∈ pb_k0_t1 (F := Ideal) Variants.none c none i arg2 harg2 arg3 harg3 arg4 harg4 arg5 harg5 arg6 harg6 h1
        (harg2.unread x0) (harg3.unread x1) (Scf.trips (0#32) (Scalar.addi 0#32 8#32) 1#32), y ∈ p.1.set :=
  View.cover_of_tiledL (pb_k0_t1 (F := Ideal) Variants.none c none i arg2 harg2 arg3 harg3 arg4 harg4 arg5 harg5 arg6 harg6 h1
        (harg2.unread x0) (harg3.unread x1) (Scf.trips (0#32) (Scalar.addi 0#32 8#32) 1#32)) S128x2048.size (by sl_kernel_rfl) y

/-- The scratch after the loop is `normed`. -/
theorem loop_canon :
    View.canon (pb_k0_t1 (F := Ideal) Variants.none c none i arg2 harg2 arg3 harg3 arg4 harg4 arg5 harg5 arg6 harg6 h1
        (harg2.unread x0) (harg3.unread x1) (Scf.trips (0#32) (Scalar.addi 0#32 8#32) 1#32)) = normed x0 x1 :=
  funext fun y => View.canon_eq_of_allAt _ y _ (loop_cover c i arg2 harg2 arg3 harg3 arg4 harg4 arg5 harg5 arg6 harg6 h1 x0 x1 y)
    fun p hp x hx => hx ▸ loop_pieces c i arg2 harg2 arg3 harg3 arg4 harg4 arg5 harg5 arg6 harg6 h1 x0 x1 _ le_rfl p hp x

/-- The scratch a point of a run's first column block leaves. -/
theorem scratch_A (x2 : Vec Ideal S2048x1024 .bf16) (hc0 : cond0_0 i) :
    sout0_A_0 c i arg2 harg2 arg3 harg3 arg4 harg4 arg5 harg5 arg6 harg6 hc0 x0 x1 x2 = normed x0 x1 := by
  frame_out
  exact loop_canon c i arg2 harg2 arg3 harg3 arg4 harg4 arg5 harg5 arg6 harg6 hc0 x0 x1

/-- The output block of such a point: the payload at the scratch just filled. -/
theorem out_A (x2 : Vec Ideal S2048x1024 .bf16) (hc0 : cond0_0 i) :
    out0_A_3 c i arg2 harg2 arg3 harg3 arg4 harg4 arg5 harg5 arg6 harg6 hc0 x0 x1 x2
      = k0_pay2 (F := Ideal) (normed x0 x1) x2 := by
  have e : arg6.view.readCov (pb_k0_t1 (F := Ideal) Variants.none c none i arg2 harg2 arg3 harg3 arg4 harg4 arg5 harg5 arg6 harg6 hc0
          (harg2.unread x0) (harg3.unread x1) (Scf.trips (0#32) (Scalar.addi 0#32 8#32) 1#32))
        (Rect.unit ![0, 0] ![1024, 2048] inb_S1024x2048_S1024x2048_0_0).toLoadRect = normed x0 x1 := by
    rw [View.readCov_eq_canon_ld _ _ _ (loop_cover c i arg2 harg2 arg3 harg3 arg4 harg4 arg5 harg5 arg6 harg6 hc0 x0 x1),
      loop_canon]
    exact View.ld_unit_lit _ _ (by decide)
  frame_out
  rw [e]

/-- The output block of the other points: the payload at the scratch they find. -/
theorem out_B (x2 : Vec Ideal S2048x1024 .bf16) (hc0 : ¬cond0_0 i) (xs : Vec Ideal S1024x2048 .bf16) :
    out0_B_3 c i arg2 harg2 arg3 harg3 arg4 harg4 arg5 harg5 arg6 harg6 hc0 x0 x1 x2 xs
      = k0_pay2 (F := Ideal) xs x2 := by
  frame_out

end Points

/-- The rows of grid point `t`, normalised. -/
def rows (c : Dev nD) (t : Fin cfg0.N) : FVec Ideal S1024x2048 .bf16 := normed (iblk m c 0 t) (iblk m c 1 t)

/-- The 6 points of one run read the same rows. -/
theorem idx : ∀ t : Fin cfg0.N, ∀ h : 6 * (t.val / 6) < cfg0.N,
    win0_0.index ⟨6 * (t.val / 6), h⟩ = ![(win0_3.index t) 0, 0] ∧ win0_0.index t = ![(win0_3.index t) 0, 0] ∧ win0_1.index t = ![0, 0] ∧ win0_1.index ⟨6 * (t.val / 6), h⟩ = ![0, 0]
    ∧ win0_2.index t = ![0, (win0_3.index t) 1] :=
  (by decide +kernel : ∀ t : Fin grid0.N, ∀ h : 6 * (t.val / 6) < grid0.N,
    win0_0.index ⟨6 * (t.val / 6), h⟩ = ![(win0_3.index t) 0, 0] ∧ win0_0.index t = ![(win0_3.index t) 0, 0] ∧ win0_1.index t = ![0, 0] ∧ win0_1.index ⟨6 * (t.val / 6), h⟩ = ![0, 0]
    ∧ win0_2.index t = ![0, (win0_3.index t) 1])

/-- At every point the scratch holds the normalised rows of the point's own row block. -/
theorem scratch (c : Dev nD) (t : Fin cfg0.N) : (outsAt0 m c t.val t.isLt).2 = rows m c t := by
  funext y
  rw [Pipeline.eq_of_write_hold_apply (fun n h => (outsAt0 m c n h).2) 6 (rows m c)
    (fun t ht y => by
      simp only [outsAt0_A m c t ht]
      rw [scratch_A]; rfl)
    (fun t ht y => by
      simp only [outsAt0_B m c t ht]
      rfl) t y]
  idx_vars y
  simp only [rows, normed]
  obtain ⟨e0, e1, e2, e3, -⟩ := idx t (Pipeline.run_start_lt t)
  blk_point [iblk, V, e0, e1, e2, e3]

/-- The projection of the normalised rows, at row `i 0` and feature `i 1`. -/
def G (x : FVec Ideal S16384x2048 .f32) (nw : FVec Ideal S2048 .f32) (w : FVec Ideal S2048x6144 .f32) :
    FVec Ideal S16384x6144 .f32 := fun i =>
  ∑ k : Fin 2048, x (ix2 (i 0) k) * Ideal.rsqrt (Ideal.div (∑ k : Fin 2048, x (ix2 (i 0) k) * x (ix2 (i 0) k)) (Ideal.ofBits .f32 1157627904#32)
    + Ideal.ofBits .f32 897988541#32) * nw (ix1 k) * w (ix2 k (i 1))

/-- The kernel's array after all grid points is `G`. -/
theorem array (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : (outsAt0 m c t.val t.isLt).1 = k0_pay2 (F := Ideal) (rows m c t) (iblk m c 2 t) := by
    by_cases ht : t.val % 6 = 0
    · simp only [outsAt0_A m c t ht]
      rw [out_A]; rfl
    · have hs := scratch m c t
      simp only [outsAt0_B m c t ht] at hs ⊢
      rw [out_B]
      rw [show (outsAt0 m c (t.val - 1) (Nat.lt_of_le_of_lt (Nat.sub_le _ _) t.isLt)).2 = rows m c t from hs]
  blk_simp
  rw [after0_3, h]
  obtain ⟨-, e1, e2, -, e3⟩ := idx t (Pipeline.run_start_lt t)
  pointwise [k0_pay2, G, rows, normed]
  blk_point [iblk, V, e1, e2, e3]

/-- At exact arithmetic the projection and its reference leave equal arrays. -/
theorem algebraic : Cert.algebraic_QkvIdeal_QkvRefIdeal := by
  pair_intro
  · run_from Cert.QkvIdeal.Value.run_blocks m g
  · run_from Cert.QkvRefIdeal.Value.run m' g'
    rw [array m c]
    funext j
    idx_vars j
    pointwise [G]

/-- The reference ends with its arguments as they were and no semaphore held. -/
theorem reference_frame : Cert.quiescent_QkvRefIdeal := fun m g _ =>
  (θ_run Cert.QkvRefIdeal.defs _ _).mono
    (fun r h => ⟨fun c => (h c).2, Idealize.ShloMosaic.sem_eq_zero_of_no_sems (by decide) r.2⟩)
    (Cert.QkvRefIdeal.Value.run m g)

end Cert.QkvTie

end
-- ==== Proof.AttOutValue.lean ====
/-
  The output projection of the dilated attention: the residual plus the contraction of the attended rows
  with the weights, over the 2048 features. Each of the 64 grid points writes one block of 1024 rows by
  512 columns.
-/
module

public import proofs.«01_k».proof.Defs
public import proofs.«01_k».proof.Proof.Gen.AttOutIdeal.Value
public import proofs.«01_k».proof.Proof.Gen.AttOutRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.AttOutTie

open Idealize.ShloMosaic Idealize.ShloMosaic.TcCoe Idealize.SL.Sem Idealize.ShloMosaic.Pipeline
open Cert.AttOutIdeal Cert.AttOutIdeal.Gen

variable (m : (ℓ : Loc nD τ sig) → Buf (Elt Ideal) ℓ)

/-- The residual plus the product, at row `i 0` and column `i 1`. -/
def G (res : FVec Ideal S16384x2048 .f32) (x : FVec Ideal S16384x2048 .bf16) (w : FVec Ideal S2048x2048 .f32) :
    FVec Ideal S16384x2048 .f32 := fun i =>
  res (ix2 (i 0) (i 1)) + ∑ k : Fin 2048, x (ix2 (i 0) k) * w (ix2 k (i 1))

theorem idx : ∀ t : Fin cfg0.N,
    win0_0.index t = ![(win0_3.index t) 0, 0] ∧ win0_1.index t = ![0, (win0_3.index t) 1]
    ∧ win0_2.index t = win0_3.index t :=
  (by decide +kernel : ∀ t : Fin grid0.N, win0_0.index t = ![(win0_3.index t) 0, 0] ∧ win0_1.index t = ![0, (win0_3.index t) 1]
    ∧ win0_2.index t = win0_3.index t)

/-- The kernel's array after all grid points is `G`. -/
theorem array (c : Dev nD) : (dats m 0 c).arrAt 3 cfg0.N
    = G (m ((c : Thread nD τ).loc main_arg2)) (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, G]
  blk_point [iblk, V, idx t]

/-- The reference's composed term is `G` of the same arrays. -/
theorem reference (res : FVec Ideal S16384x2048 .f32) (x : FVec Ideal S16384x2048 .bf16) (w : FVec Ideal S2048x2048 .f32) :
    addf res (Host.dotGeneral (F := Ideal) Cert.AttOutRefIdeal.dot_S16384x2048_S2048x2048_S16384x2048_1_0_0_1_n_n none
      (extf .f32 x bitsLt_bf16_f32) w) = G res x w := by
  funext j
  idx_vars j
  pointwise [G]

/-- At exact arithmetic the attention's output projection and its reference leave equal arrays. -/
theorem algebraic : Cert.algebraic_AttOutIdeal_AttOutRefIdeal := by
  pair_intro
  · run_from Cert.AttOutIdeal.Value.run_blocks m g
  · run_from Cert.AttOutRefIdeal.Value.run m' g'
    rw [array m c]
    exact reference _ _ _

/-- The reference ends with its arguments as they were and no semaphore held. -/
theorem reference_frame : Cert.quiescent_AttOutRefIdeal := fun m g _ =>
  (θ_run Cert.AttOutRefIdeal.defs _ _).mono
    (fun r h => ⟨fun c => (h c).2, Idealize.ShloMosaic.sem_eq_zero_of_no_sems (by decide) r.2⟩)
    (Cert.AttOutRefIdeal.Value.run m g)

end Cert.AttOutTie

end
-- ==== Proof.PleValue.lean ====
/-
  The per-layer embedding: the residual plus the sigmoid gate of the normalised rows times the projection of
  the layer's embedding. At the first of the 4 column blocks of a row block the kernel normalises the 1024 rows,
  128 at a time, into one scratch buffer and keeps the embedding's rows in another; the other points
  read both.
-/
module

public import proofs.«01_k».proof.Defs
public import proofs.«01_k».proof.Proof.QkvValue
public import proofs.«01_k».proof.Proof.Gen.PleIdeal.Value
public import proofs.«01_k».proof.Proof.Gen.PleRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent

@[expose] public section

set_option maxRecDepth 16384

noncomputable section

namespace Cert.PleTie

open Idealize.ShloMosaic Idealize.ShloMosaic.TcCoe Idealize.SL.Sem Idealize.ShloMosaic.Pipeline
open Cert.PleIdeal Cert.PleIdeal.Gen

variable (m : (ℓ : Loc nD τ sig) → Buf (Elt Ideal) ℓ)

/-- Row `i 0` of the input, normalised by its root mean square and scaled by the weight, at column `i 1`. -/
def normed (x : FVec Ideal S1024x2048 .f32) (w : FVec Ideal S1x2048 .f32) : FVec Ideal S1024x2048 .bf16 := fun i =>
  x (ix2 (i 0) (i 1)) * Ideal.rsqrt (Ideal.div (∑ k : Fin 2048, x (ix2 (i 0) k) * x (ix2 (i 0) k)) (Ideal.ofBits .f32 1157627904#32)
    + Ideal.ofBits .f32 897988541#32) * w (ix2 0 (i 1))

/-- The columns of the residual that a grid point's output block has. -/
def piece (i : grid0.Coords) (x : Vec Ideal S1024x2048 .f32) : Vec Ideal S1024x512 .f32 :=
  View.ld x (Rect.unit (s := S1024x2048) (k0_off2 i) S1024x512.size (k0_off2_inb i))

section Points

variable (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S1024x256 .f32) (harg5 : arg5.IsWhole) (arg6 : Memref sig .tc .vmem S256x512 .bf16) (harg6 : arg6.IsWhole)
    (arg7 : Memref sig .tc .vmem S1024x512 .f32) (harg7 : arg7.IsWhole) (arg8 : Memref sig .tc .vmem S1024x2048 .bf16) (harg8 : arg8.IsWhole) (arg9 : Memref sig .tc .vmem S1024x256 .bf16) (harg9 : arg9.IsWhole) (h1 : k0_cond1 i = 1#1) (x0 : Vec Ideal S1024x2048 .f32) (x1 : Vec Ideal S1x2048 .f32)

/-- What a trip of the normalising loop stores is its 128 rows of `normed`. -/
theorem trip_piece (k : Fin k0_t1_loop.trips) :
    ∀ p ∈ (trip_k0_t1 (F := Ideal) Variants.none c none i arg2 harg2 arg3 harg3 arg4 harg4 arg5 harg5 arg6 harg6 arg7 harg7 arg8 harg8 arg9 harg9 h1
        (harg2.unread x0) (harg3.unread x1) k).1, ∀ y : p.1.shape.Idx, p.2 y = normed x0 x1 (p.1.emb y) := by
  unfold trip_k0_t1
  dsimp only
  intro p hp y
  obtain rfl := List.mem_singleton.mp hp
  dsimp only at y ⊢
  have e := k0_off1_eq k
  simp only [View.readAt_eq_ld, harg2.read_unread, harg3.read_unread]
  pointwise [k0_pay1, normed]
  blk_point [e]

/-- All the trips before `k` store rows of `normed`. -/
theorem loop_pieces : ∀ k ≤ k0_t1_loop.trips,
    ∀ p ∈ pb_k0_t1 (F := Ideal) Variants.none c none i arg2 harg2 arg3 harg3 arg4 harg4 arg5 harg5 arg6 harg6 arg7 harg7 arg8 harg8 arg9 harg9 h1
        (harg2.unread x0) (harg3.unread x1) k, ∀ y : p.1.shape.Idx, p.2 y = normed x0 x1 (p.1.emb y)
  | 0, _, p, hp, _ => absurd hp List.not_mem_nil
  | k + 1, hk, p, hp, y => by
    rw [pb_k0_t1_succ (k := ⟨k, hk⟩)] at hp
    rcases List.mem_append.mp hp with hp | hp
    · exact trip_piece c i arg2 harg2 arg3 harg3 arg4 harg4 arg5 harg5 arg6 harg6 arg7 harg7 arg8 harg8 arg9 harg9 h1 x0 x1 ⟨k, hk⟩ p hp y
    · exact loop_pieces k (Nat.le_of_succ_le hk) p hp y

/-- The loop's stores reach every cell of the scratch. -/
theorem loop_cover (y : S1024x2048.Idx) :
    ∃ p ∈ pb_k0_t1 (F := Ideal) Variants.none c none i arg2 harg2 arg3 harg3 arg4 harg4 arg5 harg5 arg6 harg6 arg7 harg7 arg8 harg8 arg9 harg9 h1
        (harg2.unread x0) (harg3.unread x1) (Scf.trips (0#32) (Scalar.addi 0#32 8#32) 1#32), y ∈ p.1.set :=
  View.cover_of_tiledL (pb_k0_t1 (F := Ideal) Variants.none c none i arg2 harg2 arg3 harg3 arg4 harg4 arg5 harg5 arg6 harg6 arg7 harg7 arg8 harg8 arg9 harg9 h1
        (harg2.unread x0) (harg3.unread x1) (Scf.trips (0#32) (Scalar.addi 0#32 8#32) 1#32)) S128x2048.size (by sl_kernel_rfl) y

/-- The scratch after the loop is `normed`. -/
theorem loop_canon :
    View.canon (pb_k0_t1 (F := Ideal) Variants.none c none i arg2 harg2 arg3 harg3 arg4 harg4 arg5 harg5 arg6 harg6 arg7 harg7 arg8 harg8 arg9 harg9 h1
        (harg2.unread x0) (harg3.unread x1) (Scf.trips (0#32) (Scalar.addi 0#32 8#32) 1#32)) = normed x0 x1 :=
  funext fun y => View.canon_eq_of_allAt _ y _ (loop_cover c i arg2 harg2 arg3 harg3 arg4 harg4 arg5 harg5 arg6 harg6 arg7 harg7 arg8 harg8 arg9 harg9 h1 x0 x1 y)
    fun p hp x hx => hx ▸ loop_pieces c i arg2 harg2 arg3 harg3 arg4 harg4 arg5 harg5 arg6 harg6 arg7 harg7 arg8 harg8 arg9 harg9 h1 x0 x1 _ le_rfl p hp x

variable (x2 : Vec Ideal S2048x512 .bf16) (x3 : Vec Ideal S1024x256 .f32) (x4 : Vec Ideal S256x512 .bf16)

/-- The normalised rows that a point of a run's first column block leaves. -/
theorem scratch_A (hc0 : cond0_0 i) : sout0_A_0 c i arg2 harg2 arg3 harg3 arg4 harg4 arg5 harg5 arg6 harg6 arg7 harg7 arg8 harg8 arg9 harg9 hc0 x0 x1 x2 x3 x4 = normed x0 x1 := by
  frame_out
  exact loop_canon c i arg2 harg2 arg3 harg3 arg4 harg4 arg5 harg5 arg6 harg6 arg7 harg7 arg8 harg8 arg9 harg9 hc0 x0 x1

/-- The embedding's rows that such a point leaves. -/
theorem scratch2_A (hc0 : cond0_0 i) : sout0_A_1 c i arg2 harg2 arg3 harg3 arg4 harg4 arg5 harg5 arg6 harg6 arg7 harg7 arg8 harg8 arg9 harg9 hc0 x0 x1 x2 x3 x4 = k0_pay2 (F := Ideal) x3 := by
  frame_out

/-- The output block of such a point: the payload at the two scratch buffers just filled. -/
theorem out_A (hc0 : cond0_0 i) : out0_A_5 c i arg2 harg2 arg3 harg3 arg4 harg4 arg5 harg5 arg6 harg6 arg7 harg7 arg8 harg8 arg9 harg9 hc0 x0 x1 x2 x3 x4
      = k0_pay3 (F := Ideal) (normed x0 x1) x2 (k0_pay2 (F := Ideal) x3) x4 (piece i x0) := by
  have e : arg8.view.readCov (pb_k0_t1 (F := Ideal) Variants.none c none i arg2 harg2 arg3 harg3 arg4 harg4 arg5 harg5 arg6 harg6 arg7 harg7 arg8 harg8 arg9 harg9 hc0
          (harg2.unread x0) (harg3.unread x1) (Scf.trips (0#32) (Scalar.addi 0#32 8#32) 1#32))
        (Rect.unit ![0, 0] ![1024, 2048] inb_S1024x2048_S1024x2048_0_0).toLoadRect = normed x0 x1 := by
    rw [View.readCov_eq_canon_ld _ _ _ (loop_cover c i arg2 harg2 arg3 harg3 arg4 harg4 arg5 harg5 arg6 harg6 arg7 harg7 arg8 harg8 arg9 harg9 hc0 x0 x1),
      loop_canon]
    exact View.ld_unit_lit _ _ (by decide)
  frame_out
  rw [e]
  rfl

/-- The output block of the other points: the payload at the scratch buffers they find. -/
theorem out_B (hc0 : ¬cond0_0 i) (xs : Vec Ideal S1024x2048 .bf16) (ys : Vec Ideal S1024x256 .bf16) :
    out0_B_5 c i arg2 harg2 arg3 harg3 arg4 harg4 arg5 harg5 arg6 harg6 arg7 harg7 arg8 harg8 arg9 harg9 hc0 x0 x1 x2 x3 x4 xs ys = k0_pay3 (F := Ideal) xs x2 ys x4 (piece i x0) := by
  frame_out
  rfl

end Points

/-- The rows of grid point `t`, normalised. -/
def rows (c : Dev nD) (t : Fin cfg0.N) : FVec Ideal S1024x2048 .bf16 := normed (iblk m c 0 t) (iblk m c 1 t)

/-- The embedding's rows at grid point `t`. -/
def emb (c : Dev nD) (t : Fin cfg0.N) : FVec Ideal S1024x256 .bf16 := k0_pay2 (F := Ideal) (iblk m c 3 t)

/-- The 4 points of one run read the same rows. -/
theorem idx : ∀ t : Fin cfg0.N, ∀ h : 4 * (t.val / 4) < cfg0.N,
    win0_0.index ⟨4 * (t.val / 4), h⟩ = ![(win0_5.index t) 0, 0] ∧ win0_0.index t = ![(win0_5.index t) 0, 0] ∧ win0_1.index t = ![0, 0] ∧ win0_1.index ⟨4 * (t.val / 4), h⟩ = ![0, 0]
    ∧ win0_2.index t = ![0, (win0_5.index t) 1] ∧ win0_3.index t = ![(win0_5.index t) 0, 0] ∧ win0_3.index ⟨4 * (t.val / 4), h⟩ = ![(win0_5.index t) 0, 0]
    ∧ win0_4.index t = ![0, (win0_5.index t) 1] ∧ k0_off2 (grid0.coords t) = ![0, 512 * (win0_5.index t) 1] :=
  (by decide +kernel : ∀ t : Fin grid0.N, ∀ h : 4 * (t.val / 4) < grid0.N,
    win0_0.index ⟨4 * (t.val / 4), h⟩ = ![(win0_5.index t) 0, 0] ∧ win0_0.index t = ![(win0_5.index t) 0, 0] ∧ win0_1.index t = ![0, 0] ∧ win0_1.index ⟨4 * (t.val / 4), h⟩ = ![0, 0]
    ∧ win0_2.index t = ![0, (win0_5.index t) 1] ∧ win0_3.index t = ![(win0_5.index t) 0, 0] ∧ win0_3.index ⟨4 * (t.val / 4), h⟩ = ![(win0_5.index t) 0, 0]
    ∧ win0_4.index t = ![0, (win0_5.index t) 1] ∧ k0_off2 (grid0.coords t) = ![0, 512 * (win0_5.index t) 1])

/-- At every point the first scratch buffer holds the normalised rows of the point's own row block. -/
theorem scratch (c : Dev nD) (t : Fin cfg0.N) : (outsAt0 m c t.val t.isLt).2.1 = rows m c t := by
  funext y
  rw [Pipeline.eq_of_write_hold_apply (fun n h => (outsAt0 m c n h).2.1) 4 (rows m c)
    (fun t ht y => by
      simp only [outsAt0_A m c t ht]
      rw [scratch_A]; rfl)
    (fun t ht y => by
      simp only [outsAt0_B m c t ht]
      rfl) t y]
  idx_vars y
  simp only [rows, normed]
  obtain ⟨e0, e1, e2, e3, -⟩ := idx t (Pipeline.run_start_lt t)
  blk_point [iblk, V, e0, e1, e2, e3]

/-- At every point the second scratch buffer holds the embedding's rows of the point's own row block. -/
theorem scratch2 (c : Dev nD) (t : Fin cfg0.N) : (outsAt0 m c t.val t.isLt).2.2 = emb m c t := by
  funext y
  rw [Pipeline.eq_of_write_hold_apply (fun n h => (outsAt0 m c n h).2.2) 4 (emb m c)
    (fun t ht y => by
      simp only [outsAt0_A m c t ht]
      rw [scratch2_A]; rfl)
    (fun t ht y => by
      simp only [outsAt0_B m c t ht]
      rfl) t y]
  idx_vars y
  pointwise [emb, k0_pay2]
  obtain ⟨-, -, -, -, -, e4, e5, -⟩ := idx t (Pipeline.run_start_lt t)
  blk_point [iblk, V, e4, e5]

/-- The residual plus the gate times the projected embedding, at row `i 0` and feature `i 1`. -/
def G (x : FVec Ideal S16384x2048 .f32) (nw : FVec Ideal S2048 .f32) (wg : FVec Ideal S2048x2048 .f32) (p : FVec Ideal S16384x256 .f32)
    (wp : FVec Ideal S256x2048 .f32) : FVec Ideal S16384x2048 .f32 := fun i =>
  let n := fun k : Fin 2048 => x (ix2 (i 0) k) * Ideal.rsqrt (Ideal.div (∑ k : Fin 2048, x (ix2 (i 0) k) * x (ix2 (i 0) k)) (Ideal.ofBits .f32 1157627904#32)
    + Ideal.ofBits .f32 897988541#32) * nw (ix1 k)
  x (ix2 (i 0) (i 1)) + Ideal.logistic (∑ k : Fin 2048, n k * wg (ix2 k (i 1))) * ∑ k : Fin 256, p (ix2 (i 0) k) * wp (ix2 k (i 1))

/-- The kernel's array after all grid points is `G`. -/
theorem array (c : Dev nD) : (dats m 0 c).arrAt 5 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : (outsAt0 m c t.val t.isLt).1 = k0_pay3 (F := Ideal) (rows m c t) (iblk m c 2 t) (emb m c t) (iblk m c 4 t) (piece (grid0.coords t) (iblk m c 0 t)) := by
    by_cases ht : t.val % 4 = 0
    · simp only [outsAt0_A m c t ht]
      rw [out_A]; rfl
    · have hs := scratch m c t
      have hs2 := scratch2 m c t
      simp only [outsAt0_B m c t ht] at hs hs2 ⊢
      rw [out_B]
      rw [show (outsAt0 m c (t.val - 1) (Nat.lt_of_le_of_lt (Nat.sub_le _ _) t.isLt)).2.1 = rows m c t from hs,
        show (outsAt0 m c (t.val - 1) (Nat.lt_of_le_of_lt (Nat.sub_le _ _) t.isLt)).2.2 = emb m c t from hs2]
  blk_simp
  rw [after0_5, h]
  obtain ⟨-, e1, e2, -, e3, e4, -, e5, e6⟩ := idx t (Pipeline.run_start_lt t)
  pointwise [k0_pay3, G, rows, normed, emb, k0_pay2, piece]
  blk_point [iblk, V, e1, e2, e3, e4, e5, e6]

/-- At exact arithmetic the per-layer embedding and its reference leave equal arrays. -/
theorem algebraic : Cert.algebraic_PleIdeal_PleRefIdeal := by
  pair_intro
  · run_from Cert.PleIdeal.Value.run_blocks m g
  · run_from Cert.PleRefIdeal.Value.run m' g'
    rw [array m c]
    funext j
    idx_vars j
    pointwise [G]
    rfl

/-- The reference ends with its arguments as they were and no semaphore held. -/
theorem reference_frame : Cert.quiescent_PleRefIdeal := fun m g _ =>
  (θ_run Cert.PleRefIdeal.defs _ _).mono
    (fun r h => ⟨fun c => (h c).2, Idealize.ShloMosaic.sem_eq_zero_of_no_sems (by decide) r.2⟩)
    (Cert.PleRefIdeal.Value.run m g)

end Cert.PleTie

end
-- ==== Proof.FinalNormValue.lean ====
/-
  The last norm: every row over its root mean square, times the gain. Each of the 64 grid points writes 256
  rows.
-/
module

public import proofs.«01_k».proof.Defs
public import proofs.«01_k».proof.Proof.FfnDownValue
public import proofs.«01_k».proof.Proof.Gen.FinalNormIdeal.Value
public import proofs.«01_k».proof.Proof.Gen.FinalNormRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent

@[expose] public section

set_option maxRecDepth 16384

noncomputable section

namespace Cert.FinalNormTie

open Idealize.ShloMosaic Idealize.ShloMosaic.TcCoe Idealize.SL.Sem Idealize.ShloMosaic.Pipeline
open Cert.FinalNormIdeal Cert.FinalNormIdeal.Gen

variable (m : (ℓ : Loc nD τ sig) → Buf (Elt Ideal) ℓ)

/-- Row `i 0` over its root mean square, times the gain, at column `i 1`. -/
def G (x : FVec Ideal S16384x2048 .f32) (nw : FVec Ideal S2048 .f32) : FVec Ideal S16384x2048 .f32 := fun i =>
  x (ix2 (i 0) (i 1)) * Ideal.rsqrt (Ideal.div (∑ k : Fin 2048, x (ix2 (i 0) k) * x (ix2 (i 0) k)) (Ideal.ofBits .f32 1157627904#32)
    + Ideal.ofBits .f32 897988541#32) * nw (ix1 (i 1))

/-- The block indices of the operands, from the output block's. -/
theorem idx : ∀ t : Fin cfg0.N, win0_0.index t = win0_2.index t ∧ win0_1.index t = ![0, 0] ∧ (win0_2.index t) 1 = 0 :=
  (by decide +kernel : ∀ t : Fin grid0.N, win0_0.index t = win0_2.index t ∧ win0_1.index t = ![0, 0] ∧ (win0_2.index t) 1 = 0)

/-- The kernel's array after all grid points is `G`. -/
theorem array (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, G]
  obtain ⟨e0, e1, e2⟩ := idx t
  blk_point [iblk, V, e0, e1, e2]

/-- At exact arithmetic the last norm and its reference leave equal arrays. -/
theorem algebraic : Cert.algebraic_FinalNormIdeal_FinalNormRefIdeal := by
  pair_intro
  · run_from Cert.FinalNormIdeal.Value.run_blocks m g
  · run_from Cert.FinalNormRefIdeal.Value.run m' g'
    rw [array m c]
    funext j
    idx_vars j
    pointwise [G]

/-- The reference ends with its arguments as they were and no semaphore held. -/
theorem reference_frame : Cert.quiescent_FinalNormRefIdeal := fun m g _ =>
  (θ_run Cert.FinalNormRefIdeal.defs _ _).mono
    (fun r h => ⟨fun c => (h c).2, Idealize.ShloMosaic.sem_eq_zero_of_no_sems (by decide) r.2⟩)
    (Cert.FinalNormRefIdeal.Value.run m g)

end Cert.FinalNormTie

end
-- ==== Proof.GlaMath.lean ====
/-
  Gated linear attention of one head, chunk by chunk, over extended reals: the running sum of the log decay
  within a chunk, the state carried from chunk to chunk, and a row's output. With it the facts about sums
  and about the log decay which the kernel's blocks need.
-/
module

public import proofs.«01_k».proof.Defs
public import Idealize.ShloMosaic.Lib.Pointwise

@[expose] public section

noncomputable section

namespace Cert.GlaTie

open Idealize.ShloMosaic

/-- Row `i` of chunk `n`. -/
def ck (n : ℕ) (i : Fin 64) : Fin 2048 := ⟨(64 * n + i.val) % 2048, Nat.mod_lt _ (by decide)⟩

/-- The log decay's sum over rows `0` to `i` of chunk `n`. -/
def cum (la : Fin 2048 → Fin 128 → EReal) (n : ℕ) (i : Fin 64) (d : Fin 128) : EReal :=
  ∑ j : Fin 64, if j ≤ i then la (ck n j) d else 0

/-- The state before chunk `n`. -/
def st (la k : Fin 2048 → Fin 128 → EReal) (v : Fin 2048 → Fin 256 → EReal) : ℕ → Fin 256 → Fin 128 → EReal
  | 0 => fun _ _ => 0
  | n + 1 => fun e d => st la k v n e d * Ideal.exp (cum la n 63 d)
      + ∑ j : Fin 64, v (ck n j) e * (k (ck n j) d * Ideal.exp (cum la n 63 d - cum la n j d))

/-- Row `i` of chunk `n`: what it attends to inside the chunk, and through the state. -/
def att (la q k : Fin 2048 → Fin 128 → EReal) (v : Fin 2048 → Fin 256 → EReal) (n : ℕ) (i : Fin 64) (e : Fin 256) : EReal :=
  (∑ j : Fin 64, if j ≤ i then (∑ d : Fin 128, (q (ck n i) d * Ideal.exp (cum la n i d)) * (k (ck n j) d * Ideal.exp (0 - cum la n j d))) * v (ck n j) e else 0)
    + ∑ d : Fin 128, (q (ck n i) d * Ideal.exp (cum la n i d)) * st la k v n e d

/-- One entry normalised by its row's root mean square, weighted and gated. -/
def gated (o : Fin 256 → EReal) (w g : EReal) (e : Fin 256) : EReal :=
  o e * Ideal.rsqrt (Ideal.div (∑ x : Fin 256, o x * o x) (Ideal.ofBits .f32 1132462080#32) + Ideal.ofBits .f32 897988541#32) * w
    * (g * Ideal.logistic g)

/-- The log of the logistic function, over 16. -/
def decay (x : EReal) : EReal :=
  Ideal.div (min x 0 - Ideal.log1p (Ideal.exp (0 - max x (-x)))) (Ideal.ofBits .f32 1098907648#32)

/-- `log (1 + exp y)` is no lower than zero. -/
theorem log1p_exp_nonneg (y : EReal) : 0 ≤ Ideal.log1p (Ideal.exp y) := by
  unfold Ideal.log1p
  induction y with
  | bot =>
    have h : (1 : EReal) + Ideal.exp ⊥ = ((1 : ℝ) : EReal) := by rw [show Ideal.exp ⊥ = 0 from rfl]; simp
    rw [h, show Ideal.log ((1 : ℝ) : EReal) = if (1 : ℝ) ≤ 0 then ⊥ else ((Real.log 1 : ℝ) : EReal) from rfl]
    norm_num
  | top =>
    rw [show (1 : EReal) + Ideal.exp ⊤ = ⊤ from rfl, show Ideal.log ⊤ = ⊤ from rfl]
    exact le_top
  | coe r =>
    have h : (1 : EReal) + Ideal.exp (r : EReal) = ((1 + Real.exp r : ℝ) : EReal) := by
      rw [show Ideal.exp (r : EReal) = ((Real.exp r : ℝ) : EReal) from rfl]; norm_cast
    have hp := Real.exp_pos r
    have hn : ¬ (1 + Real.exp r ≤ 0) := by linarith
    rw [h, show Ideal.log ((1 + Real.exp r : ℝ) : EReal) = if 1 + Real.exp r ≤ 0 then ⊥ else ((Real.log (1 + Real.exp r) : ℝ) : EReal) from rfl,
      if_neg hn]
    exact EReal.coe_nonneg.2 (Real.log_nonneg (by linarith))

/-- The log decay is never plus infinity. -/
theorem decay_ne_top (x : EReal) : decay x ≠ ⊤ := by
  have h0 : min x 0 - Ideal.log1p (Ideal.exp (0 - max x (-x))) ≤ 0 := by
    rw [sub_eq_add_neg]
    have h1 : -Ideal.log1p (Ideal.exp (0 - max x (-x))) ≤ 0 := by
      rw [EReal.neg_le, neg_zero]; exact log1p_exp_nonneg _
    calc min x 0 + -Ideal.log1p (Ideal.exp (0 - max x (-x))) ≤ 0 + 0 := add_le_add (min_le_right _ _) h1
      _ = 0 := by simp
  have hc : Ideal.ofBits .f32 1098907648#32 = ((16 : ℝ) : EReal) := by
    simp [Ideal.ofBits, Ideal.ieee, -EReal.coe_mul]; norm_num
  unfold decay
  generalize min x 0 - Ideal.log1p (Ideal.exp (0 - max x (-x))) = a at h0
  have h16 : ((16 : ℝ) : EReal) ≠ 0 := by exact_mod_cast (by norm_num : (16 : ℝ) ≠ 0)
  rw [hc, Ideal.div, if_neg h16, ← EReal.coe_inv]
  have hm : a * (((16 : ℝ)⁻¹ : ℝ) : EReal) ≤ 0 :=
    EReal.mul_nonpos_iff.2 (Or.inr ⟨h0, EReal.coe_nonneg.2 (by norm_num)⟩)
  intro h
  rw [h] at hm
  exact absurd hm (by simp)

/-- Three parts of a number that is not plus infinity add up to it. -/
theorem split_sum (a : EReal) (h : a ≠ ⊤) : a + (a - a) + (a - a - (a - a)) = a := by
  induction a with
  | bot => rfl
  | top => exact absurd rfl h
  | coe r => norm_cast; simp

/-- A sum over 256 rows that is zero outside the causal part of one chunk is that chunk's sum. -/
theorem sum_chunk (f : Fin 256 → EReal) (s : Fin 4) (i : Fin 64) (I : Fin 256) (hI : I.val = 64 * s.val + i.val) :
    (∑ J : Fin 256, if J ≤ I ∧ I.val / 64 = J.val / 64 then f J else 0)
      = ∑ j : Fin 64, if j ≤ i then f ⟨64 * s.val + j.val, by omega⟩ else 0 := by
  rw [← (finProdFinEquiv : Fin 4 × Fin 64 ≃ Fin 256).sum_comp, Fintype.sum_prod_type, Fintype.sum_eq_single s]
  · refine Finset.sum_congr rfl fun j _ => ?_
    have e : (finProdFinEquiv (s, j) : Fin 256) = ⟨64 * s.val + j.val, by omega⟩ := Fin.ext (by simp [finProdFinEquiv]; omega)
    rw [e]
    refine if_congr ?_ rfl rfl
    rw [Fin.le_def, Fin.le_def]
    dsimp only
    omega
  · intro s' hs
    refine Finset.sum_eq_zero fun j _ => if_neg ?_
    have e : ((finProdFinEquiv (s', j) : Fin 256)).val = j.val + 64 * s'.val := rfl
    rw [e]
    rintro ⟨-, h⟩
    exact hs (Fin.ext (by omega))

end Cert.GlaTie
-- ==== Proof.GlaRun.lean ====
/-
  The run of the attention kernel at one point of its grid.
-/
module

public import proofs.«01_k».proof.Proof.Gen.GlaIdeal.Frame.Runs
public import Idealize.ShloMosaic.Lib.Pipeline.ValueKit
public import Idealize.ShloMosaic.Lib.Pipeline.ReadBack
public import proofs.«01_k».proof.Proof.Gen.GlaRefIdeal.Run

@[expose] public section

set_option maxRecDepth 16384

noncomputable section

namespace Cert.GlaTie

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A store through the whole of a buffer is what is read back. -/
theorem read_store {κ : Kind} {sp : Space} {s : Shape} {e : EltTy} (v : View sig κ sp s e) (f : v.ty.Contents (Elt F))
    {off : Fin s.rank → Nat} (h0 : ∀ a, off a = 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  refine View.read_writes_cons_hit_of_coords v f (Rect.unit off s.size inb) w L y y fun a => ?_
  simp [Rect.unit, h0 a]

set_option maxHeartbeats 1000000 in
/-- The run of the whole body at one grid point: what it needs and what it leaves. -/
theorem body_run (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S256x128 .f32) (harg11 : arg11.IsWhole)
    (x0 : Vec F S2048x128 .bf16) (x1 : Vec F S2048x128 .bf16) (x2 : Vec F S2048x256 .bf16) (x3 : Vec F S2048x256 .bf16) (x4 : Vec F S2048x128 .f32) (x5 : Vec F S128x128 .bf16) (x6 : Vec F S1x128 .f32) (x7 : Vec F S1x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg10.view.loc (c : Thread nD τ) ↦[arg10.view.set]{fullShare} f) ∗ ⌜∃ G10 G11, arg11.view.read (Elt F) G11 = k0_pay3 ∧ f = arg10.view.writes (Elt F) G10 (pb_k0_t1 (F := F) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k0_t1_loop.trips).1⌝) ∗ (∃ d, owns (c : Thread nD τ) arg11 fullShare d)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K := by
  intro E K
  simp only [cc0_gla_eq_skeleton]; unfold cc0_gla_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitl; · iexact H8

    ipureintro; refine ⟨_, _, ?_, rfl⟩; unfold body_run.sl.HS0_1
    exact read_store arg11.view _ (by decide) _ _ _
  iexists _, _; isplitr; swap; · iexact HS0
  ipureintro; rfl

end Cert.GlaTie
-- ==== Proof.GlaBody.lean ====
/-
  The attention kernel's loop read at its indices.
-/
module

public import proofs.«01_k».proof.Proof.GlaMath
public import proofs.«01_k».proof.Proof.GlaRun
public import Idealize.ShloMosaic.Lib.Pointwise

@[expose] public section

set_option maxRecDepth 16384

noncomputable section

namespace Cert.GlaTie

open Idealize.ShloMosaic Idealize.ShloMosaic.TcCoe Idealize.SL.Sem Idealize.ShloMosaic.Pipeline
open Cert.GlaIdeal Cert.GlaIdeal.Gen

/-- The kernel's floor division of a row number by 64. -/
theorem floor_div : ∀ I : Fin 256, Scalar.select
          (IntOp.andi
            (IntOp.cmpi CmpIPredicate.ne
              (IntOp.subi (BitVec.setWidth 32 (IntOp.cmpi CmpIPredicate.sgt (BitVec.ofNat 32 I.val) 0#32))
                (BitVec.setWidth 32 (IntOp.cmpi CmpIPredicate.slt (BitVec.ofNat 32 I.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 I.val) 64#32) 0#32))
          (IntOp.subi (IntOp.divsi ArithUnit.vector (BitVec.ofNat 32 I.val) 64#32) 1#32)
          (IntOp.divsi ArithUnit.vector (BitVec.ofNat 32 I.val) 64#32) = BitVec.ofNat 32 (I.val / 64) := by decide +kernel

/-- The comparison of two row numbers. -/
theorem row_le (I J : Fin 256) : IntOp.cmpi CmpIPredicate.sle (BitVec.ofNat 32 J.val) (BitVec.ofNat 32 I.val) = if J ≤ I then 1#1 else 0#1 := by
  have hI : (BitVec.ofNat 32 I.val).toInt = I.val := by
    rw [BitVec.toInt_eq_toNat_of_lt] <;> simp only [BitVec.toNat_ofNat] <;> omega
  have hJ : (BitVec.ofNat 32 J.val).toInt = J.val := by
    rw [BitVec.toInt_eq_toNat_of_lt] <;> simp only [BitVec.toNat_ofNat] <;> omega
  show BitVec.ofBool (decide ((BitVec.ofNat 32 J.val).toInt ≤ (BitVec.ofNat 32 I.val).toInt)) = _
  rw [hI, hJ]
  by_cases h : J ≤ I
  · rw [if_pos h, decide_eq_true (by exact_mod_cast h)]; rfl
  · rw [if_neg h, decide_eq_false (by exact_mod_cast h)]; rfl

/-- The comparison of two chunk numbers. -/
theorem chunk_eq : ∀ a b : Fin 4, IntOp.cmpi CmpIPredicate.eq (BitVec.ofNat 32 a.val) (BitVec.ofNat 32 b.val) = if a.val = b.val then 1#1 else 0#1 := by
  decide +kernel

/-- The kernel's mask: a row sees the rows of its own chunk up to itself. -/
theorem mask1 (I J : Fin 256) : k0_pay1 k0_pay34 k0_pay35 k0_pay36 k0_pay37 k0_pay38 0#32 (ix2 I J)
    = if J ≤ I ∧ I.val / 64 = J.val / 64 then 1#1 else 0#1 := by
  pointwise [k0_pay1, k0_pay34, k0_pay35, k0_pay36, k0_pay37, k0_pay38]
  erw [floor_div I, floor_div J]
  rw [row_le, chunk_eq ⟨I.val / 64, by omega⟩ ⟨J.val / 64, by omega⟩]
  by_cases h : J ≤ I <;> by_cases h' : I.val / 64 = J.val / 64 <;> simp [h, h', IntOp.andi]

/-- The mask as a matrix of ones and zeros. -/
theorem mask2 (I J : Fin 256) : k0_pay2 (F := Ideal) k0_pay34 k0_pay35 k0_pay36 k0_pay37 k0_pay38 0#32 (ix2 I J)
    = if J ≤ I ∧ I.val / 64 = J.val / 64 then (1 : EReal) else 0 := by
  pointwise [k0_pay2]
  rw [mask1]
  by_cases h : J ≤ I ∧ I.val / 64 = J.val / 64
  · rw [if_pos h, if_pos h]
    show (((BitVec.setWidth 32 1#1).toInt : ℝ) : EReal) = 1
    simp
  · rw [if_neg h, if_neg h]
    show (((BitVec.setWidth 32 0#1).toInt : ℝ) : EReal) = 0
    simp

/-- A block of 256 rows holds rows `256 k` on of the array. -/
def Blk {n : ℕ} {φ : FTy} (k : ℕ) (b : FVec Ideal ⟨2, ![256, n]⟩ φ) (x : FVec Ideal ⟨2, ![2048, n]⟩ φ) : Prop :=
  ∀ (s : Fin 4) (j : Fin 64) (I : Fin 256), I.val = 64 * s.val + j.val → ∀ c, b (ix2 I c) = x (ix2 (ck (4 * k + s.val) j) c)

/-- The log decay of row `r`, from the low-rank gate. -/
def la (x4 : FVec Ideal S2048x128 .f32) (x5 : FVec Ideal S128x128 .bf16) (x6 : FVec Ideal S1x128 .f32) (r : Fin 2048) (d : Fin 128) : EReal :=
  decay (∑ t : Fin 128, x4 (ix2 r t) * x5 (ix2 t d) + x6 (ix2 0 d))

/-- The scaled query of row `r`. -/
def qs (x0 : FVec Ideal S2048x128 .bf16) (r : Fin 2048) (d : Fin 128) : EReal := x0 (ix2 r d) * Ideal.ofBits .f32 0x3DB504F3#32

/-- The running log decay the kernel computes for a block of 256 rows. -/
theorem pay5_apply (k : ℕ) (b4 : FVec Ideal S256x128 .f32) (x4 : FVec Ideal S2048x128 .f32) (x5 : FVec Ideal S128x128 .bf16) (x6 : FVec Ideal S1x128 .f32)
    (h : Blk k b4 x4) (s : Fin 4) (i : Fin 64) (I : Fin 256) (hI : I.val = 64 * s.val + i.val) (d : Fin 128) :
    k0_pay5 (k0_pay2 (F := Ideal) k0_pay34 k0_pay35 k0_pay36 k0_pay37 k0_pay38 0#32) b4 x5 x6 (ix2 I d)
      = cum (la x4 x5 x6) (4 * k + s.val) i d := by
  pointwise [k0_pay5]
  simp only [mask2]
  rw [← Finset.sum_add_distrib, ← Finset.sum_add_distrib]
  refine (Finset.sum_congr rfl fun x _ => ?_).trans
    ((sum_chunk (fun J => decay (∑ t : Fin 128, b4 (ix2 J t) * x5 (ix2 t d) + x6 (ix2 0 d))) s i I hI).trans ?_)
  · by_cases hc : x ≤ I ∧ I.val / 64 = x.val / 64
    · simp only [if_pos hc, one_mul]
      exact split_sum _ (decay_ne_top (∑ t : Fin 128, b4 (ix2 x t) * x5 (ix2 t d) + x6 (ix2 0 d)))
    · simp only [if_neg hc, zero_mul, add_zero]
  · refine Finset.sum_congr rfl fun j _ => if_congr Iff.rfl ?_ rfl
    unfold la
    simp only [h s j ⟨64 * s.val + j.val, by omega⟩ rfl]

/-- The scaled and decayed query of a row. -/
theorem pay6_apply (k : ℕ) (b0 : FVec Ideal S256x128 .bf16) (x0 : FVec Ideal S2048x128 .bf16)
    (b4 : FVec Ideal S256x128 .f32) (x4 : FVec Ideal S2048x128 .f32) (x5 : FVec Ideal S128x128 .bf16) (x6 : FVec Ideal S1x128 .f32)
    (h0 : Blk k b0 x0) (h : Blk k b4 x4) (s : Fin 4) (i : Fin 64) (I : Fin 256) (hI : I.val = 64 * s.val + i.val) (d : Fin 128) :
    k0_pay6 (k0_pay2 (F := Ideal) k0_pay34 k0_pay35 k0_pay36 k0_pay37 k0_pay38 0#32) b4 x5 x6 b0 (ix2 I d)
      = qs x0 (ck (4 * k + s.val) i) d * Ideal.exp (cum (la x4 x5 x6) (4 * k + s.val) i d) := by
  pointwise [k0_pay6]
  rw [pay5_apply k b4 x4 x5 x6 h s i I hI, h0 s i I hI]
  rfl

/-- The state before chunk `n`, as the kernel stores it. -/
def stv (x1 : FVec Ideal S2048x128 .bf16) (x2 : FVec Ideal S2048x256 .bf16) (x4 : FVec Ideal S2048x128 .f32)
    (x5 : FVec Ideal S128x128 .bf16) (x6 : FVec Ideal S1x128 .f32) (n : ℕ) : FVec Ideal S256x128 .f32 := fun y =>
  st (la x4 x5 x6) (fun r d => x1 (ix2 r d)) (fun r e => x2 (ix2 r e)) n (y 0) (y 1)

section Rows

variable (k : ℕ) (x0 x1 : FVec Ideal S2048x128 .bf16) (x2 : FVec Ideal S2048x256 .bf16) (x4 : FVec Ideal S2048x128 .f32)
  (x5 : FVec Ideal S128x128 .bf16) (x6 : FVec Ideal S1x128 .f32)
  (cu q : FVec Ideal S256x128 .f32) (b1 : FVec Ideal S256x128 .bf16) (b2 : FVec Ideal S256x256 .bf16)
  (hcu : ∀ (s : Fin 4) (i : Fin 64) (I : Fin 256), I.val = 64 * s.val + i.val → ∀ d, cu (ix2 I d) = cum (la x4 x5 x6) (4 * k + s.val) i d)
  (hq : ∀ (s : Fin 4) (i : Fin 64) (I : Fin 256), I.val = 64 * s.val + i.val → ∀ d, q (ix2 I d)
    = qs x0 (ck (4 * k + s.val) i) d * Ideal.exp (cum (la x4 x5 x6) (4 * k + s.val) i d))
  (h1 : Blk k b1 x1) (h2 : Blk k b2 x2)
include hcu hq h1 h2

/-- One row of a chunk's output. -/
theorem rows (s : Fin 4) (i : Fin 64) (I : Fin 256) (hI : I.val = 64 * s.val + i.val) (e : Fin 256) (S : FVec Ideal S256x128 .f32)
    (hS : S = stv x1 x2 x4 x5 x6 (4 * k + s.val)) :
    (∑ x : Fin 256, Scalar.select (k0_pay1 k0_pay34 k0_pay35 k0_pay36 k0_pay37 k0_pay38 0#32 (ix2 I x))
        ((∑ d : Fin 128, q (ix2 I d) * (b1 (ix2 x d) * Ideal.exp (0 - cu (ix2 x d)))) * b2 (ix2 x e)) 0)
      + ∑ d : Fin 128, q (ix2 I d) * S (ix2 e d)
    = att (la x4 x5 x6) (qs x0) (fun r d => x1 (ix2 r d)) (fun r e => x2 (ix2 r e)) (4 * k + s.val) i e := by
  unfold att
  subst hS
  congr 1
  · refine Eq.trans (Finset.sum_congr rfl fun x _ => ?_)
      ((sum_chunk (fun x => (∑ d : Fin 128, q (ix2 I d) * (b1 (ix2 x d) * Ideal.exp (0 - cu (ix2 x d)))) * b2 (ix2 x e)) s i I hI).trans ?_)
    · rw [mask1]
      by_cases hc : x ≤ I ∧ I.val / 64 = x.val / 64
      · rw [if_pos hc, if_pos hc]; rfl
      · rw [if_neg hc, if_neg hc]; rfl
    · refine Finset.sum_congr rfl fun j _ => if_congr Iff.rfl ?_ rfl
      have hj : (⟨64 * s.val + j.val, by omega⟩ : Fin 256).val = 64 * s.val + j.val := rfl
      rw [h2 s j _ hj]
      congr 1
      refine Finset.sum_congr rfl fun d _ => ?_
      rw [hq s i I hI, h1 s j _ hj, hcu s j _ hj]
  · refine Finset.sum_congr rfl fun d _ => ?_
    rw [hq s i I hI]
    rfl

omit hq in
/-- The state after one more chunk. -/
theorem next (s : Fin 4) (S : FVec Ideal S256x128 .f32) (hS : S = stv x1 x2 x4 x5 x6 (4 * k + s.val))
    (L : Fin 256) (hL : L.val = 64 * s.val + 63) (R : Fin 64 → Fin 256) (hR : ∀ j, (R j).val = 64 * s.val + j.val) (e : Fin 256) (d : Fin 128) :
    S (ix2 e d) * Ideal.exp (cu (ix2 L d))
      + ∑ j : Fin 64, b2 (ix2 (R j) e) * (b1 (ix2 (R j) d) * Ideal.exp (cu (ix2 L d) - cu (ix2 (R j) d)))
    = stv x1 x2 x4 x5 x6 (4 * k + s.val + 1) (ix2 e d) := by
  subst hS
  rw [hcu s 63 L hL]
  show _ = st _ _ _ (4 * k + s.val + 1) e d
  unfold st
  congr 1
  refine Finset.sum_congr rfl fun j _ => ?_
  rw [h2 s j _ (hR j), h1 s j _ (hR j), hcu s j _ (hR j)]

/-- The kernel's output for one head from its eight input blocks. -/
def OUT (x0 x1 : FVec Ideal S2048x128 .bf16) (x2 x3 : FVec Ideal S2048x256 .bf16) (x4 : FVec Ideal S2048x128 .f32)
    (x5 : FVec Ideal S128x128 .bf16) (x6 : FVec Ideal S1x128 .f32) (x7 : FVec Ideal S1x256 .f32) : FVec Ideal S2048x256 .bf16 := fun y =>
  gated (fun e => att (la x4 x5 x6) (qs x0) (fun r d => x1 (ix2 r d)) (fun r e => x2 (ix2 r e)) ((y 0).val / 64)
    ⟨(y 0).val % 64, Nat.mod_lt _ (by decide)⟩ e) (x7 (ix2 0 (y 1))) (x3 (ix2 (y 0) (y 1))) (y 1)

omit hcu hq h1 h2 in
/-- The output of one chunk of 64 rows, read at a row of the chunk. -/
theorem OUT_ck (x0 x1 : FVec Ideal S2048x128 .bf16) (x2 x3 : FVec Ideal S2048x256 .bf16) (x4 : FVec Ideal S2048x128 .f32)
    (x5 : FVec Ideal S128x128 .bf16) (x6 : FVec Ideal S1x128 .f32) (x7 : FVec Ideal S1x256 .f32) (n : ℕ) (hn : n < 32) (I : Fin 64) (J : Fin 256) :
    OUT x0 x1 x2 x3 x4 x5 x6 x7 (ix2 (ck n I) J)
      = gated (fun e => att (la x4 x5 x6) (qs x0) (fun r d => x1 (ix2 r d)) (fun r e => x2 (ix2 r e)) n I e)
          (x7 (ix2 0 J)) (x3 (ix2 (ck n I) J)) J := by
  have ha : (ck n I).val / 64 = n := by unfold ck; dsimp only; omega
  have hb : (⟨(ck n I).val % 64, Nat.mod_lt _ (by decide)⟩ : Fin 64) = I := Fin.ext (by unfold ck; dsimp only; omega)
  show gated (fun e => att _ _ _ _ ((ck n I).val / 64) ⟨(ck n I).val % 64, _⟩ e) _ _ _ = _
  rw [hb, ha]
  rfl

variable (x3 : FVec Ideal S2048x256 .bf16) (x7 : FVec Ideal S1x256 .f32) (b3 : FVec Ideal S256x256 .bf16) (h3 : Blk k b3 x3) (hk : k < 8)
include h3 hk

/-- The rows of the block's chunk 0. -/
theorem rows0 (S : FVec Ideal S256x128 .f32) (hS : S = stv x1 x2 x4 x5 x6 (4 * k + 0)) (I : Fin 64) (J : Fin 256) :
    k0_pay16 (k0_pay11 (k0_pay1 k0_pay34 k0_pay35 k0_pay36 k0_pay37 k0_pay38 0#32) cu q b1 b2 S) (k0_pay13 x7) (k0_pay14 b3) (k0_pay15 (k0_pay1 k0_pay34 k0_pay35 k0_pay36 k0_pay37 k0_pay38 0#32) cu q b1 b2 S) (ix2 I J)
      = OUT x0 x1 x2 x3 x4 x5 x6 x7 (ix2 (ck (4 * k + 0) I) J) := by
  rw [OUT_ck x0 x1 x2 x3 x4 x5 x6 x7 (4 * k + 0) (by omega) I J]
  pointwise [k0_pay16, k0_pay13, k0_pay14, k0_pay15, k0_pay11, k0_pay10, k0_pay9, k0_pay8, k0_pay7]
  have e := fun J => rows k x0 x1 x2 x4 x5 x6 cu q b1 b2 hcu hq h1 h2 0 I ⟨64 * 0 + I.val, by omega⟩ rfl J S hS
  have e3 := h3 0 I ⟨64 * 0 + I.val, by omega⟩ rfl J
  simp only [Nat.mul_zero, Nat.zero_add] at e e3
  simp only [e]
  rw [e3]
  rfl

omit hq h3 hk in
/-- The state after the block's chunk 0. -/
theorem next0 (S : FVec Ideal S256x128 .f32) (hS : S = stv x1 x2 x4 x5 x6 (4 * k + 0)) :
    k0_pay12 cu b1 b2 S = stv x1 x2 x4 x5 x6 (4 * k + 1) := by
  funext y
  idx_vars y
  pointwise [k0_pay12, k0_pay7]
  exact next k x1 x2 x4 x5 x6 cu b1 b2 hcu h1 h2 0 S hS ⟨63, by omega⟩ rfl (fun j => ⟨j.val, by omega⟩)
    (fun j => by simp) _ _

/-- The rows of the block's chunk 1. -/
theorem rows1 (S : FVec Ideal S256x128 .f32) (hS : S = stv x1 x2 x4 x5 x6 (4 * k + 1)) (I : Fin 64) (J : Fin 256) :
    k0_pay22 (k0_pay17 (k0_pay8 q) (k0_pay9 (k0_pay1 k0_pay34 k0_pay35 k0_pay36 k0_pay37 k0_pay38 0#32) cu q b1 b2) S) (k0_pay19 x7) (k0_pay20 (k0_pay10 b3)) (k0_pay21 (k0_pay8 q) (k0_pay9 (k0_pay1 k0_pay34 k0_pay35 k0_pay36 k0_pay37 k0_pay38 0#32) cu q b1 b2) S) (ix2 I J)
      = OUT x0 x1 x2 x3 x4 x5 x6 x7 (ix2 (ck (4 * k + 1) I) J) := by
  rw [OUT_ck x0 x1 x2 x3 x4 x5 x6 x7 (4 * k + 1) (by omega) I J]
  pointwise [k0_pay22, k0_pay19, k0_pay20, k0_pay21, k0_pay17, k0_pay10, k0_pay9, k0_pay8, k0_pay7]
  have e := fun J => rows k x0 x1 x2 x4 x5 x6 cu q b1 b2 hcu hq h1 h2 1 I ⟨64 * 1 + I.val, by omega⟩ rfl J S hS
  have e3 := h3 1 I ⟨64 * 1 + I.val, by omega⟩ rfl J
  simp only [Nat.mul_one, Nat.reduceMul] at e e3
  simp only [e]
  rw [e3]
  rfl

omit hq h3 hk in
/-- The state after the block's chunk 1. -/
theorem next1 (S : FVec Ideal S256x128 .f32) (hS : S = stv x1 x2 x4 x5 x6 (4 * k + 1)) :
    k0_pay18 cu (k0_pay7 b1) b2 S = stv x1 x2 x4 x5 x6 (4 * k + 2) := by
  funext y
  idx_vars y
  pointwise [k0_pay18, k0_pay7]
  exact next k x1 x2 x4 x5 x6 cu b1 b2 hcu h1 h2 1 S hS ⟨127, by omega⟩ rfl (fun j => ⟨64 + j.val, by omega⟩)
    (fun j => by rfl) _ _

/-- The rows of the block's chunk 2. -/
theorem rows2 (S : FVec Ideal S256x128 .f32) (hS : S = stv x1 x2 x4 x5 x6 (4 * k + 2)) (I : Fin 64) (J : Fin 256) :
    k0_pay28 (k0_pay23 (k0_pay8 q) (k0_pay9 (k0_pay1 k0_pay34 k0_pay35 k0_pay36 k0_pay37 k0_pay38 0#32) cu q b1 b2) S) (k0_pay25 x7) (k0_pay26 (k0_pay10 b3)) (k0_pay27 (k0_pay8 q) (k0_pay9 (k0_pay1 k0_pay34 k0_pay35 k0_pay36 k0_pay37 k0_pay38 0#32) cu q b1 b2) S) (ix2 I J)
      = OUT x0 x1 x2 x3 x4 x5 x6 x7 (ix2 (ck (4 * k + 2) I) J) := by
  rw [OUT_ck x0 x1 x2 x3 x4 x5 x6 x7 (4 * k + 2) (by omega) I J]
  pointwise [k0_pay28, k0_pay25, k0_pay26, k0_pay27, k0_pay23, k0_pay10, k0_pay9, k0_pay8, k0_pay7]
  have e := fun J => rows k x0 x1 x2 x4 x5 x6 cu q b1 b2 hcu hq h1 h2 2 I ⟨64 * 2 + I.val, by omega⟩ rfl J S hS
  have e3 := h3 2 I ⟨64 * 2 + I.val, by omega⟩ rfl J
  simp only [Nat.mul_one, Nat.reduceMul] at e e3
  simp only [e]
  rw [e3]
  rfl

omit hq h3 hk in
/-- The state after the block's chunk 2. -/
theorem next2 (S : FVec Ideal S256x128 .f32) (hS : S = stv x1 x2 x4 x5 x6 (4 * k + 2)) :
    k0_pay24 cu (k0_pay7 b1) b2 S = stv x1 x2 x4 x5 x6 (4 * k + 3) := by
  funext y
  idx_vars y
  pointwise [k0_pay24, k0_pay7]
  exact next k x1 x2 x4 x5 x6 cu b1 b2 hcu h1 h2 2 S hS ⟨191, by omega⟩ rfl (fun j => ⟨128 + j.val, by omega⟩)
    (fun j => by rfl) _ _

/-- The rows of the block's chunk 3. -/
theorem rows3 (S : FVec Ideal S256x128 .f32) (hS : S = stv x1 x2 x4 x5 x6 (4 * k + 3)) (I : Fin 64) (J : Fin 256) :
    k0_pay4 (k0_pay29 (k0_pay8 q) (k0_pay9 (k0_pay1 k0_pay34 k0_pay35 k0_pay36 k0_pay37 k0_pay38 0#32) cu q b1 b2) S) (k0_pay31 x7) (k0_pay32 (k0_pay10 b3)) (k0_pay33 (k0_pay8 q) (k0_pay9 (k0_pay1 k0_pay34 k0_pay35 k0_pay36 k0_pay37 k0_pay38 0#32) cu q b1 b2) S) (ix2 I J)
      = OUT x0 x1 x2 x3 x4 x5 x6 x7 (ix2 (ck (4 * k + 3) I) J) := by
  rw [OUT_ck x0 x1 x2 x3 x4 x5 x6 x7 (4 * k + 3) (by omega) I J]
  pointwise [k0_pay4, k0_pay31, k0_pay32, k0_pay33, k0_pay29, k0_pay10, k0_pay9, k0_pay8, k0_pay7]
  have e := fun J => rows k x0 x1 x2 x4 x5 x6 cu q b1 b2 hcu hq h1 h2 3 I ⟨64 * 3 + I.val, by omega⟩ rfl J S hS
  have e3 := h3 3 I ⟨64 * 3 + I.val, by omega⟩ rfl J
  simp only [Nat.mul_one, Nat.reduceMul] at e e3
  simp only [e]
  rw [e3]
  rfl

omit hq h3 hk in
/-- The state after the block's chunk 3. -/
theorem next3 (S : FVec Ideal S256x128 .f32) (hS : S = stv x1 x2 x4 x5 x6 (4 * k + 3)) :
    k0_pay30 cu (k0_pay7 b1) b2 S = stv x1 x2 x4 x5 x6 (4 * k + 4) := by
  funext y
  idx_vars y
  pointwise [k0_pay30, k0_pay7]
  exact next k x1 x2 x4 x5 x6 cu b1 b2 hcu h1 h2 3 S hS ⟨255, by omega⟩ rfl (fun j => ⟨192 + j.val, by omega⟩)
    (fun j => by rfl) _ _

end Rows

end Cert.GlaTie
-- ==== Proof.GlaLoop.lean ====
/-
  The attention kernel's loop over the eight blocks of 256 rows, at exact arithmetic: each trip leaves the
  next state in the scratch array and the block's rows of the output.
-/
module

public import proofs.«01_k».proof.Proof.GlaBody
public import Idealize.ShloMosaic.Lib.Pipeline.ValueKit

@[expose] public section

set_option maxRecDepth 16384

noncomputable section

namespace Cert.GlaTie

open Idealize.ShloMosaic Idealize.ShloMosaic.TcCoe Idealize.SL.Sem Idealize.ShloMosaic.Pipeline
open Cert.GlaIdeal Cert.GlaIdeal.Gen

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S256x128 .f32) (harg11 : arg11.IsWhole)
  (x0 : FVec Ideal S2048x128 .bf16) (x1 : FVec Ideal S2048x128 .bf16) (x2 : FVec Ideal S2048x256 .bf16) (x3 : FVec Ideal S2048x256 .bf16) (x4 : FVec Ideal S2048x128 .f32) (x5 : FVec Ideal S128x128 .bf16) (x6 : FVec Ideal S1x128 .f32) (x7 : FVec Ideal S1x256 .f32)

/-- Rows `256 k` on of an array, taken as a block. -/
theorem blk_ld {n : ℕ} {φ : FTy} (k : ℕ) (hk : k < 8) (x : FVec Ideal ⟨2, ![2048, n]⟩ φ) (off : Fin 2 → ℕ) (ho : off = ![256 * k, 0])
    (inb : ∀ a, off a + (![256, n] : Fin 2 → ℕ) a ≤ (![2048, n] : Fin 2 → ℕ) a) :
    Blk k (View.ld (Val := fun _ => EReal) (e' := .f32) (S := ⟨2, ![2048, n]⟩) x (Rect.unit (s := ⟨2, ![2048, n]⟩) off ![256, n] inb)) x := by
  intro s j I hI d
  subst ho
  refine congrArg x (funext fun a => Fin.ext ?_)
  match a with
  | 0 =>
    show 256 * k + 1 * I.val = (64 * (4 * k + s.val) + j.val) % 2048
    omega
  | 1 =>
    show 0 + 1 * d.val = d.val
    omega

/-- The running log decay of trip `k`, and its queries. -/
theorem r_eq (k : Fin k0_t1_loop.trips) :
    ∃ b4 b0, Blk k.val b4 x4 ∧ Blk k.val b0 x0
      ∧ trip_k0_t1.sl.r (F := Ideal) arg6 arg7 arg8 k0_pay34 k0_pay35 k0_pay36 k0_pay37 k0_pay38 0#32 (harg6.unread x4) (harg7.unread x5) (harg8.unread x6) k
        = k0_pay5 (k0_pay2 (F := Ideal) k0_pay34 k0_pay35 k0_pay36 k0_pay37 k0_pay38 0#32) b4 x5 x6
      ∧ trip_k0_t1.sl.r_1 (F := Ideal) arg2 arg6 arg7 arg8 k0_pay34 k0_pay35 k0_pay36 k0_pay37 k0_pay38 0#32 (harg2.unread x0) (harg6.unread x4) (harg7.unread x5) (harg8.unread x6) k
        = k0_pay6 (k0_pay2 (F := Ideal) k0_pay34 k0_pay35 k0_pay36 k0_pay37 k0_pay38 0#32) b4 x5 x6 b0 := by
  unfold trip_k0_t1.sl.r trip_k0_t1.sl.r_1
  simp only [View.readAt_eq_ld, harg2.read_unread, harg6.read_unread, harg7.read_unread, harg8.read_unread]
  have e7 := View.ld_unit_lit (Val := Elt Ideal) (S := S128x128) (off := ![0, 0]) (e := .bf16) inb_S128x128_S128x128_0_0 x5 (by decide)
  have e8 := View.ld_unit_lit (Val := Elt Ideal) (S := S1x128) (off := ![0, 0]) (e := .f32) inb_S1x128_S1x128_0_0 x6 (by decide)
  rw [e7, e8]
  exact ⟨_, _, blk_ld k.val k.isLt x4 _ (k0_off1_eq k) _, blk_ld k.val k.isLt x0 _ (k0_off1_eq k) _, rfl, rfl⟩

/-- An index of a chunk's block of 64 output rows. -/
theorem emb_eq (n : ℕ) (hn : n < 32) (off : Fin 2 → ℕ) (ho : off = ![64 * n, 0])
    (inb : ∀ a, off a + (![64, 256] : Fin 2 → ℕ) a ≤ (![2048, 256] : Fin 2 → ℕ) a) (I : Fin 64) (J : Fin 256) :
    (Rect.unit (s := ⟨2, ![2048, 256]⟩) off ![64, 256] inb).emb (ix2 I J) = ix2 (ck n I) J := by
  subst ho
  refine funext fun a => Fin.ext ?_
  match a with
  | 0 =>
    show 64 * n + 1 * I.val = (64 * n + I.val) % 2048
    omega
  | 1 =>
    show 0 + 1 * J.val = J.val
    omega

/-- The keys of trip `k`. -/
theorem k_eq (k : Fin k0_t1_loop.trips) : Blk k.val (trip_k0_t1.sl.r_2 (F := Ideal) arg3 (harg3.unread x1) k) x1 := by
  unfold trip_k0_t1.sl.r_2
  rw [View.readAt_eq_ld, harg3.read_unread]
  exact blk_ld k.val k.isLt x1 _ (k0_off1_eq k) _

/-- The values of trip `k`. -/
theorem v_eq (k : Fin k0_t1_loop.trips) : Blk k.val (trip_k0_t1.sl.r_4 (F := Ideal) arg4 (harg4.unread x2) k) x2 := by
  unfold trip_k0_t1.sl.r_4
  rw [View.readAt_eq_ld, harg4.read_unread]
  exact blk_ld k.val k.isLt x2 _ (k0_off2_eq k) _

/-- Every index lies in the whole of a shape. -/
theorem mem_whole {s : Shape} {off : Fin s.rank → Nat} (h0 : ∀ a, off a = 0) (inb : ∀ a, off a + s.size a ≤ s.size a) (y : s.Idx) :
    y ∈ (Rect.unit off s.size inb).set :=
  Rect.mem_set_unit.2 fun a => ⟨by rw [h0 a]; exact Nat.zero_le _, by rw [h0 a, Nat.zero_add]; exact (y a).isLt⟩

/-- Reading the whole scratch array after a store of all of it gives what was stored. -/
theorem readCov_whole {s : Shape} (v : View sig .tc .vmem s .f32) {off : Fin s.rank → Nat} (h0 : ∀ a, off a = 0)
    (inb : ∀ a, off a + s.size a ≤ s.size a) (w : FVec Ideal s .f32) (L : List (View.Piece (Elt Ideal) s .f32)) :
    v.readCov (Val := Elt Ideal) (⟨Rect.unit off s.size inb, w⟩ :: L) (Rect.unit off s.size inb).toLoadRect = w := by
  rw [View.readCov_eq_canon_ld v _ (Rect.unit off s.size inb) (fun y => ⟨_, List.mem_cons_self, mem_whole h0 inb y⟩)]
  rw [View.ld_unit_lit _ _ h0, View.canon_cons_unit_lit _ _ _ h0]

include harg2 x0 in
/-- What a trip leaves: the state after each of its first three chunks. -/
theorem states (k : Fin k0_t1_loop.trips) (f11 : BufTy.Contents (Elt Ideal) arg11.view.ty)
    (hf : arg11.view.read (Elt Ideal) f11 = stv x1 x2 x4 x5 x6 (4 * k.val)) :
    trip_k0_t1.sl.v166 (F := Ideal) arg3 arg4 arg6 arg7 arg8 arg11 k0_pay34 k0_pay35 k0_pay36 k0_pay37 k0_pay38 0#32
        (harg3.unread x1) (harg4.unread x2) (harg6.unread x4) (harg7.unread x5) (harg8.unread x6) k f11 = stv x1 x2 x4 x5 x6 (4 * k.val + 1)
    ∧ trip_k0_t1.sl.v211 (F := Ideal) arg3 arg4 arg6 arg7 arg8 arg11 k0_pay34 k0_pay35 k0_pay36 k0_pay37 k0_pay38 0#32
        (harg3.unread x1) (harg4.unread x2) (harg6.unread x4) (harg7.unread x5) (harg8.unread x6) k f11 = stv x1 x2 x4 x5 x6 (4 * k.val + 2)
    ∧ trip_k0_t1.sl.v256 (F := Ideal) arg3 arg4 arg6 arg7 arg8 arg11 k0_pay34 k0_pay35 k0_pay36 k0_pay37 k0_pay38 0#32
        (harg3.unread x1) (harg4.unread x2) (harg6.unread x4) (harg7.unread x5) (harg8.unread x6) k f11 = stv x1 x2 x4 x5 x6 (4 * k.val + 3) := by
  obtain ⟨b4, b0, hb4, hb0, hr, hr1⟩ := r_eq arg2 harg2 arg6 harg6 arg7 harg7 arg8 harg8 x0 x4 x5 x6 k
  have hcu := pay5_apply k.val b4 x4 x5 x6 hb4
  have h1 := k_eq arg3 harg3 x1 k
  have h2 := v_eq arg4 harg4 x2 k
  have e1 : trip_k0_t1.sl.v166 (F := Ideal) arg3 arg4 arg6 arg7 arg8 arg11 k0_pay34 k0_pay35 k0_pay36 k0_pay37 k0_pay38 0#32
        (harg3.unread x1) (harg4.unread x2) (harg6.unread x4) (harg7.unread x5) (harg8.unread x6) k f11 = stv x1 x2 x4 x5 x6 (4 * k.val + 1) := by
    unfold trip_k0_t1.sl.v166 trip_k0_t1.sl.HW_arg11_1
    rw [readCov_whole _ (by decide), hr]
    exact next0 k.val x1 x2 x4 x5 x6 _ _ _ hcu h1 h2 _ ((View.readAt_eq_ld _ _ _).trans ((View.ld_unit_lit _ _ (by decide)).trans hf))
  have e2 : trip_k0_t1.sl.v211 (F := Ideal) arg3 arg4 arg6 arg7 arg8 arg11 k0_pay34 k0_pay35 k0_pay36 k0_pay37 k0_pay38 0#32
        (harg3.unread x1) (harg4.unread x2) (harg6.unread x4) (harg7.unread x5) (harg8.unread x6) k f11 = stv x1 x2 x4 x5 x6 (4 * k.val + 2) := by
    unfold trip_k0_t1.sl.v211 trip_k0_t1.sl.HW_arg11_2
    rw [readCov_whole _ (by decide), hr, e1]
    exact next1 k.val x1 x2 x4 x5 x6 _ _ _ hcu h1 h2 _ rfl
  have e3 : trip_k0_t1.sl.v256 (F := Ideal) arg3 arg4 arg6 arg7 arg8 arg11 k0_pay34 k0_pay35 k0_pay36 k0_pay37 k0_pay38 0#32
        (harg3.unread x1) (harg4.unread x2) (harg6.unread x4) (harg7.unread x5) (harg8.unread x6) k f11 = stv x1 x2 x4 x5 x6 (4 * k.val + 3) := by
    unfold trip_k0_t1.sl.v256 trip_k0_t1.sl.HW_arg11_3
    rw [readCov_whole _ (by decide), hr, e2]
    exact next2 k.val x1 x2 x4 x5 x6 _ _ _ hcu h1 h2 _ rfl
  exact ⟨e1, e2, e3⟩

/-- One trip of the loop leaves the next state of the recurrence in the scratch array. -/
theorem trip_state (k : Fin k0_t1_loop.trips) (f10 : BufTy.Contents (Elt Ideal) arg10.view.ty) (f11 : BufTy.Contents (Elt Ideal) arg11.view.ty)
    (hf : arg11.view.read (Elt Ideal) f11 = stv x1 x2 x4 x5 x6 (4 * k.val)) :
    ∃ L inb, (tripL_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) k f10 f11).2
      = ⟨Rect.unit ![0, 0] S256x128.size inb, stv x1 x2 x4 x5 x6 (4 * k.val + 4)⟩ :: L := by
  obtain ⟨b4, b0, hb4, hb0, hr, hr1⟩ := r_eq arg2 harg2 arg6 harg6 arg7 harg7 arg8 harg8 x0 x4 x5 x6 k
  have hcu := pay5_apply k.val b4 x4 x5 x6 hb4
  have h1 := k_eq arg3 harg3 x1 k
  have h2 := v_eq arg4 harg4 x2 k
  unfold tripL_k0_t1 trip_k0_t1
  dsimp only
  refine ⟨_, inb_S256x128_S256x128_0_0, congrArg₂ List.cons (congrArg (Sigma.mk _) ?_) rfl⟩
  rw [hr, (states arg2 harg2 arg3 harg3 arg4 harg4 arg6 harg6 arg7 harg7 arg8 harg8 arg11 x0 x1 x2 x4 x5 x6 k f11 hf).2.2]
  exact next3 k.val x1 x2 x4 x5 x6 _ _ _ hcu h1 h2 _ rfl

/-- One trip of the loop leaves its 256 rows of the output. -/
theorem trip_rows (k : Fin k0_t1_loop.trips) (f10 : BufTy.Contents (Elt Ideal) arg10.view.ty) (f11 : BufTy.Contents (Elt Ideal) arg11.view.ty)
    (hf : arg11.view.read (Elt Ideal) f11 = stv x1 x2 x4 x5 x6 (4 * k.val)) :
    ∀ p ∈ (tripL_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) k f10 f11).1,
      ∀ y, p.2 y = OUT x0 x1 x2 x3 x4 x5 x6 x7 (p.1.emb y) := by
  obtain ⟨b4, b0, hb4, hb0, hr, hr1⟩ := r_eq arg2 harg2 arg6 harg6 arg7 harg7 arg8 harg8 x0 x4 x5 x6 k
  have hcu := pay5_apply k.val b4 x4 x5 x6 hb4
  have h1 := k_eq arg3 harg3 x1 k
  have h2 := v_eq arg4 harg4 x2 k
  obtain ⟨e1, e2, e3⟩ := states arg2 harg2 arg3 harg3 arg4 harg4 arg6 harg6 arg7 harg7 arg8 harg8 arg11 x0 x1 x2 x4 x5 x6 k f11 hf
  have hq := pay6_apply k.val b0 x0 b4 x4 x5 x6 hb0 hb4
  have h3 : Blk k.val (trip_k0_t1.sl.r_4 (F := Ideal) arg5 (harg5.unread x3) k) x3 := v_eq arg5 harg5 x3 k
  have hk : k.val < 8 := k.isLt
  have h7 : View.readAt (Elt Ideal) arg9.view (Rect.unit (s := S1x256) ![0, 0] S1x256.size inb_S1x256_S1x256_0_0).toLoadRect (harg9.unread x7) = x7 := by
    rw [View.readAt_eq_ld, harg9.read_unread]
    exact View.ld_unit_lit _ _ (by decide)
  unfold tripL_k0_t1 trip_k0_t1
  dsimp only
  intro p hp
  simp only [List.mem_cons, List.not_mem_nil, or_false] at hp
  rcases hp with rfl | rfl | rfl | rfl
  · intro y
    idx_vars y
    refine Eq.trans ?_ (congrArg (OUT x0 x1 x2 x3 x4 x5 x6 x7) (emb_eq (4 * k.val + 3) (by omega) _ ((k0_off3_eq k 3).trans (by congr 1; omega)) _ _ _)).symm
    show k0_pay4 _ _ _ _ (ix2 _ _) = _
    unfold trip_k0_t1.sl.r_20 trip_k0_t1.sl.r_21 trip_k0_t1.sl.r_22 trip_k0_t1.sl.r_23 trip_k0_t1.sl.r_5 trip_k0_t1.sl.r_6 trip_k0_t1.sl.r_7
    rw [hr, hr1, h7, e3]
    exact rows3 k.val x0 x1 x2 x4 x5 x6 _ _ _ _ hcu hq h1 h2 x3 x7 _ h3 hk _ rfl _ _
  · intro y
    idx_vars y
    refine Eq.trans ?_ (congrArg (OUT x0 x1 x2 x3 x4 x5 x6 x7) (emb_eq (4 * k.val + 2) (by omega) _ ((k0_off3_eq k 2).trans (by congr 1; omega)) _ _ _)).symm
    show k0_pay28 _ _ _ _ (ix2 _ _) = _
    unfold trip_k0_t1.sl.r_16 trip_k0_t1.sl.r_17 trip_k0_t1.sl.r_18 trip_k0_t1.sl.r_19 trip_k0_t1.sl.r_5 trip_k0_t1.sl.r_6 trip_k0_t1.sl.r_7
    rw [hr, hr1, h7, e2]
    exact rows2 k.val x0 x1 x2 x4 x5 x6 _ _ _ _ hcu hq h1 h2 x3 x7 _ h3 hk _ rfl _ _
  · intro y
    idx_vars y
    refine Eq.trans ?_ (congrArg (OUT x0 x1 x2 x3 x4 x5 x6 x7) (emb_eq (4 * k.val + 1) (by omega) _ ((k0_off3_eq k 1).trans (by congr 1; omega)) _ _ _)).symm
    show k0_pay22 _ _ _ _ (ix2 _ _) = _
    unfold trip_k0_t1.sl.r_12 trip_k0_t1.sl.r_13 trip_k0_t1.sl.r_14 trip_k0_t1.sl.r_15 trip_k0_t1.sl.r_5 trip_k0_t1.sl.r_6 trip_k0_t1.sl.r_7
    rw [hr, hr1, h7, e1]
    exact rows1 k.val x0 x1 x2 x4 x5 x6 _ _ _ _ hcu hq h1 h2 x3 x7 _ h3 hk _ rfl _ _
  · intro y
    idx_vars y
    refine Eq.trans ?_ (congrArg (OUT x0 x1 x2 x3 x4 x5 x6 x7) (emb_eq (4 * k.val + 0) (by omega) _ ((k0_off3_eq k 0).trans (by congr 1; omega)) _ _ _)).symm
    show k0_pay16 _ _ _ _ (ix2 _ _) = _
    unfold trip_k0_t1.sl.r_8 trip_k0_t1.sl.r_9 trip_k0_t1.sl.r_10 trip_k0_t1.sl.r_11
    rw [hr, hr1, h7]
    exact rows0 k.val x0 x1 x2 x4 x5 x6 _ _ _ _ hcu hq h1 h2 x3 x7 _ h3 hk _ ((View.readAt_eq_ld _ _ _).trans ((View.ld_unit_lit _ _ (by decide)).trans hf)) _ _

/-- Before trip `k`: the scratch array holds the state, and every block stored so far is a block of `OUT`. -/
theorem trips (G10 : BufTy.Contents (Elt Ideal) arg10.view.ty) (G11 : BufTy.Contents (Elt Ideal) arg11.view.ty)
    (h0 : arg11.view.read (Elt Ideal) G11 = k0_pay3 (F := Ideal)) (k : ℕ) : k ≤ 8 →
    arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k).2) = stv x1 x2 x4 x5 x6 (4 * k)
    ∧ ∀ p ∈ (pb_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k).1, ∀ y, p.2 y = OUT x0 x1 x2 x3 x4 x5 x6 x7 (p.1.emb y) := by
  induction k with
  | zero =>
    intro _
    refine ⟨?_, fun p hp => absurd hp List.not_mem_nil⟩
    refine Eq.trans h0 ?_
    funext y
    idx_vars y
    pointwise [k0_pay3]
    simp [stv, st, Ideal.ofBits, Ideal.ieee]
  | succ k ih =>
    intro hk
    obtain ⟨ih1, ih2⟩ := ih (by omega)
    have e := pb_k0_t1_succ (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 ⟨k, hk⟩
    rw [show k + 1 = (⟨k, hk⟩ : Fin k0_t1_loop.trips).val + 1 from rfl, e]
    constructor
    · obtain ⟨L, inb, hL⟩ := trip_state c i arg2 harg2 arg3 harg3 arg4 harg4 arg5 harg5 arg6 harg6 arg7 harg7 arg8 harg8 arg9 harg9 arg10 harg10 arg11 harg11 x0 x1 x2 x3 x4 x5 x6 x7 ⟨k, hk⟩
        (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k).1) _ ih1
      rw [hL]
      dsimp only
      rw [View.writes_append]
      exact read_store _ _ (by decide) _ _ _
    · intro p hp
      rcases List.mem_append.1 hp with hp | hp
      · exact trip_rows c i arg2 harg2 arg3 harg3 arg4 harg4 arg5 harg5 arg6 harg6 arg7 harg7 arg8 harg8 arg9 harg9 arg10 harg10 arg11 harg11 x0 x1 x2 x3 x4 x5 x6 x7 ⟨k, hk⟩ _ _ ih1 p hp
      · exact ih2 p hp

/-- The blocks stored tile the output. -/
theorem covered (G10 : BufTy.Contents (Elt Ideal) arg10.view.ty) (G11 : BufTy.Contents (Elt Ideal) arg11.view.ty) (y : S2048x256.Idx) :
    ∃ p ∈ (pb_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k0_t1_loop.trips).1, y ∈ p.1.set :=
  View.cover_of_tiledL (pb_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k0_t1_loop.trips).1 S64x256.size (by sl_kernel_rfl) y

/-- The output block after the loop. -/
theorem loop_out (G10 : BufTy.Contents (Elt Ideal) arg10.view.ty) (G11 : BufTy.Contents (Elt Ideal) arg11.view.ty)
    (h0 : arg11.view.read (Elt Ideal) G11 = k0_pay3 (F := Ideal)) :
    arg10.view.read (Elt Ideal) (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 k0_pay34 k0_pay35 k0_pay36 k0_pay37 k0_pay38 0#32 (harg2.unread x0) (harg3.unread x1) (harg4.unread x2) (harg5.unread x3) (harg6.unread x4) (harg7.unread x5) (harg8.unread x6) (harg9.unread x7) G10 G11 k0_t1_loop.trips).1) = OUT x0 x1 x2 x3 x4 x5 x6 x7 := by
  funext y
  exact View.read_writes_apply_of_pieces _ _ _ _ (trips c i arg2 harg2 arg3 harg3 arg4 harg4 arg5 harg5 arg6 harg6 arg7 harg7 arg8 harg8 arg9 harg9 arg10 harg10 arg11 harg11 x0 x1 x2 x3 x4 x5 x6 x7 G10 G11 h0 8 le_rfl).2 y
    (covered c i arg2 harg2 arg3 harg3 arg4 harg4 arg5 harg5 arg6 harg6 arg7 harg7 arg8 harg8 arg9 harg9 arg10 harg10 arg11 harg11 x0 x1 x2 x3 x4 x5 x6 x7 G10 G11 y)

end Cert.GlaTie
-- ==== Proof.GlaLaunch.lean ====
/-
  The attention kernel's launch at exact arithmetic: the 32 grid points, one batch element and one head each,
  leave their blocks of the output array; the arguments end as they began and no semaphore is held.
-/
module

public import proofs.«01_k».proof.Defs
public import proofs.«01_k».proof.Proof.GlaLoop
public import Idealize.ShloMosaic.Lib.Claim

@[expose] public section

set_option maxRecDepth 16384

noncomputable section

namespace Cert.GlaTie

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GlaIdeal Cert.GlaIdeal.Gen

local notation "𝕄" => MT nD τ sig Unit (Elt Ideal) ℕ (UR sig nD τ) ℕ

variable (m : (ℓ : Loc nD τ sig) → Buf (Elt Ideal) ℓ) (ρ : Dev nD → PrngReg)

/-- The output block of grid point `t`, from the point's eight input blocks. -/
def outBlk (c : Dev nD) (t : Fin cfg0.N) : FVec Ideal S2048x256 .bf16 :=
  OUT (iblk m c 0 t) (iblk m c 1 t) (iblk m c 2 t) (iblk m c 3 t) (iblk m c 4 t) (iblk m c 5 t) (iblk m c 6 t) (iblk m c 7 t)

/-- What each window's buffer holds after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ _ := Pipeline.ΦA spec0 c
  q w := Pipeline.shareOf spec0 w
  owed _ := 0

/-- The arrays as the launch finds them. -/
theorem dats_A (c : Dev nD) (w : Fin cfg0.W) : (dats m 0 c).A w = V m c (Pipeline.arrRef spec0 w) := by
  dsimp only [dats]

/-- The block that a point leaves in window 0. -/
theorem after_0 (c : Dev nD) (t : Fin cfg0.N) : (dats m 0 c).after 0 t = iblk m c 0 t := by dsimp only [dats]
/-- The block that a point leaves in window 1. -/
theorem after_1 (c : Dev nD) (t : Fin cfg0.N) : (dats m 0 c).after 1 t = iblk m c 1 t := by dsimp only [dats]
/-- The block that a point leaves in window 2. -/
theorem after_2 (c : Dev nD) (t : Fin cfg0.N) : (dats m 0 c).after 2 t = iblk m c 2 t := by dsimp only [dats]
/-- The block that a point leaves in window 3. -/
theorem after_3 (c : Dev nD) (t : Fin cfg0.N) : (dats m 0 c).after 3 t = iblk m c 3 t := by dsimp only [dats]
/-- The block that a point leaves in window 4. -/
theorem after_4 (c : Dev nD) (t : Fin cfg0.N) : (dats m 0 c).after 4 t = iblk m c 4 t := by dsimp only [dats]
/-- The block that a point leaves in window 5. -/
theorem after_5 (c : Dev nD) (t : Fin cfg0.N) : (dats m 0 c).after 5 t = iblk m c 5 t := by dsimp only [dats]
/-- The block that a point leaves in window 6. -/
theorem after_6 (c : Dev nD) (t : Fin cfg0.N) : (dats m 0 c).after 6 t = iblk m c 6 t := by dsimp only [dats]
/-- The block that a point leaves in window 7. -/
theorem after_7 (c : Dev nD) (t : Fin cfg0.N) : (dats m 0 c).after 7 t = iblk m c 7 t := by dsimp only [dats]
/-- The block that a point leaves in window 8. -/
theorem after_8 (c : Dev nD) (t : Fin cfg0.N) : (dats m 0 c).after 8 t = outBlk m c t := by dsimp only [dats]
/-- The block that a point reads in window 0. -/
theorem before_0 (c : Dev nD) (t : Fin cfg0.N) (d) : (dats m 0 c).before 0 t d = iblk m c 0 t :=
  before0_0_of m (dats m 0 c) (dats_A m c 0) (after_0 m c) t d
/-- The block that a point reads in window 1. -/
theorem before_1 (c : Dev nD) (t : Fin cfg0.N) (d) : (dats m 0 c).before 1 t d = iblk m c 1 t :=
  before0_1_of m (dats m 0 c) (dats_A m c 1) (after_1 m c) t d
/-- The block that a point reads in window 2. -/
theorem before_2 (c : Dev nD) (t : Fin cfg0.N) (d) : (dats m 0 c).before 2 t d = iblk m c 2 t :=
  before0_2_of m (dats m 0 c) (dats_A m c 2) (after_2 m c) t d
/-- The block that a point reads in window 3. -/
theorem before_3 (c : Dev nD) (t : Fin cfg0.N) (d) : (dats m 0 c).before 3 t d = iblk m c 3 t :=
  before0_3_of m (dats m 0 c) (dats_A m c 3) (after_3 m c) t d
/-- The block that a point reads in window 4. -/
theorem before_4 (c : Dev nD) (t : Fin cfg0.N) (d) : (dats m 0 c).before 4 t d = iblk m c 4 t :=
  before0_4_of m (dats m 0 c) (dats_A m c 4) (after_4 m c) t d
/-- The block that a point reads in window 5. -/
theorem before_5 (c : Dev nD) (t : Fin cfg0.N) (d) : (dats m 0 c).before 5 t d = iblk m c 5 t :=
  before0_5_of m (dats m 0 c) (dats_A m c 5) (after_5 m c) t d
/-- The block that a point reads in window 6. -/
theorem before_6 (c : Dev nD) (t : Fin cfg0.N) (d) : (dats m 0 c).before 6 t d = iblk m c 6 t :=
  before0_6_of m (dats m 0 c) (dats_A m c 6) (after_6 m c) t d
/-- The block that a point reads in window 7. -/
theorem before_7 (c : Dev nD) (t : Fin cfg0.N) (d) : (dats m 0 c).before 7 t d = iblk m c 7 t :=
  before0_7_of m (dats m 0 c) (dats_A m c 7) (after_7 m c) t d

set_option maxHeartbeats 1000000 in
/-- The body at any grid point, from the input blocks to `outBlk`. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t)
            ∗ owns (c : Thread nD τ) (ms0_6 t) fullShare ((dats m 0 c).after 6 t)
            ∗ owns (c : Thread nD τ) (ms0_7 t) fullShare ((dats m 0 c).after 7 t)
            ∗ owns (c : Thread nD τ) (ms0_8 t) fullShare ((dats m 0 c).after 8 t))) := by
  unfold bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%f8, H8, %hf8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists f8; isplitr
  swap; · iexact H8
  ipureintro
  obtain ⟨G10, G11, h0, rfl⟩ := hf8
  exact loop_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) G10 G11 h0

/-- The body of the pipeline at every point. -/
theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- Every execution ends, with the arrays the points leave and no semaphore held. -/
theorem launched : θ_run defs (onTc (τ := τ) (main (F := Ideal))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

/-- The arguments end as they began, and no semaphore is held. -/
theorem kernel_frame : Cert.quiescent_GlaIdeal := fun m ρ _ =>
  θ_run_and (frame_of m ρ (dats m) (dats_A m) ((θ_run defs _ _).mono (fun _ h => h.1) (launched m ρ)))
    ((θ_run defs _ _).mono (fun _ h => h.2) (launched m ρ))

end Cert.GlaTie

end
-- ==== Proof.GlaValue.lean ====
/-
  The attention kernel's array, head by head and row by row: gated linear attention over the whole
  sequence, as one function of the five arguments.
-/
module

public import proofs.«01_k».proof.Proof.GlaLaunch
public import Idealize.ShloMosaic.Lib.Pipeline.ValueKit
public import Idealize.ShloMosaic.Lib.Pointwise

@[expose] public section

set_option maxRecDepth 16384

noncomputable section

namespace Cert.GlaTie

open Idealize.ShloMosaic Idealize.ShloMosaic.TcCoe Idealize.SL.Sem Idealize.ShloMosaic.Pipeline
open Cert.GlaIdeal Cert.GlaIdeal.Gen

section Whole

variable (z : FVec Ideal S16384x7168 .bf16) (glr : FVec Ideal S16384x128 .f32) (up : FVec Ideal S16x512 .f32)
  (bias : FVec Ideal S512 .f32) (w : FVec Ideal S1024 .f32) (b : Fin 8) (h : Fin 4)

/-- Row `r` of batch element `b`. -/
def row (r : Fin 2048) : Fin 16384 := ⟨2048 * b.val + r.val, by omega⟩

/-- The log decay of head `h` of batch element `b`. -/
def laOf (r : Fin 2048) (d : Fin 128) : EReal :=
  decay (∑ t : Fin 16, glr (ix2 (row b r) ⟨t.val, by omega⟩) * up (ix2 t ⟨128 * h.val + d.val, by omega⟩) + bias (ix1 ⟨128 * h.val + d.val, by omega⟩))

/-- Its queries, scaled. -/
def qOf (r : Fin 2048) (d : Fin 128) : EReal := z (ix2 (row b r) ⟨4096 + (128 * h.val + d.val), by omega⟩) * Ideal.ofBits .f32 0x3DB504F3#32

/-- Its keys. -/
def kOf (r : Fin 2048) (d : Fin 128) : EReal := z (ix2 (row b r) ⟨4608 + (128 * h.val + d.val), by omega⟩)

/-- Its values. -/
def vOf (r : Fin 2048) (e : Fin 256) : EReal := z (ix2 (row b r) ⟨5120 + (256 * h.val + e.val), by omega⟩)

/-- One entry of the result. -/
def headOf (r : Fin 2048) (e : Fin 256) : EReal :=
  gated (fun e => att (laOf glr up bias b h) (qOf z b h) (kOf z b h) (vOf z b h) (r.val / 64) ⟨r.val % 64, Nat.mod_lt _ (by decide)⟩ e)
    (w (ix1 ⟨256 * h.val + e.val, by omega⟩)) (z (ix2 (row b r) ⟨6144 + (256 * h.val + e.val), by omega⟩)) e

/-- The result, at row `y 0` and column `y 1`. -/
def G : FVec Ideal S16384x1024 .bf16 := fun y =>
  headOf z glr up bias w ⟨(y 0).val / 2048, by have : (y 0).val < 16384 := (y 0).isLt; omega⟩ ⟨(y 1).val / 256, by have : (y 1).val < 1024 := (y 1).isLt; omega⟩ ⟨(y 0).val % 2048, Nat.mod_lt _ (by decide)⟩ ⟨(y 1).val % 256, Nat.mod_lt _ (by decide)⟩

/-- The specification at a row and a column of one head. -/
theorem G_at (r : Fin 2048) (e : Fin 256) (hC : 256 * h.val + e.val < 1024) :
    G z glr up bias w (ix2 (row b r) ⟨256 * h.val + e.val, hC⟩) = headOf z glr up bias w b h r e := by
  have e1 : (⟨(row b r).val / 2048, by have := (row b r).isLt; omega⟩ : Fin 8) = b := Fin.ext (by unfold row; dsimp only; omega)
  have e2 : (⟨(256 * h.val + e.val) / 256, by omega⟩ : Fin 4) = h := Fin.ext (by dsimp only; omega)
  have e3 : (⟨(row b r).val % 2048, Nat.mod_lt _ (by decide)⟩ : Fin 2048) = r := Fin.ext (by unfold row; dsimp only; omega)
  have e4 : (⟨(256 * h.val + e.val) % 256, Nat.mod_lt _ (by decide)⟩ : Fin 256) = e := Fin.ext (by dsimp only; omega)
  show headOf z glr up bias w ⟨(row b r).val / 2048, _⟩ ⟨(256 * h.val + e.val) / 256, _⟩ ⟨(row b r).val % 2048, _⟩ ⟨(256 * h.val + e.val) % 256, _⟩ = _
  rw [e1, e2, e3, e4]

end Whole

variable (m : (ℓ : Loc nD τ sig) → Buf (Elt Ideal) ℓ)

/-- The block indices of the launch, point by point. -/
theorem idx : ∀ t : Fin cfg0.N,
    win0_0.index t = ![(win0_8.index t) 0, 32 + (win0_8.index t) 1] ∧ win0_1.index t = ![(win0_8.index t) 0, 36 + (win0_8.index t) 1]
    ∧ win0_2.index t = ![(win0_8.index t) 0, 20 + (win0_8.index t) 1] ∧ win0_3.index t = ![(win0_8.index t) 0, 24 + (win0_8.index t) 1]
    ∧ win0_4.index t = ![(win0_8.index t) 0, 0] ∧ win0_5.index t = ![0, (win0_8.index t) 1] ∧ win0_6.index t = ![0, (win0_8.index t) 1]
    ∧ win0_7.index t = ![0, (win0_8.index t) 1] ∧ (win0_8.index t) 0 < 8 ∧ (win0_8.index t) 1 < 4 :=
  (by decide +kernel : ∀ t : Fin grid0.N, win0_0.index t = ![(win0_8.index t) 0, 32 + (win0_8.index t) 1] ∧ win0_1.index t = ![(win0_8.index t) 0, 36 + (win0_8.index t) 1]
    ∧ win0_2.index t = ![(win0_8.index t) 0, 20 + (win0_8.index t) 1] ∧ win0_3.index t = ![(win0_8.index t) 0, 24 + (win0_8.index t) 1]
    ∧ win0_4.index t = ![(win0_8.index t) 0, 0] ∧ win0_5.index t = ![0, (win0_8.index t) 1] ∧ win0_6.index t = ![0, (win0_8.index t) 1]
    ∧ win0_7.index t = ![0, (win0_8.index t) 1] ∧ (win0_8.index t) 0 < 8 ∧ (win0_8.index t) 1 < 4)

/-- Window 0 stages the head's queries. -/
theorem q_blk (c : Dev nD) (t : Fin cfg0.N) (b : Fin 8) (hb : b.val = (win0_8.index t) 0) (h : Fin 4) (hh : h.val = (win0_8.index t) 1) : qs (iblk m c 0 t) = qOf (m ((c : Thread nD τ).loc main_arg0)) b h := by
  funext r d
  unfold qs qOf row
  refine congrArg (· * _) ?_
  blk_point [iblk, V, idx t]

/-- Window 1 stages its keys. -/
theorem k_blk (c : Dev nD) (t : Fin cfg0.N) (b : Fin 8) (hb : b.val = (win0_8.index t) 0) (h : Fin 4) (hh : h.val = (win0_8.index t) 1) : (fun r d => (iblk m c 1 t : FVec Ideal S2048x128 .bf16) (ix2 r d)) = kOf (m ((c : Thread nD τ).loc main_arg0)) b h := by
  funext r d
  unfold kOf row
  blk_point [iblk, V, idx t]

/-- Window 2 stages its values. -/
theorem v_blk (c : Dev nD) (t : Fin cfg0.N) (b : Fin 8) (hb : b.val = (win0_8.index t) 0) (h : Fin 4) (hh : h.val = (win0_8.index t) 1) : (fun r d => (iblk m c 2 t : FVec Ideal S2048x256 .bf16) (ix2 r d)) = vOf (m ((c : Thread nD τ).loc main_arg0)) b h := by
  funext r d
  unfold vOf row
  blk_point [iblk, V, idx t]

/-- Window 3 stages its output gate. -/
theorem g_blk (c : Dev nD) (t : Fin cfg0.N) (b : Fin 8) (hb : b.val = (win0_8.index t) 0) (h : Fin 4) (hh : h.val = (win0_8.index t) 1) (r : Fin 2048) (e : Fin 256) :
    (iblk m c 3 t : FVec Ideal S2048x256 .bf16) (ix2 r e) = m ((c : Thread nD τ).loc main_arg0) (ix2 (row b r) ⟨6144 + (256 * h.val + e.val), by omega⟩) := by
  unfold row
  blk_point [iblk, V, idx t]

/-- The low-rank gate's up projection, padded with zero rows. -/
theorem V_v1 (c : Dev nD) (t : Fin 128) (d : Fin 512) : (V m c main_v1 : FVec Ideal S128x512 .bf16) (ix2 t d)
    = if h : t.val < 16 then (m ((c : Thread nD τ).loc main_arg2) : FVec Ideal S16x512 .f32) (ix2 ⟨t.val, h⟩ d) else (0 : EReal) := by
  have e : V m c main_v1 = truncf (F := Ideal) .bf16 (pad (α := Ideal .f32) S128x512 ![0, 0] ![112, 0] ![0, 0] (m ((c : Thread nD τ).loc main_arg2)) (sitofp .f32 (constantI S_ 32 0#32)) pads_S16x512_S128x512_01120_000 h_S_) bitsLt_bf16_f32 := by
    simp only [V, hostOps0, hostOps0_1, hostOps0_2, List.flatten_cons, List.flatten_nil, List.append_nil, List.cons_append, List.nil_append]
    rfl
  rw [e]
  pointwise []
  by_cases ht : t.val < 16
  · rw [dif_pos ht]
    refine dif_pos fun a => ?_
    match a with
    | 0 => exact ⟨Nat.zero_le _, Nat.mod_one _, by show (t.val - 0) / 1 < 16; omega⟩
    | 1 => exact ⟨Nat.zero_le _, Nat.mod_one _, by show (d.val - 0) / 1 < 512; omega⟩
  · rw [dif_neg ht]
    refine Eq.trans (dif_neg fun hin => ?_) (show (((0#32).toInt : ℝ) : EReal) = 0 by simp)
    have h0 : (t.val - 0) / 1 < 16 := (hin 0).2.2
    omega

/-- The gate's bias as a row. -/
theorem V_v2 (c : Dev nD) (d : Fin 512) : (V m c main_v2 : FVec Ideal S1x512 .f32) (ix2 0 d) = m ((c : Thread nD τ).loc main_arg3) (ix1 d) := by
  have e : V m c main_v2 = shapeCast S1x512 (m ((c : Thread nD τ).loc main_arg3)) shapeCasts_S512_S1x512 := by
    simp only [V, hostOps0, hostOps0_1, hostOps0_2, List.flatten_cons, List.flatten_nil, List.append_nil, List.cons_append, List.nil_append]
    rfl
  rw [e]
  pointwise []

/-- The norm's weight as a row. -/
theorem V_v3 (c : Dev nD) (d : Fin 1024) : (V m c main_v3 : FVec Ideal S1x1024 .f32) (ix2 0 d) = m ((c : Thread nD τ).loc main_arg4) (ix1 d) := by
  have e : V m c main_v3 = shapeCast S1x1024 (m ((c : Thread nD τ).loc main_arg4)) shapeCasts_S1024_S1x1024 := by
    simp only [V, hostOps0, hostOps0_1, hostOps0_2, List.flatten_cons, List.flatten_nil, List.append_nil, List.cons_append, List.nil_append]
    rfl
  rw [e]
  pointwise []

/-- Window 7 stages its norm weight. -/
theorem w_blk (c : Dev nD) (t : Fin cfg0.N) (h : Fin 4) (hh : h.val = (win0_8.index t) 1) (e : Fin 256) :
    (iblk m c 7 t : FVec Ideal S1x256 .f32) (ix2 0 e) = m ((c : Thread nD τ).loc main_arg4) (ix1 ⟨256 * h.val + e.val, by omega⟩) := by
  refine Eq.trans ?_ (V_v3 m c _)
  blk_point [iblk, idx t]

/-- Windows 4, 5 and 6 stage its log decay's low-rank input, up projection and bias. -/
theorem la_blk (c : Dev nD) (t : Fin cfg0.N) (b : Fin 8) (hb : b.val = (win0_8.index t) 0) (h : Fin 4) (hh : h.val = (win0_8.index t) 1) :
    la (iblk m c 4 t) (iblk m c 5 t) (iblk m c 6 t) = laOf (m ((c : Thread nD τ).loc main_arg1)) (m ((c : Thread nD τ).loc main_arg2)) (m ((c : Thread nD τ).loc main_arg3)) b h := by
  funext r d
  have h4 (x : Fin 128) : (iblk m c 4 t : FVec Ideal S2048x128 .f32) (ix2 r x) = m ((c : Thread nD τ).loc main_arg1) (ix2 (row b r) x) := by
    unfold row
    blk_point [iblk, V, idx t]
  have h5 (x : Fin 128) : (iblk m c 5 t : FVec Ideal S128x128 .bf16) (ix2 x d) = (V m c main_v1 : FVec Ideal S128x512 .bf16) (ix2 x ⟨128 * h.val + d.val, by omega⟩) := by
    blk_point [iblk, idx t]
  have h6 : (iblk m c 6 t : FVec Ideal S1x128 .f32) (ix2 0 d) = (V m c main_v2 : FVec Ideal S1x512 .f32) (ix2 0 ⟨128 * h.val + d.val, by omega⟩) := by
    blk_point [iblk, idx t]
  unfold la laOf
  rw [h6, V_v2]
  refine congrArg (fun s => decay (s + _)) ?_
  refine Eq.trans (Fin.sum_univ_add (a := 16) (b := 112) _) ?_
  refine Eq.trans (congrArg₂ (· + ·) (Finset.sum_congr rfl fun x _ => ?_) (Finset.sum_eq_zero fun x _ => ?_)) (add_zero _)
  · rw [h4, h5, V_v1, dif_pos (show (Fin.castAdd 112 x).val < 16 from x.isLt)]
    rfl
  · rw [h4, h5, V_v1, dif_neg (show ¬ (Fin.natAdd 16 x).val < 16 by simp), mul_zero]

/-- The kernel's array after all grid points is `G`. -/
theorem array (c : Dev nD) : (dats m 0 c).arrAt 8 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after_8]
  obtain ⟨-, -, -, -, -, -, -, -, h8, h4⟩ := idx t
  have hy : (win0_8.blk t).view.emb y = ix2 (row ⟨(win0_8.index t) 0, h8⟩ (y 0)) ⟨256 * (win0_8.index t) 1 + (y 1).val, by have : (y 1).val < 256 := (y 1).isLt; omega⟩ := by
    idx_vars y
    unfold row
    blk_point []
  rw [hy]
  idx_vars y
  refine Eq.trans ?_ (G_at _ _ _ _ _ ⟨(win0_8.index t) 0, h8⟩ ⟨(win0_8.index t) 1, h4⟩ y0 y1 _).symm
  unfold outBlk OUT headOf
  have e1 := la_blk m c t ⟨(win0_8.index t) 0, h8⟩ rfl ⟨(win0_8.index t) 1, h4⟩ rfl
  have e2 := q_blk m c t ⟨(win0_8.index t) 0, h8⟩ rfl ⟨(win0_8.index t) 1, h4⟩ rfl
  have e3 := k_blk m c t ⟨(win0_8.index t) 0, h8⟩ rfl ⟨(win0_8.index t) 1, h4⟩ rfl
  have e4 := v_blk m c t ⟨(win0_8.index t) 0, h8⟩ rfl ⟨(win0_8.index t) 1, h4⟩ rfl
  have e5 := g_blk m c t ⟨(win0_8.index t) 0, h8⟩ rfl ⟨(win0_8.index t) 1, h4⟩ rfl y0 y1
  have e6 := w_blk m c t ⟨(win0_8.index t) 1, h4⟩ rfl y1
  rw [e1, e2, e3, e4]
  exact congrArg₂ (fun a b => gated _ a b _) e6 e5

/-- The kernel ends with `G` of its arguments, which end as they began. -/
theorem run_value (ρ : Dev nD → PrngReg) : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).1 8).trans (array m c), h.2 c⟩)
    (θ_run_and (launched m ρ) (frame_of m ρ (dats m) (dats_A m) ((θ_run defs _ _).mono (fun _ h => h.1) (launched m ρ))))

end Cert.GlaTie

end
-- ==== Proof.GlaRefStep.lean ====
/-
  The attention reference's scan: what the carried state and the collected rows hold after any number
  of chunks, at exact arithmetic.
-/
module

public import proofs.«01_k».proof.Proof.GlaValue
public import proofs.«01_k».proof.Proof.Gen.GlaRefIdeal.Run
public import Idealize.ShloMosaic.Lib.DynamicIndex
public import Idealize.ShloMosaic.Lib.Pointwise

@[expose] public section

set_option maxRecDepth 16384

noncomputable section

namespace Cert.GlaTie

open Idealize.ShloMosaic Idealize.ShloMosaic.TcCoe Idealize.SL.Sem Idealize.ShloMosaic.Pipeline
open Cert.GlaRefIdeal Cert.GlaRefIdeal.Value Cert.GlaRefIdeal.Gen

/-- Adding up a list's terms from zero is their sum. -/
theorem foldl_sum {N : ℕ} (g : Fin N → EReal) : (List.finRange N).foldl (fun r n => r + g n) 0 = ∑ n, g n := by
  rw [Fin.sum_univ_def, List.sum_eq_foldl, List.foldl_map]

/-- A window of 64 rows ending at row `i`, zero before the first: the sum of rows `0` to `i`. -/
theorem window_sum (f : Fin 64 → EReal) (i : Fin 64) :
    (∑ n : Fin 64, if h : 63 ≤ i.val + n.val then f ⟨i.val + n.val - 63, by omega⟩ else 0) = ∑ j : Fin 64, if j ≤ i then f j else 0 := by
  refine Eq.trans ?_ (Equiv.sum_comp (Equiv.addRight (i + 1)) fun j => if j ≤ i then f j else 0)
  refine Finset.sum_congr rfl fun n _ => ?_
  have hv : (Equiv.addRight (i + 1) n).val = (n.val + (i.val + 1)) % 64 := by
    simp only [Equiv.coe_addRight, Fin.val_add, Fin.val_one]; omega
  by_cases h : 63 ≤ i.val + n.val
  · rw [dif_pos h, if_pos (show (Equiv.addRight (i + 1) n) ≤ i from by rw [Fin.le_def, hv]; omega)]
    exact congrArg f (Fin.ext (by rw [hv]; dsimp only; omega))
  · rw [dif_neg h, if_neg (show ¬(Equiv.addRight (i + 1) n) ≤ i from by rw [Fin.le_def, hv]; omega)]

/-- The window has 64 places. -/
theorem window_numel : (⟨4, ![1, 64, 1, 1]⟩ : Shape).numel = 64 := by decide

/-- Place `n` of the window, axis by axis. -/
def place (n : Fin 64) (a : Fin 4) : ℕ := ((⟨4, ![1, 64, 1, 1]⟩ : Shape).rowMajor.symm (finCongr window_numel.symm n) a).val

/-- It is row `n`. -/
theorem place_at : ∀ n : Fin 64, place n 0 = 0 ∧ place n 1 = n.val ∧ place n 2 = 0 ∧ place n 3 = 0 := by decide +kernel

/-- A running sum down the rows of a chunk. -/
theorem cumsum_rows (x : FVec Ideal S8x64x4x128 .f32) (v : FVec Ideal S_ .f32) (hv : v (Shape.Idx.first h_S_) = (0 : EReal))
    (b : Fin 8) (i : Fin 64) (h : Fin 4) (d : Fin 128) :
    Host.reduceWindowAdd ![1, 64, 1, 1] ![1, 1, 1, 1] ![0, 63, 0, 0] ![0, 0, 0, 0] x v reduceWindows_S8x64x4x128_S8x64x4x128_w1s1p0_0_w64s1p63_0_w1s1p0_0_w1s1p0_0 h_S_ (ix4 b i h d)
      = ∑ j : Fin 64, if j ≤ i then (x (ix4 b j h d) : EReal) else 0 := by
  rw [← window_sum]
  have key : Host.reduceWindowAdd ![1, 64, 1, 1] ![1, 1, 1, 1] ![0, 63, 0, 0] ![0, 0, 0, 0] x v reduceWindows_S8x64x4x128_S8x64x4x128_w1s1p0_0_w64s1p63_0_w1s1p0_0_w1s1p0_0 h_S_
      = (Host.reduceWindow (fun a b : EReal => a + b) ![1, 64, 1, 1] ![1, 1, 1, 1] ![0, 63, 0, 0] ![0, 0, 0, 0] x v reduceWindows_S8x64x4x128_S8x64x4x128_w1s1p0_0_w64s1p63_0_w1s1p0_0_w1s1p0_0 h_S_ : FVec Ideal S8x64x4x128 .f32) := rfl
  rw [key]
  unfold Host.reduceWindow
  dsimp only
  rw [hv, foldl_sum, ← (finCongr window_numel.symm).sum_comp]
  refine Finset.sum_congr rfl fun n _ => ?_
  obtain ⟨w0, w1, w2, w3⟩ := place_at n
  by_cases hn : 63 ≤ i.val + n.val
  · rw [dif_pos hn, dif_pos]
    · refine congrArg x (funext fun a => Fin.ext ?_)
      fin_cases a
      · show b.val * 1 + place n 0 - 0 = b.val; omega
      · show i.val * 1 + place n 1 - 63 = i.val + n.val - 63; omega
      · show h.val * 1 + place n 2 - 0 = h.val; omega
      · show d.val * 1 + place n 3 - 0 = d.val; omega
    · intro a
      fin_cases a
      · show 0 ≤ b.val * 1 + place n 0 ∧ b.val * 1 + place n 0 - 0 < 8; omega
      · show 63 ≤ i.val * 1 + place n 1 ∧ i.val * 1 + place n 1 - 63 < 64; omega
      · show 0 ≤ h.val * 1 + place n 2 ∧ h.val * 1 + place n 2 - 0 < 4; omega
      · show 0 ≤ d.val * 1 + place n 3 ∧ d.val * 1 + place n 3 - 0 < 128; omega
  · rw [dif_neg hn, dif_neg]
    intro hin
    have h1 : 63 ≤ i.val * 1 + place n 1 := (hin 1).1
    omega

/-- Chunk `n` cut out of the chunked keys. -/
theorem cut128 (x : FVec Ideal S32x8x64x4x128 .f32) (start : Fin 5 → Int) (n : Fin 32) (hs : start = ![(n.val : Int), 0, 0, 0, 0])
    (b : Fin 8) (j : Fin 64) (h : Fin 4) (d : Fin 128) :
    shapeCast S8x64x4x128 (Host.dynamicSlice S1x8x64x4x128 x start sliceFits_S32x8x64x4x128_S1x8x64x4x128) shapeCasts_S1x8x64x4x128_S8x64x4x128 (ix4 b j h d)
      = x (ix5 n b j h d) := by
  rw [Host.dynamicSlice_eq_extractStridedSlice S1x8x64x4x128 x start ![n.val, 0, 0, 0, 0] sliceFits_S32x8x64x4x128_S1x8x64x4x128 ⟨rfl, fun a => by
      fin_cases a
      · show n.val + 1 ≤ 32; omega
      · show 0 + 8 ≤ 8; omega
      · show 0 + 64 ≤ 64; omega
      · show 0 + 4 ≤ 4; omega
      · show 0 + 128 ≤ 128; omega⟩
    (by subst hs; intro a; fin_cases a <;> rfl)]
  pointwise

/-- Chunk `n` cut out of the chunked values. -/
theorem cut256 (x : FVec Ideal S32x8x64x4x256 .f32) (start : Fin 5 → Int) (n : Fin 32) (hs : start = ![(n.val : Int), 0, 0, 0, 0])
    (b : Fin 8) (j : Fin 64) (h : Fin 4) (d : Fin 256) :
    shapeCast S8x64x4x256 (Host.dynamicSlice S1x8x64x4x256 x start sliceFits_S32x8x64x4x256_S1x8x64x4x256) shapeCasts_S1x8x64x4x256_S8x64x4x256 (ix4 b j h d)
      = x (ix5 n b j h d) := by
  rw [Host.dynamicSlice_eq_extractStridedSlice S1x8x64x4x256 x start ![n.val, 0, 0, 0, 0] sliceFits_S32x8x64x4x256_S1x8x64x4x256 ⟨rfl, fun a => by
      fin_cases a
      · show n.val + 1 ≤ 32; omega
      · show 0 + 8 ≤ 8; omega
      · show 0 + 64 ≤ 64; omega
      · show 0 + 4 ≤ 4; omega
      · show 0 + 256 ≤ 256; omega⟩
    (by subst hs; intro a; fin_cases a <;> rfl)]
  pointwise

/-- Head `h` of batch element `b`, row by row, out of an array cut into chunks. -/
def unchunk {D : ℕ} (x : Fin 32 → Fin 8 → Fin 64 → Fin 4 → Fin D → EReal) (b : Fin 8) (h : Fin 4) (r : Fin 2048) (d : Fin D) : EReal :=
  x ⟨r.val / 64, by omega⟩ b ⟨r.val % 64, Nat.mod_lt _ (by decide)⟩ h d

/-- At row `j` of chunk `n`. -/
theorem unchunk_ck {D : ℕ} (x : Fin 32 → Fin 8 → Fin 64 → Fin 4 → Fin D → EReal) (b : Fin 8) (h : Fin 4) (n : Fin 32) (j : Fin 64) (d : Fin D) :
    unchunk x b h (ck n.val j) d = x n b j h d := by
  have e1 : (⟨(ck n.val j).val / 64, by have := (ck n.val j).isLt; omega⟩ : Fin 32) = n := Fin.ext (by unfold ck; dsimp only; omega)
  have e2 : (⟨(ck n.val j).val % 64, Nat.mod_lt _ (by decide)⟩ : Fin 64) = j := Fin.ext (by unfold ck; dsimp only; omega)
  unfold unchunk
  rw [e1, e2]

/-- Chunk `n` of the collected rows replaced. -/
theorem put256 (O : FVec Ideal S32x8x64x4x256 .f32) (U : FVec Ideal S1x8x64x4x256 .f32) (start : Fin 5 → Int) (n : Fin 32) (hs : start = ![(n.val : Int), 0, 0, 0, 0])
    (N : Fin 32) (b : Fin 8) (i : Fin 64) (h : Fin 4) (e : Fin 256) :
    (Host.dynamicUpdateSlice O U start updateFits_S32x8x64x4x256_S1x8x64x4x256 : FVec Ideal S32x8x64x4x256 .f32) (ix5 N b i h e)
      = if N = n then U (ix5 0 b i h e) else O (ix5 N b i h e) := by
  have hc : ∀ a, Host.clampedStart S32x8x64x4x256 S1x8x64x4x256 updateFits_S32x8x64x4x256_S1x8x64x4x256.1 start a = (![n.val, 0, 0, 0, 0] : Fin 5 → ℕ) a := by
    intro a
    subst hs
    refine Host.clampedStart_of_le _ _ _ _ ?_ ?_
    · fin_cases a <;> rfl
    · fin_cases a
      · show n.val + 1 ≤ 32; omega
      · show 0 + 8 ≤ 8; omega
      · show 0 + 64 ≤ 64; omega
      · show 0 + 4 ≤ 4; omega
      · show 0 + 256 ≤ 256; omega
  rw [Host.dynamicUpdateSlice_apply]
  by_cases hN : N = n
  · subst hN
    rw [if_pos rfl, dif_pos]
    · refine congrArg U (funext fun a => Fin.ext ?_)
      rw [Shape.Idx.norm_def]
      dsimp only
      rw [hc]
      fin_cases a
      · show N.val - N.val = 0; omega
      all_goals rfl
    · intro a
      rw [hc]
      fin_cases a
      · show N.val ≤ N.val ∧ N.val < N.val + 1; omega
      · show 0 ≤ b.val ∧ b.val < 0 + 8; omega
      · show 0 ≤ i.val ∧ i.val < 0 + 64; omega
      · show 0 ≤ h.val ∧ h.val < 0 + 4; omega
      · show 0 ≤ e.val ∧ e.val < 0 + 256; omega
  · rw [if_neg hN, dif_neg]
    intro hin
    have h0 := hin 0
    rw [hc] at h0
    have h1 : n.val ≤ N.val ∧ N.val < n.val + 1 := h0
    exact hN (Fin.ext (by omega))

/-- The state after a chunk, from the chunk's arrays. -/
theorem state_pure (L : FVec Ideal S8x4x128 .f32) (C X : FVec Ideal S8x64x4x128 .f32) (Y : FVec Ideal S8x64x4x256 .f32) (S : FVec Ideal S8x4x128x256 .f32)
    (b : Fin 8) (h : Fin 4) (d : Fin 128) (e : Fin 256) :
    (id (addf (mulf (broadcastInDim S8x4x128x256 ![0, 1, 2, 3] bcast_S8x4x128x1_S8x4x128x256_0_1_2_3 (broadcastInDim S8x4x128x1 ![0, 1, 2] bcast_S8x4x128_S8x4x128x1_0_1_2 (Host.exp L))) S)
      (Host.dotGeneral dot_S8x64x4x128_S8x64x4x256_S8x4x128x256_1_1_3_3_02_02 none (mulf X (Host.exp (subf (broadcastInDim S8x64x4x128 ![0, 1, 2, 3] bcast_S8x1x4x128_S8x64x4x128_0_1_2_3 (broadcastInDim S8x1x4x128 ![0, 2, 3] bcast_S8x4x128_S8x1x4x128_0_2_3 L)) C))) Y)) : FVec Ideal S8x4x128x256 .f32) (ix4 b h d e)
      = Ideal.exp (L (ix3 b h d)) * S (ix4 b h d e) + ∑ j : Fin 64, (X (ix4 b j h d) * Ideal.exp (L (ix3 b h d) - C (ix4 b j h d))) * Y (ix4 b j h e) := by
  rw [id_eq]
  pointwise
  try rfl

/-- A chunk's rows, from the chunk's arrays. -/
theorem rows_pure (M : IVec S64x64 1) (Q C X : FVec Ideal S8x64x4x128 .f32) (Y : FVec Ideal S8x64x4x256 .f32) (S : FVec Ideal S8x4x128x256 .f32)
    (b : Fin 8) (i : Fin 64) (h : Fin 4) (e : Fin 256) :
    (broadcastInDim S1x8x64x4x256 ![1, 2, 3, 4] bcast_S8x64x4x256_S1x8x64x4x256_1_2_3_4 (addf (transpose S8x64x4x256 [0, 3, 1, 2] (Host.dotGeneral dot_S8x64x4x256_S8x4x64x64_S8x4x256x64_1_3_3_2_02_01 none Y (select (broadcastInDim S8x4x64x64 ![2, 3] bcast_S64x64_S8x4x64x64_2_3 M) (Host.dotGeneral dot_S8x64x4x128_S8x64x4x128_S8x4x64x64_3_3_1_1_02_02 none Q (mulf X (Host.exp (Host.negf C)))) (broadcastInDim S8x4x64x64 ![] bcast_S_S8x4x64x64 (id (constant S_ .f32 0x00000000#32))))) transposes_S8x4x256x64_S8x64x4x256_0_3_1_2) (transpose S8x64x4x256 [0, 3, 1, 2] (Host.dotGeneral dot_S8x4x128x256_S8x64x4x128_S8x4x256x64_2_3_3_1_01_02 none S Q) transposes_S8x4x256x64_S8x64x4x256_0_3_1_2)) : FVec Ideal S1x8x64x4x256 .f32) (ix5 0 b i h e)
      = (∑ j : Fin 64, Scalar.select (M (ix2 i j)) (Y (ix4 b j h e) * ∑ d : Fin 128, Q (ix4 b i h d) * (X (ix4 b j h d) * Ideal.exp (-C (ix4 b j h d)))) (0 : EReal))
        + ∑ d : Fin 128, S (ix4 b h d e) * Q (ix4 b i h d) := by
  rw [id_eq]
  pointwise

section Step

variable (Q K A : FVec Ideal S32x8x64x4x128 .f32) (W : FVec Ideal S32x8x64x4x256 .f32)

/-- Queries, keys, log decay and values as plain functions. -/
abbrev five {D : ℕ} (x : FVec Ideal ⟨5, ![32, 8, 64, 4, D]⟩ .f32) (n : Fin 32) (b : Fin 8) (j : Fin 64) (h : Fin 4) (d : Fin D) : EReal := x (ix5 n b j h d)

/-- The state before chunk `n`. -/
abbrev stR (b : Fin 8) (h : Fin 4) (n : ℕ) (d : Fin 128) (e : Fin 256) : EReal :=
  st (unchunk (five A) b h) (unchunk (five K) b h) (unchunk (five W) b h) n e d

/-- The attention's rows. -/
abbrev attR (b : Fin 8) (h : Fin 4) (n : ℕ) (i : Fin 64) (e : Fin 256) : EReal :=
  att (unchunk (five A) b h) (unchunk (five Q) b h) (unchunk (five K) b h) (unchunk (five W) b h) n i e

variable (V0 : Valuation τ sig (Elt Ideal)) (n : Fin 32) (hc : V0 (Proc.devRef .tc main_v33_5) = fun _ => BitVec.ofNat 32 n.val)
  (hQ : V0 (Proc.devRef .tc main_v33_0) = Q) (hK : V0 (Proc.devRef .tc main_v33_1) = K) (hW : V0 (Proc.devRef .tc main_v33_2) = W)
  (hA : V0 (Proc.devRef .tc main_v33_3) = A)
  (M : IVec S64x64 1) (hM : V0 (Proc.devRef .tc main_v33_4) = M) (hM' : ∀ i j : Fin 64, M (ix2 i j) = BitVec.ofBool (decide (j ≤ i)))
  (S : FVec Ideal S8x4x128x256 .f32) (hS : V0 (Proc.devRef .tc main_v33_6) = S)

include hc in
/-- Where chunk `n` starts. -/
theorem start_at : (fun k => (((![V0 (Proc.devRef .tc main_v33_5), constantI S_ 32 0#32, constantI S_ 32 0#32, constantI S_ 32 0#32, constantI S_ 32 0#32] : Fin 5 → (⟨S_, .i32⟩ : BufTy).Contents (Elt Ideal))) k (Shape.Idx.first h_S_)).toInt)
    = ![(n.val : Int), 0, 0, 0, 0] := by
  funext k
  fin_cases k
  · show ((V0 (Proc.devRef .tc main_v33_5) : IVec S_ 32) (Shape.Idx.first h_S_)).toInt = (n.val : Int)
    rw [hc]
    exact (by decide +kernel : ∀ n : Fin 32, (BitVec.ofNat 32 n.val).toInt = (n.val : Int)) n
  all_goals rfl

include hc hK in
/-- The chunk's keys. -/
theorem k_at (b : Fin 8) (j : Fin 64) (h : Fin 4) (d : Fin 128) :
    (res_main_while0b_v56 V0 : FVec Ideal S8x64x4x128 .f32) (ix4 b j h d) = K (ix5 n b j h d) := by
  subst hK
  unfold res_main_while0b_v56
  exact cut128 _ _ n (start_at V0 n hc) b j h d

include hc hW in
/-- The chunk's values. -/
theorem v_at (b : Fin 8) (j : Fin 64) (h : Fin 4) (e : Fin 256) :
    (res_main_while0b_v57 V0 : FVec Ideal S8x64x4x256 .f32) (ix4 b j h e) = W (ix5 n b j h e) := by
  subst hW
  unfold res_main_while0b_v57
  exact cut256 _ _ n (start_at V0 n hc) b j h e

include hc hA in
/-- The chunk's running log decay. -/
theorem cum_at (b : Fin 8) (i : Fin 64) (h : Fin 4) (d : Fin 128) :
    (res_main_while0b_v59 V0 : FVec Ideal S8x64x4x128 .f32) (ix4 b i h d) = cum (unchunk (five A) b h) n.val i d := by
  unfold res_main_while0b_v59 cum
  refine (cumsum_rows _ _ ?_ b i h d).trans ?_
  · pointwise
  · refine Finset.sum_congr rfl fun j _ => ?_
    refine congrArg (fun t : EReal => if j ≤ i then t else 0) ((cut128 _ _ n (start_at V0 n hc) b j h d).trans ?_)
    rw [unchunk_ck]
    exact congrFun hA _

include hc hA in
/-- The running log decay at the chunk's end. -/
theorem last_at (b : Fin 8) (h : Fin 4) (d : Fin 128) :
    (res_main_while0b_v61 V0 : FVec Ideal S8x4x128 .f32) (ix3 b h d) = cum (unchunk (five A) b h) n.val 63 d := by
  rw [← cum_at A V0 n hc hA b 63 h d]
  unfold res_main_while0b_v61
  pointwise

include hc hQ hA in
/-- The chunk's decayed queries. -/
theorem q_at (b : Fin 8) (i : Fin 64) (h : Fin 4) (d : Fin 128) :
    (res_main_while0b_v63 V0 : FVec Ideal S8x64x4x128 .f32) (ix4 b i h d)
      = Q (ix5 n b i h d) * Ideal.exp (cum (unchunk (five A) b h) n.val i d) := by
  unfold res_main_while0b_v63
  refine congrArg₂ (fun x y : EReal => x * Ideal.exp y) ?_ (cum_at A V0 n hc hA b i h d)
  exact (cut128 _ _ n (start_at V0 n hc) b i h d).trans (by rw [hQ])

include hc hK hW hA hS in
/-- The state after the chunk. -/
theorem state_step (hS' : ∀ b h d e, S (ix4 b h d e) = stR K A W b h n.val d e) (b : Fin 8) (h : Fin 4) (d : Fin 128) (e : Fin 256) :
    (step_main_v33_6 V0 : FVec Ideal S8x4x128x256 .f32) (ix4 b h d e) = stR K A W b h (n.val + 1) d e := by
  unfold step_main_v33_6
  rw [hS]
  refine (state_pure (res_main_while0b_v61 V0) (res_main_while0b_v59 V0) (res_main_while0b_v56 V0) (res_main_while0b_v57 V0) S b h d e).trans ?_
  unfold stR st
  refine congrArg₂ (fun x y : EReal => x + y) ?_ (Finset.sum_congr rfl fun j _ => ?_)
  · rw [last_at A V0 n hc hA, hS', mul_comm]
  · rw [last_at A V0 n hc hA, cum_at A V0 n hc hA, k_at K V0 n hc hK, v_at W V0 n hc hW, unchunk_ck, unchunk_ck, mul_comm]

include hc hQ hK hW hA hM hM' hS in
/-- The chunk's rows. -/
theorem rows_step (O : FVec Ideal S32x8x64x4x256 .f32) (hO : V0 (Proc.devRef .tc main_v33_7) = O)
    (hS' : ∀ b h d e, S (ix4 b h d e) = stR K A W b h n.val d e) (N : Fin 32) (b : Fin 8) (i : Fin 64) (h : Fin 4) (e : Fin 256) :
    (step_main_v33_7 V0 : FVec Ideal S32x8x64x4x256 .f32) (ix5 N b i h e) = if N = n then attR Q K A W b h n.val i e else O (ix5 N b i h e) := by
  have hr : ∀ (b : Fin 8) (i : Fin 64) (h : Fin 4) (e : Fin 256), _ = attR Q K A W b h n.val i e := fun b i h e =>
    (rows_pure M (res_main_while0b_v63 V0) (res_main_while0b_v59 V0) (res_main_while0b_v56 V0) (res_main_while0b_v57 V0) S b i h e).trans (by
      unfold attR att
      refine congrArg₂ (fun x y : EReal => x + y) (Finset.sum_congr rfl fun j _ => ?_) (Finset.sum_congr rfl fun d _ => ?_)
      · rw [hM' i j]
        by_cases hj : j ≤ i
        · rw [if_pos hj, decide_eq_true hj]
          show (_ : EReal) * _ = _
          rw [v_at W V0 n hc hW, mul_comm, unchunk_ck]
          refine congrArg (· * _) (Finset.sum_congr rfl fun d _ => ?_)
          rw [q_at Q A V0 n hc hQ hA, k_at K V0 n hc hK, cum_at A V0 n hc hA, unchunk_ck, unchunk_ck, zero_sub]
        · rw [if_neg hj, decide_eq_false hj]
          rfl
      · rw [hS', q_at Q A V0 n hc hQ hA, unchunk_ck, mul_comm])
  unfold step_main_v33_7
  rw [hM, hS, hO, id_eq]
  refine (put256 O _ _ n (start_at V0 n hc) N b i h e).trans ?_
  rw [hr b i h e]

end Step

end Cert.GlaTie

end
-- ==== Proof.GlaRefValue.lean ====
/-
  The attention reference's result: the scan run over all chunks, between the operations that cut the
  arguments into chunks and those that normalise and gate what the scan collects.
-/
module

public import proofs.«01_k».proof.Proof.GlaRefStep

@[expose] public section

set_option maxRecDepth 16384

noncomputable section

namespace Cert.GlaTie

open Idealize.ShloMosaic Idealize.ShloMosaic.TcCoe Idealize.SL.Sem Idealize.ShloMosaic.Pipeline Idealize.ShloMosaic.StableHlo
open Cert.GlaRefIdeal Cert.GlaRefIdeal.Value Cert.GlaRefIdeal.Gen

/-- `-log (1 + exp (-x))`, as it is usually evaluated, over 16. -/
theorem decay_alt (x : EReal) :
    Ideal.div (-(if -x ≠ -x then -x else max (-x) 0 + Ideal.log1p (Ideal.exp (-max (-x) (- -x))))) (Ideal.ofBits .f32 1098907648#32) = decay x := by
  unfold decay
  rw [if_neg (not_not.mpr rfl), neg_neg, max_comm (-x) x, zero_sub]
  refine congrArg (Ideal.div · _) ?_
  have hL : Ideal.log1p (Ideal.exp (-max x (-x))) ≠ ⊥ := fun h => by
    have h0 := log1p_exp_nonneg (-max x (-x))
    rw [h] at h0
    exact absurd h0 (by decide)
  have hM : max (-x) 0 ≠ (⊥ : EReal) := fun h => by
    have h0 : (0 : EReal) ≤ max (-x) 0 := le_max_right _ _
    rw [h] at h0
    exact absurd h0 (by decide)
  rw [EReal.neg_add (Or.inl hM) (Or.inr hL)]
  refine congrArg (· - _) ?_
  rcases le_total x 0 with hx | hx
  · rw [max_eq_left (by rw [EReal.le_neg, neg_zero]; exact hx), min_eq_left hx, neg_neg]
  · rw [max_eq_right (by rw [EReal.neg_le, neg_zero]; exact hx), min_eq_right hx, neg_zero]

variable (m : (ℓ : Loc nD τ sig) → Buf (Elt Ideal) ℓ) (c : Dev nD)

set_option maxHeartbeats 2000000 in
/-- The queries the scan is entered with. -/
theorem entry_q (n : Fin 32) (b : Fin 8) (j : Fin 64) (h : Fin 4) (d : Fin 128) :
    (entryContents preI m c (Proc.devRef .tc main_v33_0) : FVec Ideal S32x8x64x4x128 .f32) (ix5 n b j h d)
      = qOf (m ((c.tc : Thread nD τ).loc main_arg0)) b h ⟨64 * n.val + j.val, by omega⟩ d := by
  unfold qOf row
  simp only [entryContents, preI, afterL_cons, afterL_nil]
  after_reads_simp
  rw [id_eq]
  pointwise
  refine congrArg (· * _) (congrArg _ (congrArg₂ ix2 (Fin.ext ?_) (Fin.ext ?_))) <;> dsimp only <;> omega

set_option maxHeartbeats 2000000 in
/-- The keys. -/
theorem entry_k (n : Fin 32) (b : Fin 8) (j : Fin 64) (h : Fin 4) (d : Fin 128) :
    (entryContents preI m c (Proc.devRef .tc main_v33_1) : FVec Ideal S32x8x64x4x128 .f32) (ix5 n b j h d)
      = kOf (m ((c.tc : Thread nD τ).loc main_arg0)) b h ⟨64 * n.val + j.val, by omega⟩ d := by
  unfold kOf row
  simp only [entryContents, preI, afterL_cons, afterL_nil]
  after_reads_simp
  rw [id_eq]
  pointwise
  refine (congrArg _ (congrArg₂ ix2 (Fin.ext ?_) (Fin.ext ?_))) <;> dsimp only <;> omega

set_option maxHeartbeats 2000000 in
/-- The values. -/
theorem entry_v (n : Fin 32) (b : Fin 8) (j : Fin 64) (h : Fin 4) (d : Fin 256) :
    (entryContents preI m c (Proc.devRef .tc main_v33_2) : FVec Ideal S32x8x64x4x256 .f32) (ix5 n b j h d)
      = vOf (m ((c.tc : Thread nD τ).loc main_arg0)) b h ⟨64 * n.val + j.val, by omega⟩ d := by
  unfold vOf row
  simp only [entryContents, preI, afterL_cons, afterL_nil]
  after_reads_simp
  rw [id_eq]
  pointwise
  refine (congrArg _ (congrArg₂ ix2 (Fin.ext ?_) (Fin.ext ?_))) <;> dsimp only <;> omega

set_option maxHeartbeats 2000000 in
/-- The log decay. -/
theorem entry_la (n : Fin 32) (b : Fin 8) (j : Fin 64) (h : Fin 4) (d : Fin 128) :
    (entryContents preI m c (Proc.devRef .tc main_v33_3) : FVec Ideal S32x8x64x4x128 .f32) (ix5 n b j h d)
      = laOf (m ((c.tc : Thread nD τ).loc main_arg1)) (m ((c.tc : Thread nD τ).loc main_arg2)) (m ((c.tc : Thread nD τ).loc main_arg3)) b h ⟨64 * n.val + j.val, by omega⟩ d := by
  unfold laOf row
  simp only [entryContents, preI, afterL_cons, afterL_nil]
  after_reads_simp
  simp only [TRef.toBuf, TRef.ofBuf, cast_eq]
  rw [id_eq]
  pointwise
  refine (decay_alt _).trans (congrArg decay (congrArg₂ (fun x y : EReal => x + y) (Finset.sum_congr rfl fun t _ => congrArg₂ (fun x y : EReal => x * y) (congrArg _ ?_) (congrArg _ ?_)) (congrArg _ ?_)))
  · exact congrArg₂ ix2 (Fin.ext (by dsimp only; omega)) rfl
  · exact congrArg₂ ix2 rfl (Fin.ext (by dsimp only; omega))
  · exact congrArg ix1 (Fin.ext (by dsimp only; omega))

/-- The mask keeps row `j` for row `i` where `j` is no later. -/
theorem entry_mask (i j : Fin 64) : (entryContents preI m c (Proc.devRef .tc main_v33_4) : IVec S64x64 1) (ix2 i j) = BitVec.ofBool (decide (j ≤ i)) := by
  simp only [entryContents, preI, afterL_cons, afterL_nil]
  after_reads_simp
  simp only [TRef.toBuf, TRef.ofBuf, cast_eq]
  rw [id_eq]
  pointwise
  exact (by decide +kernel : ∀ i j : Fin 64, Scalar.select (IntOp.cmpi .sge (IntOp.addi (BitVec.ofNat 32 i.val) 0#32) (BitVec.ofNat 32 j.val)) 1#1 0#1 = BitVec.ofBool (decide (j ≤ i))) i j

/-- The state starts at zero. -/
theorem entry_state (b : Fin 8) (h : Fin 4) (d : Fin 128) (e : Fin 256) :
    (entryContents preI m c (Proc.devRef .tc main_v33_6) : FVec Ideal S8x4x128x256 .f32) (ix4 b h d e) = (0 : EReal) := by
  simp only [entryContents, preI, afterL_cons, afterL_nil]
  after_reads_simp
  rw [id_eq]
  pointwise

/-- One chunk on: the scan's arrays after trip `k` are one step from those before. -/
theorem trip_step (k : ℕ) : Agree (atK m (k + 1) c) (STEP (atK m k c)) := trip_agree (atK m k c)

section Scan

/-- The scan's queries, keys, log decay and values. -/
abbrev eQ : FVec Ideal S32x8x64x4x128 .f32 := entryContents preI m c (Proc.devRef .tc main_v33_0)
/-- The chunks of the keys that the scan reads. -/
abbrev eK : FVec Ideal S32x8x64x4x128 .f32 := entryContents preI m c (Proc.devRef .tc main_v33_1)
/-- The chunks of the log decays that the scan reads. -/
abbrev eA : FVec Ideal S32x8x64x4x128 .f32 := entryContents preI m c (Proc.devRef .tc main_v33_3)
/-- The chunks of the values that the scan reads. -/
abbrev eW : FVec Ideal S32x8x64x4x256 .f32 := entryContents preI m c (Proc.devRef .tc main_v33_2)

/-- What the scan only reads stays; the state is the recurrence's; the rows of the chunks done are the attention's. -/
theorem scan (k : ℕ) (hk : k ≤ 32) :
    atK m k c (Proc.devRef .tc main_v33_0) = eQ m c ∧ atK m k c (Proc.devRef .tc main_v33_1) = eK m c ∧ atK m k c (Proc.devRef .tc main_v33_2) = eW m c
    ∧ atK m k c (Proc.devRef .tc main_v33_3) = eA m c ∧ atK m k c (Proc.devRef .tc main_v33_4) = entryContents preI m c (Proc.devRef .tc main_v33_4)
    ∧ (∀ b h d e, (atK m k c (Proc.devRef .tc main_v33_6) : FVec Ideal S8x4x128x256 .f32) (ix4 b h d e) = stR (eK m c) (eA m c) (eW m c) b h k d e)
    ∧ (∀ (N : Fin 32) b i h e, N.val < k → (atK m k c (Proc.devRef .tc main_v33_7) : FVec Ideal S32x8x64x4x256 .f32) (ix5 N b i h e) = attR (eQ m c) (eK m c) (eA m c) (eW m c) b h N.val i e) := by
  induction k with
  | zero => exact ⟨rfl, rfl, rfl, rfl, rfl, fun b h d e => entry_state m c b h d e, fun _ _ _ _ _ h => absurd h (Nat.not_lt_zero _)⟩
  | succ k ih =>
    obtain ⟨hQ, hK, hW, hA, hM, hS, hO⟩ := ih (by omega)
    have hc : atK m k c (Proc.devRef .tc main_v33_5) = fun _ => BitVec.ofNat 32 (⟨k, by omega⟩ : Fin 32).val := by
      rw [atK_ctr]
      funext _
      exact (by decide +kernel : ∀ k : Fin 32, Scf.iv 0#32 1#32 k.val = BitVec.ofNat 32 k.val) ⟨k, by omega⟩
    have hs := trip_step m c k
    refine ⟨?_, ?_, ?_, ?_, ?_, fun b h d e => ?_, fun N b i h e hN => ?_⟩
    · rw [hs main_v33_0 (by decide), STEP_main_v33_0, hQ]
    · rw [hs main_v33_1 (by decide), STEP_main_v33_1, hK]
    · rw [hs main_v33_2 (by decide), STEP_main_v33_2, hW]
    · rw [hs main_v33_3 (by decide), STEP_main_v33_3, hA]
    · rw [hs main_v33_4 (by decide), STEP_main_v33_4, hM]
    · rw [hs main_v33_6 (by decide), STEP_main_v33_6]
      exact state_step (eK m c) (eA m c) (eW m c) _ ⟨k, by omega⟩ hc hK hW hA _ rfl hS b h d e
    · rw [hs main_v33_7 (by decide), STEP_main_v33_7]
      refine (rows_step (eQ m c) (eK m c) (eA m c) (eW m c) _ ⟨k, by omega⟩ hc hQ hK hW hA _ hM (entry_mask m c) _ rfl _ rfl hS N b i h e).trans ?_
      by_cases hNk : N = (⟨k, by omega⟩ : Fin 32)
      · rw [if_pos hNk, hNk]
      · rw [if_neg hNk]
        exact hO N b i h e (by have : N.val ≠ k := fun h => hNk (Fin.ext h); omega)

end Scan

end Cert.GlaTie

end
-- ==== Proof.GlaReference.lean ====
/-
  The attention reference's run: its result is the attention of its arguments, head by head, and its
  arguments are left as they were.
-/
module

public import proofs.«01_k».proof.Proof.GlaRefValue
public import Idealize.ShloMosaic.Lib.Quiescent

@[expose] public section

set_option maxRecDepth 16384

noncomputable section

namespace Cert.GlaTie

open Idealize.ShloMosaic Idealize.ShloMosaic.TcCoe Idealize.SL.Sem Idealize.ShloMosaic.Pipeline Idealize.ShloMosaic.StableHlo
open Cert.GlaRefIdeal Cert.GlaRefIdeal.Value Cert.GlaRefIdeal.Gen

set_option maxHeartbeats 2000000 in
/-- What follows the scan: the collected rows normalised over each head, weighted and gated. -/
theorem post_value (X : Valuation τ sig (Elt Ideal)) (O : FVec Ideal S32x8x64x4x256 .f32) (hO : X (Proc.devRef .tc main_v33_7) = O)
    (w : FVec Ideal S1024 .f32) (hw : X (Proc.devRef .tc main_arg4) = w) (g : FVec Ideal S8x2048x1024 .f32) (hg : X (Proc.devRef .tc main_v7) = g)
    (I : Fin 16384) (C : Fin 1024) :
    (afterL postI X (Proc.devRef .tc main_v54) : FVec Ideal S16384x1024 .bf16) (ix2 I C)
      = gated (fun e => O (ix5 ⟨I.val % 2048 / 64, by omega⟩ ⟨I.val / 2048, by omega⟩ ⟨I.val % 2048 % 64, by omega⟩ ⟨C.val / 256, by omega⟩ e)) (w (ix1 C))
          (g (ix3 ⟨I.val / 2048, by omega⟩ ⟨I.val % 2048, by omega⟩ C)) ⟨C.val % 256, by omega⟩ := by
  unfold gated
  simp only [postI, afterL_cons, afterL_nil]
  after_reads_simp
  simp only [TRef.toBuf, TRef.ofBuf, cast_eq, hO, hw, hg]
  pointwise
  have hC : ∀ p : C.val / 256 * 256 + C.val % 256 < 1024, (⟨C.val / 256 * 256 + C.val % 256, p⟩ : Fin 1024) = C := fun p => Fin.ext (by dsimp only; omega)
  simp only [hC]
  rfl

variable (m : (ℓ : Loc nD τ sig) → Buf (Elt Ideal) ℓ) (c : Dev nD)

/-- A buffer no operation of the scan writes holds what it held at the scan's entry. -/
theorem atK_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (h6 : r ∉ while0Ops0_6_W) (h7 : r ∉ while0Ops0_7_W) (h8 : r ∉ while0Ops0_8_W) (h9 : r ∉ while0Ops0_9_W) (k : ℕ) :
    atK m k c (Proc.devRef .tc r) = entryContents preI m c (Proc.devRef .tc r) := by
  induction k with
  | zero => rfl
  | succ k ih =>
    rw [show atK m (k + 1) c = afterL bodyI (after condOps (atK m k c)) from rfl]
    simp only [bodyI, afterL_cons, afterL_nil]
    rw [after_of_writes_sub while0Ops0_9 _ while0Ops0_9_writes h9, after_of_writes_sub while0Ops0_8 _ while0Ops0_8_writes h8,
      after_of_writes_sub while0Ops0_7 _ while0Ops0_7_writes h7, after_of_writes_sub while0Ops0_6 _ while0Ops0_6_writes h6,
      after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, ih]
    rfl

set_option maxHeartbeats 2000000 in
/-- The output gate the arguments hold. -/
theorem entry_gate (b : Fin 8) (r : Fin 2048) (C : Fin 1024) :
    (entryContents preI m c (Proc.devRef .tc main_v7) : FVec Ideal S8x2048x1024 .f32) (ix3 b r C)
      = (m ((c.tc : Thread nD τ).loc main_arg0) : FVec Ideal S16384x7168 .bf16) (ix2 (row b r) ⟨6144 + C.val, by omega⟩) := by
  unfold row
  simp only [entryContents, preI, afterL_cons, afterL_nil]
  after_reads_simp
  pointwise
  refine congrArg _ (congrArg₂ ix2 (Fin.ext ?_) (Fin.ext ?_)) <;> dsimp only <;> omega

/-- A row is row `r % 64` of chunk `r / 64`. -/
theorem row_split (r : Fin 2048) (p : 64 * (r.val / 64) + r.val % 64 < 2048) : (⟨64 * (r.val / 64) + r.val % 64, p⟩ : Fin 2048) = r := Fin.ext (by dsimp only; omega)

/-- An argument is as it was at launch when the scan ends. -/
theorem atK_arg (r : Ref sig .tc) (hk : ∀ k, atK m k c (Proc.devRef .tc r) = entryContents preI m c (Proc.devRef .tc r))
    (h0 : r ∉ hostOps0_W) (h1 : r ∉ hostOps0_1_W) (h2 : r ∉ hostOps0_2_W) (h3 : r ∉ hostOps0_3_W) (h4 : r ∉ hostOps0_4_W) (hc : r ∉ condOps_W) :
    after condOps (atK m 32 c) (Proc.devRef .tc r) = m ((c.tc : Thread nD τ).loc r) := by
  rw [after_of_writes_sub condOps _ condOps_writes hc, hk 32]
  simp only [entryContents, preI, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1, after_of_writes_sub hostOps0 _ hostOps0_writes h0]

/-- Argument 0 is as it was when the scan ends. -/
theorem arg0_scan : after condOps (atK m 32 c) (Proc.devRef .tc main_arg0) = m ((c.tc : Thread nD τ).loc main_arg0) :=
  atK_arg m c main_arg0 (atK_keep m c main_arg0 (by decide +kernel) (by decide +kernel) (by decide +kernel) (by decide +kernel) (by decide +kernel) (by decide +kernel) (by decide +kernel) (by decide +kernel) (by decide +kernel) (by decide +kernel) (by decide +kernel)) (by decide +kernel) (by decide +kernel) (by decide +kernel) (by decide +kernel) (by decide +kernel) (by decide +kernel)

/-- And at the end. -/
theorem arg0_end : finalContents condOps preI bodyI postI 32 m c (Proc.devRef .tc main_arg0) = m ((c.tc : Thread nD τ).loc main_arg0) := by
  refine Eq.trans ?_ (arg0_scan m c)
  show afterL postI (after condOps (atK m 32 c)) _ = _
  generalize after condOps (atK m 32 c) = X
  simp only [postI, afterL_cons, afterL_nil]
  after_reads_simp

/-- Argument 1 is as it was when the scan ends. -/
theorem arg1_scan : after condOps (atK m 32 c) (Proc.devRef .tc main_arg1) = m ((c.tc : Thread nD τ).loc main_arg1) :=
  atK_arg m c main_arg1 (atK_keep m c main_arg1 (by decide +kernel) (by decide +kernel) (by decide +kernel) (by decide +kernel) (by decide +kernel) (by decide +kernel) (by decide +kernel) (by decide +kernel) (by decide +kernel) (by decide +kernel) (by decide +kernel)) (by decide +kernel) (by decide +kernel) (by decide +kernel) (by decide +kernel) (by decide +kernel) (by decide +kernel)

/-- And at the end. -/
theorem arg1_end : finalContents condOps preI bodyI postI 32 m c (Proc.devRef .tc main_arg1) = m ((c.tc : Thread nD τ).loc main_arg1) := by
  refine Eq.trans ?_ (arg1_scan m c)
  show afterL postI (after condOps (atK m 32 c)) _ = _
  generalize after condOps (atK m 32 c) = X
  simp only [postI, afterL_cons, afterL_nil]
  after_reads_simp

/-- Argument 2 is as it was when the scan ends. -/
theorem arg2_scan : after condOps (atK m 32 c) (Proc.devRef .tc main_arg2) = m ((c.tc : Thread nD τ).loc main_arg2) :=
  atK_arg m c main_arg2 (atK_keep m c main_arg2 (by decide +kernel) (by decide +kernel) (by decide +kernel) (by decide +kernel) (by decide +kernel) (by decide +kernel) (by decide +kernel) (by decide +kernel) (by decide +kernel) (by decide +kernel) (by decide +kernel)) (by decide +kernel) (by decide +kernel) (by decide +kernel) (by decide +kernel) (by decide +kernel) (by decide +kernel)

/-- And at the end. -/
theorem arg2_end : finalContents condOps preI bodyI postI 32 m c (Proc.devRef .tc main_arg2) = m ((c.tc : Thread nD τ).loc main_arg2) := by
  refine Eq.trans ?_ (arg2_scan m c)
  show afterL postI (after condOps (atK m 32 c)) _ = _
  generalize after condOps (atK m 32 c) = X
  simp only [postI, afterL_cons, afterL_nil]
  after_reads_simp

/-- Argument 3 is as it was when the scan ends. -/
theorem arg3_scan : after condOps (atK m 32 c) (Proc.devRef .tc main_arg3) = m ((c.tc : Thread nD τ).loc main_arg3) :=
  atK_arg m c main_arg3 (atK_keep m c main_arg3 (by decide +kernel) (by decide +kernel) (by decide +kernel) (by decide +kernel) (by decide +kernel) (by decide +kernel) (by decide +kernel) (by decide +kernel) (by decide +kernel) (by decide +kernel) (by decide +kernel)) (by decide +kernel) (by decide +kernel) (by decide +kernel) (by decide +kernel) (by decide +kernel) (by decide +kernel)

/-- And at the end. -/
theorem arg3_end : finalContents condOps preI bodyI postI 32 m c (Proc.devRef .tc main_arg3) = m ((c.tc : Thread nD τ).loc main_arg3) := by
  refine Eq.trans ?_ (arg3_scan m c)
  show afterL postI (after condOps (atK m 32 c)) _ = _
  generalize after condOps (atK m 32 c) = X
  simp only [postI, afterL_cons, afterL_nil]
  after_reads_simp

/-- Argument 4 is as it was when the scan ends. -/
theorem arg4_scan : after condOps (atK m 32 c) (Proc.devRef .tc main_arg4) = m ((c.tc : Thread nD τ).loc main_arg4) :=
  atK_arg m c main_arg4 (atK_keep m c main_arg4 (by decide +kernel) (by decide +kernel) (by decide +kernel) (by decide +kernel) (by decide +kernel) (by decide +kernel) (by decide +kernel) (by decide +kernel) (by decide +kernel) (by decide +kernel) (by decide +kernel)) (by decide +kernel) (by decide +kernel) (by decide +kernel) (by decide +kernel) (by decide +kernel) (by decide +kernel)

/-- And at the end. -/
theorem arg4_end : finalContents condOps preI bodyI postI 32 m c (Proc.devRef .tc main_arg4) = m ((c.tc : Thread nD τ).loc main_arg4) := by
  refine Eq.trans ?_ (arg4_scan m c)
  show afterL postI (after condOps (atK m 32 c)) _ = _
  generalize after condOps (atK m 32 c) = X
  simp only [postI, afterL_cons, afterL_nil]
  after_reads_simp

/-- The scan's log decay, head by head. -/
theorem unchunk_la (b : Fin 8) (h : Fin 4) : unchunk (five (eA m c)) b h = laOf (m ((c.tc : Thread nD τ).loc main_arg1)) (m ((c.tc : Thread nD τ).loc main_arg2)) (m ((c.tc : Thread nD τ).loc main_arg3)) b h := by
  funext r d
  exact (entry_la m c _ b _ h d).trans (by rw [row_split])

/-- The scan's queries. -/
theorem unchunk_q (b : Fin 8) (h : Fin 4) : unchunk (five (eQ m c)) b h = qOf (m ((c.tc : Thread nD τ).loc main_arg0)) b h := by
  funext r d
  exact (entry_q m c _ b _ h d).trans (by rw [row_split])

/-- The scan's keys. -/
theorem unchunk_k (b : Fin 8) (h : Fin 4) : unchunk (five (eK m c)) b h = kOf (m ((c.tc : Thread nD τ).loc main_arg0)) b h := by
  funext r d
  exact (entry_k m c _ b _ h d).trans (by rw [row_split])

/-- The scan's values. -/
theorem unchunk_v (b : Fin 8) (h : Fin 4) : unchunk (five (eW m c)) b h = vOf (m ((c.tc : Thread nD τ).loc main_arg0)) b h := by
  funext r d
  exact (entry_v m c _ b _ h d).trans (by rw [row_split])

/-- The result is the attention of the arguments. -/
theorem ref_value : finalContents condOps preI bodyI postI 32 m c (Proc.devRef .tc main_v54) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext j
  obtain ⟨I, C, rfl⟩ : ∃ (I : Fin 16384) (C : Fin 1024), j = ix2 I C := ⟨j 0, j 1, by funext a; fin_cases a <;> rfl⟩
  refine (post_value (after condOps (atK m 32 c)) _ rfl _ (arg4_scan m c) _ rfl I C).trans ?_
  show gated _ _ _ _ = headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨I.val / 2048, _⟩ ⟨C.val / 256, _⟩ ⟨I.val % 2048, _⟩ ⟨C.val % 256, _⟩
  unfold headOf
  have hO : ∀ (N : Fin 32) b i h e, (after condOps (atK m 32 c) (Proc.devRef .tc main_v33_7) : FVec Ideal S32x8x64x4x256 .f32) (ix5 N b i h e)
      = att (laOf (m ((c.tc : Thread nD τ).loc main_arg1)) (m ((c.tc : Thread nD τ).loc main_arg2)) (m ((c.tc : Thread nD τ).loc main_arg3)) b h) (qOf (m ((c.tc : Thread nD τ).loc main_arg0)) b h) (kOf (m ((c.tc : Thread nD τ).loc main_arg0)) b h) (vOf (m ((c.tc : Thread nD τ).loc main_arg0)) b h) N.val i e := fun N b i h e => by
    rw [cond_keeps _ main_v33_7 (by decide), (scan m c 32 le_rfl).2.2.2.2.2.2 N b i h e N.isLt]
    unfold attR
    rw [unchunk_la, unchunk_q, unchunk_k, unchunk_v]
  have hg : (after condOps (atK m 32 c) (Proc.devRef .tc main_v7) : FVec Ideal S8x2048x1024 .f32) (ix3 ⟨I.val / 2048, by omega⟩ ⟨I.val % 2048, by omega⟩ C)
      = (m ((c.tc : Thread nD τ).loc main_arg0) : FVec Ideal S16384x7168 .bf16) (ix2 (row ⟨I.val / 2048, by omega⟩ ⟨I.val % 2048, by omega⟩) ⟨6144 + C.val, by omega⟩) := by
    rw [after_of_writes_sub condOps _ condOps_writes (by decide +kernel : main_v7 ∉ condOps_W), atK_keep m c main_v7 (by decide +kernel) (by decide +kernel) (by decide +kernel) (by decide +kernel) (by decide +kernel) (by decide +kernel) (by decide +kernel) (by decide +kernel) (by decide +kernel) (by decide +kernel) (by decide +kernel) 32]
    exact entry_gate m c _ _ C
  have hC : ∀ p : 256 * (C.val / 256) + C.val % 256 < 1024, (⟨256 * (C.val / 256) + C.val % 256, p⟩ : Fin 1024) = C := fun p => Fin.ext (by dsimp only; omega)
  have hC' : ∀ p : 6144 + (256 * (C.val / 256) + C.val % 256) < 7168, (⟨6144 + (256 * (C.val / 256) + C.val % 256), p⟩ : Fin 7168) = ⟨6144 + C.val, by omega⟩ := fun p => Fin.ext (by dsimp only; omega)
  rw [hg]
  dsimp only
  rw [hC, hC']
  refine congrArg (fun o => gated o _ _ _) (funext fun e => ?_)
  exact hO _ _ _ _ e

variable (ρ : Dev nD → PrngReg)

/-- The run, at exact arithmetic. -/
theorem ref_run : θ_run defs (onTc (τ := τ) (main (F := Ideal))) ⟨m, fun _ => 0, ρ⟩ fun r => ∀ c : Dev nD,
      r.2.mem ((c.tc : Thread nD τ).loc main_v54) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v54 rfl).trans (ref_value m c), (h c main_arg0 rfl).trans (arg0_end m c), (h c main_arg1 rfl).trans (arg1_end m c),
    (h c main_arg2 rfl).trans (arg2_end m c), (h c main_arg3 rfl).trans (arg3_end m c), (h c main_arg4 rfl).trans (arg4_end m c)⟩) (run_fold m ρ)

/-- The reference ends with its arguments as they were and no semaphore held. -/
theorem reference_frame : Cert.quiescent_GlaRefIdeal := fun m g _ =>
  (θ_run Cert.GlaRefIdeal.defs _ _).mono
    (fun r h => ⟨fun c => (h c).2, Idealize.ShloMosaic.sem_eq_zero_of_no_sems (by decide) r.2⟩) (ref_run m g)

/-- The kernel and the reference hold the same array on the same arguments. -/
theorem algebraic : Cert.algebraic_GlaIdeal_GlaRefIdeal := by
  pair_intro
  · run_from Cert.GlaTie.run_value m g
  · run_from Cert.GlaTie.ref_run m' g'

end Cert.GlaTie

end
-- ==== Proof.GlaFrame.lean ====
/-
  The attention kernel's launch at the machine's own arithmetic: every execution ends, the arguments end as
  they began and no semaphore is held. Nothing is said of what the output array holds.
-/
module

public import proofs.«01_k».proof.Defs
public import proofs.«01_k».proof.Proof.Gen.Gla.Frame.Runs
public import Idealize.ShloMosaic.Lib.Claim

@[expose] public section

set_option maxRecDepth 16384

noncomputable section

namespace Cert.GlaEnds

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Gla Cert.Gla.Gen

variable {F : FTy → Type} [FloatOps F]

local notation "𝕄" => MT nD τ sig Unit (Elt F) ℕ (UR sig nD τ) ℕ

set_option maxHeartbeats 1000000 in
/-- The body at any coordinates, from any blocks: it ends, the blocks as they were. -/
theorem body_ends (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S256x128 .f32) (harg11 : arg11.IsWhole)
    (x0 : Vec F S2048x128 .bf16) (x1 : Vec F S2048x128 .bf16) (x2 : Vec F S2048x256 .bf16) (x3 : Vec F S2048x256 .bf16) (x4 : Vec F S2048x128 .f32) (x5 : Vec F S128x128 .bf16) (x6 : Vec F S1x128 .f32) (x7 : Vec F S1x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K := by
  intro E K
  simp only [cc0_gla_eq_skeleton]; unfold cc0_gla_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  iexists _, _; isplitr; swap; · iexact HS0
  ipureintro; rfl

variable (m : (ℓ : Loc nD τ sig) → Buf (Elt F) ℓ) (ρ : Dev nD → PrngReg)

/-- The one window nothing is said of. -/
def unsaid : Fin 9 → Bool := fun w => w.val == 8

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The arrays as the launch finds them. -/
theorem dats_A (c : Dev nD) (w : Fin cfg0.W) : (dats m 0 c).A w = V m c (Pipeline.arrRef spec0 w) := by
  dsimp only [dats]

/-- The block that a point leaves in window 0. -/
theorem after_0 (c : Dev nD) (t : Fin cfg0.N) : (dats m 0 c).after 0 t = iblk m c 0 t := by dsimp only [dats]
/-- The block that a point leaves in window 1. -/
theorem after_1 (c : Dev nD) (t : Fin cfg0.N) : (dats m 0 c).after 1 t = iblk m c 1 t := by dsimp only [dats]
/-- The block that a point leaves in window 2. -/
theorem after_2 (c : Dev nD) (t : Fin cfg0.N) : (dats m 0 c).after 2 t = iblk m c 2 t := by dsimp only [dats]
/-- The block that a point leaves in window 3. -/
theorem after_3 (c : Dev nD) (t : Fin cfg0.N) : (dats m 0 c).after 3 t = iblk m c 3 t := by dsimp only [dats]
/-- The block that a point leaves in window 4. -/
theorem after_4 (c : Dev nD) (t : Fin cfg0.N) : (dats m 0 c).after 4 t = iblk m c 4 t := by dsimp only [dats]
/-- The block that a point leaves in window 5. -/
theorem after_5 (c : Dev nD) (t : Fin cfg0.N) : (dats m 0 c).after 5 t = iblk m c 5 t := by dsimp only [dats]
/-- The block that a point leaves in window 6. -/
theorem after_6 (c : Dev nD) (t : Fin cfg0.N) : (dats m 0 c).after 6 t = iblk m c 6 t := by dsimp only [dats]
/-- The block that a point leaves in window 7. -/
theorem after_7 (c : Dev nD) (t : Fin cfg0.N) : (dats m 0 c).after 7 t = iblk m c 7 t := by dsimp only [dats]
/-- The block that a point reads in window 0. -/
theorem before_0 (c : Dev nD) (t : Fin cfg0.N) (d) : (dats m 0 c).before 0 t d = iblk m c 0 t :=
  before0_0_of m (dats m 0 c) (dats_A m c 0) (after_0 m c) t d
/-- The block that a point reads in window 1. -/
theorem before_1 (c : Dev nD) (t : Fin cfg0.N) (d) : (dats m 0 c).before 1 t d = iblk m c 1 t :=
  before0_1_of m (dats m 0 c) (dats_A m c 1) (after_1 m c) t d
/-- The block that a point reads in window 2. -/
theorem before_2 (c : Dev nD) (t : Fin cfg0.N) (d) : (dats m 0 c).before 2 t d = iblk m c 2 t :=
  before0_2_of m (dats m 0 c) (dats_A m c 2) (after_2 m c) t d
/-- The block that a point reads in window 3. -/
theorem before_3 (c : Dev nD) (t : Fin cfg0.N) (d) : (dats m 0 c).before 3 t d = iblk m c 3 t :=
  before0_3_of m (dats m 0 c) (dats_A m c 3) (after_3 m c) t d
/-- The block that a point reads in window 4. -/
theorem before_4 (c : Dev nD) (t : Fin cfg0.N) (d) : (dats m 0 c).before 4 t d = iblk m c 4 t :=
  before0_4_of m (dats m 0 c) (dats_A m c 4) (after_4 m c) t d
/-- The block that a point reads in window 5. -/
theorem before_5 (c : Dev nD) (t : Fin cfg0.N) (d) : (dats m 0 c).before 5 t d = iblk m c 5 t :=
  before0_5_of m (dats m 0 c) (dats_A m c 5) (after_5 m c) t d
/-- The block that a point reads in window 6. -/
theorem before_6 (c : Dev nD) (t : Fin cfg0.N) (d) : (dats m 0 c).before 6 t d = iblk m c 6 t :=
  before0_6_of m (dats m 0 c) (dats_A m c 6) (after_6 m c) t d
/-- The block that a point reads in window 7. -/
theorem before_7 (c : Dev nD) (t : Fin cfg0.N) (d) : (dats m 0 c).before 7 t d = iblk m c 7 t :=
  before0_7_of m (dats m 0 c) (dats_A m c 7) (after_7 m c) t d

set_option maxHeartbeats 1000000 in
/-- The body at any grid point, from its input blocks. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare d))
      ⊢ wp frame (wpE (defs₀ (F := F)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t)
            ∗ owns (c : Thread nD τ) (ms0_6 t) fullShare ((dats m 0 c).after 6 t)
            ∗ owns (c : Thread nD τ) (ms0_7 t) fullShare ((dats m 0 c).after 7 t)
            ∗ (∃ d, owns (c : Thread nD τ) (ms0_8 t) fullShare d))) := by
  unfold bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_ends (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body of the pipeline at every point. -/
theorem obligation (c : Dev nD) : BodyObligation (dats m 0 c) (defs₀ (F := F)) Variants.none () Set.univ unsaid := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- Every execution ends, with no semaphore held. -/
theorem launched : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := dats_A m) (hΦ := fun _ _ => rfl)

/-- The arguments end as they began, and no semaphore is held. -/
theorem kernel_frame : Cert.quiescent_Gla := fun m ρ _ =>
  θ_run_and ((θ_run defs _ _).mono (fun _ h c =>
      ⟨(Pipeline.RDat.FramePost.arr_in h.1 c 3 rfl).trans ((dats_A m c 3).trans (V_main_arg0 m c)),
        (Pipeline.RDat.FramePost.arr_in h.1 c 4 rfl).trans ((dats_A m c 4).trans (V_main_arg1 m c)),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c)⟩) (launched m ρ))
    ((θ_run defs _ _).mono (fun _ h => h.2) (launched m ρ))

end Cert.GlaEnds

end
-- ==== Proof.RetFrame.lean ====
/-
  The retention kernel's launch at the machine's own arithmetic: every execution ends, the arguments end as
  they began and no semaphore is held. Nothing is said of what the output array holds.
-/
module

public import proofs.«01_k».proof.Defs
public import proofs.«01_k».proof.Proof.Gen.Ret.Frame.Runs
public import Idealize.ShloMosaic.Lib.Claim

@[expose] public section

set_option maxRecDepth 16384

noncomputable section

namespace Cert.RetEnds

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Ret Cert.Ret.Gen

variable {F : FTy → Type} [FloatOps F]

local notation "𝕄" => MT nD τ sig Unit (Elt F) ℕ (UR sig nD τ) ℕ

set_option maxHeartbeats 1000000 in
/-- The body at any coordinates, from any blocks: it ends, the blocks as they were. -/
theorem body_ends (c : Dev nD) (i : grid0.Coords) (arg2 : Memref sig .tc .vmem S1x2048x1 .i32) (harg2 : arg2.IsWhole) (arg3 : Memref sig .tc .vmem S1x128 .f32) (harg3 : arg3.IsWhole) (arg4 : Memref sig .tc .vmem S1x8x128 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x256 .f32) (harg9 : arg9.IsWhole) (arg10 : Memref sig .tc .vmem S2048x256 .bf16) (harg10 : arg10.IsWhole) (arg11 : Memref sig .tc .vmem S256x256 .f32) (harg11 : arg11.IsWhole)
    (x0 : Vec F S1x2048x1 .i32) (x1 : Vec F S1x128 .f32) (x2 : Vec F S1x8x128 .f32) (x3 : Vec F S2048x256 .bf16) (x4 : Vec F S2048x256 .bf16) (x5 : Vec F S2048x256 .bf16) (x6 : Vec F S2048x256 .bf16) (x7 : Vec F S1x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K := by
  intro E K
  simp only [cc0_retention_eq_skeleton]; unfold cc0_retention_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  iexists _, _; isplitr; swap; · iexact HS0
  ipureintro; rfl

variable (m : (ℓ : Loc nD τ sig) → Buf (Elt F) ℓ) (ρ : Dev nD → PrngReg)

/-- The one window nothing is said of. -/
def unsaid : Fin 9 → Bool := fun w => w.val == 8

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The arrays as the launch finds them. -/
theorem dats_A (c : Dev nD) (w : Fin cfg0.W) : (dats m 0 c).A w = V m c (Pipeline.arrRef spec0 w) := by
  dsimp only [dats]

/-- The block that a point leaves in window 0. -/
theorem after_0 (c : Dev nD) (t : Fin cfg0.N) : (dats m 0 c).after 0 t = iblk m c 0 t := by dsimp only [dats]
/-- The block that a point leaves in window 1. -/
theorem after_1 (c : Dev nD) (t : Fin cfg0.N) : (dats m 0 c).after 1 t = iblk m c 1 t := by dsimp only [dats]
/-- The block that a point leaves in window 2. -/
theorem after_2 (c : Dev nD) (t : Fin cfg0.N) : (dats m 0 c).after 2 t = iblk m c 2 t := by dsimp only [dats]
/-- The block that a point leaves in window 3. -/
theorem after_3 (c : Dev nD) (t : Fin cfg0.N) : (dats m 0 c).after 3 t = iblk m c 3 t := by dsimp only [dats]
/-- The block that a point leaves in window 4. -/
theorem after_4 (c : Dev nD) (t : Fin cfg0.N) : (dats m 0 c).after 4 t = iblk m c 4 t := by dsimp only [dats]
/-- The block that a point leaves in window 5. -/
theorem after_5 (c : Dev nD) (t : Fin cfg0.N) : (dats m 0 c).after 5 t = iblk m c 5 t := by dsimp only [dats]
/-- The block that a point leaves in window 6. -/
theorem after_6 (c : Dev nD) (t : Fin cfg0.N) : (dats m 0 c).after 6 t = iblk m c 6 t := by dsimp only [dats]
/-- The block that a point leaves in window 7. -/
theorem after_7 (c : Dev nD) (t : Fin cfg0.N) : (dats m 0 c).after 7 t = iblk m c 7 t := by dsimp only [dats]
/-- The block that a point reads in window 0. -/
theorem before_0 (c : Dev nD) (t : Fin cfg0.N) (d) : (dats m 0 c).before 0 t d = iblk m c 0 t :=
  before0_0_of m (dats m 0 c) (dats_A m c 0) (after_0 m c) t d
/-- The block that a point reads in window 1. -/
theorem before_1 (c : Dev nD) (t : Fin cfg0.N) (d) : (dats m 0 c).before 1 t d = iblk m c 1 t :=
  before0_1_of m (dats m 0 c) (dats_A m c 1) (after_1 m c) t d
/-- The block that a point reads in window 2. -/
theorem before_2 (c : Dev nD) (t : Fin cfg0.N) (d) : (dats m 0 c).before 2 t d = iblk m c 2 t :=
  before0_2_of m (dats m 0 c) (dats_A m c 2) (after_2 m c) t d
/-- The block that a point reads in window 3. -/
theorem before_3 (c : Dev nD) (t : Fin cfg0.N) (d) : (dats m 0 c).before 3 t d = iblk m c 3 t :=
  before0_3_of m (dats m 0 c) (dats_A m c 3) (after_3 m c) t d
/-- The block that a point reads in window 4. -/
theorem before_4 (c : Dev nD) (t : Fin cfg0.N) (d) : (dats m 0 c).before 4 t d = iblk m c 4 t :=
  before0_4_of m (dats m 0 c) (dats_A m c 4) (after_4 m c) t d
/-- The block that a point reads in window 5. -/
theorem before_5 (c : Dev nD) (t : Fin cfg0.N) (d) : (dats m 0 c).before 5 t d = iblk m c 5 t :=
  before0_5_of m (dats m 0 c) (dats_A m c 5) (after_5 m c) t d
/-- The block that a point reads in window 6. -/
theorem before_6 (c : Dev nD) (t : Fin cfg0.N) (d) : (dats m 0 c).before 6 t d = iblk m c 6 t :=
  before0_6_of m (dats m 0 c) (dats_A m c 6) (after_6 m c) t d
/-- The block that a point reads in window 7. -/
theorem before_7 (c : Dev nD) (t : Fin cfg0.N) (d) : (dats m 0 c).before 7 t d = iblk m c 7 t :=
  before0_7_of m (dats m 0 c) (dats_A m c 7) (after_7 m c) t d

set_option maxHeartbeats 1000000 in
/-- The body at any grid point, from its input blocks. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare d))
      ⊢ wp frame (wpE (defs₀ (F := F)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t)
            ∗ owns (c : Thread nD τ) (ms0_6 t) fullShare ((dats m 0 c).after 6 t)
            ∗ owns (c : Thread nD τ) (ms0_7 t) fullShare ((dats m 0 c).after 7 t)
            ∗ (∃ d, owns (c : Thread nD τ) (ms0_8 t) fullShare d))) := by
  unfold bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_ends (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body of the pipeline at every point. -/
theorem obligation (c : Dev nD) : BodyObligation (dats m 0 c) (defs₀ (F := F)) Variants.none () Set.univ unsaid := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- Every execution ends, with no semaphore held. -/
theorem launched : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := dats_A m) (hΦ := fun _ _ => rfl)

/-- The arguments end as they began, and no semaphore is held. -/
theorem kernel_frame : Cert.quiescent_Ret := fun m ρ _ =>
  θ_run_and ((θ_run defs _ _).mono (fun _ h c =>
      ⟨(Pipeline.RDat.FramePost.arr_in h.1 c 3 rfl).trans ((dats_A m c 3).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩) (launched m ρ))
    ((θ_run defs _ _).mono (fun _ h => h.2) (launched m ρ))

end Cert.RetEnds

end
-- ==== Proof.RetMath.lean ====
/-
  Retention of one head, chunk by chunk, over extended reals: the state carried from chunk to chunk, a row's
  output, and the closed form of both where all entries are real. The closed form does not depend on the
  chunk's length, so chunks of 256 rows and chunks of 64 rows give the same output.
-/
module

public import proofs.«01_k».proof.Defs
public import Idealize.ShloMosaic.Lib.Pointwise

@[expose] public section

noncomputable section

namespace Cert.RetTie

open Idealize.ShloMosaic

/-- Row `i` of chunk `n` of `c` rows. -/
def ck (c n : ℕ) (i : Fin c) : Fin 2048 := ⟨(c * n + i.val) % 2048, Nat.mod_lt _ (by decide)⟩

/-- The state before chunk `n`. -/
def st (c : ℕ) (lam : EReal) (k v : Fin 2048 → Fin 256 → EReal) : ℕ → Fin 256 → Fin 256 → EReal
  | 0 => fun _ _ => 0
  | n + 1 => fun d e => st c lam k v n d e * Ideal.exp (((c : ℝ) : EReal) * lam)
      + ∑ j : Fin c, (k (ck c n j) d * Ideal.exp ((((c : ℝ) - 1 - (j.val : ℝ) : ℝ) : EReal) * lam)) * v (ck c n j) e

/-- Row `i` of chunk `n`: what it attends to inside the chunk, and through the state. -/
def att (c : ℕ) (lam : EReal) (q k v : Fin 2048 → Fin 256 → EReal) (n : ℕ) (i : Fin c) (e : Fin 256) : EReal :=
  (∑ j : Fin c, ((∑ d : Fin 256, q (ck c n i) d * k (ck c n j) d)
      * (if j ≤ i then Ideal.exp ((((i.val : ℝ) - (j.val : ℝ) : ℝ) : EReal) * lam) else 0)) * v (ck c n j) e)
    + ∑ d : Fin 256, (q (ck c n i) d * Ideal.exp ((((i.val : ℝ) + 1 : ℝ) : EReal) * lam)) * st c lam k v n d e

/-- A finite sum of reals, as an extended real. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The exponential of a real multiple of a real. -/
theorem exp_coe (a l : ℝ) : Ideal.exp ((a : EReal) * (l : EReal)) = ((Real.exp (a * l) : ℝ) : EReal) := by
  rw [← EReal.coe_mul]; rfl

/-- Row `j` of an array, counted past its end. -/
abbrev at' (x : Fin 2048 → Fin 256 → ℝ) (j : ℕ) : Fin 256 → ℝ := x ⟨j % 2048, Nat.mod_lt _ (by decide)⟩

section Closed

variable (c : ℕ) (l : ℝ) (q k v : Fin 2048 → Fin 256 → ℝ)

/-- The state after `N` rows. -/
def stR (N : ℕ) (d e : Fin 256) : ℝ :=
  ∑ j ∈ Finset.range N, at' k j d * Real.exp (((N : ℝ) - 1 - j) * l) * at' v j e

/-- Row `r` of the output: every earlier row, decayed by its distance. -/
def attR (r : ℕ) (e : Fin 256) : ℝ :=
  ∑ j ∈ Finset.range (r + 1), (∑ d : Fin 256, at' q r d * at' k j d) * Real.exp (((r : ℝ) - j) * l) * at' v j e

/-- Over the reals, the carried state is the state after the chunks' rows. -/
theorem st_real (n : ℕ) (d e : Fin 256) :
    st c (l : EReal) (fun r d => (k r d : EReal)) (fun r d => (v r d : EReal)) n d e = ((stR l k v (c * n) d e : ℝ) : EReal) := by
  induction n with
  | zero => simp [st, stR]
  | succ n ih =>
    unfold st
    rw [ih]
    simp only [exp_coe]
    simp only [← EReal.coe_mul, ← coe_sum, ← EReal.coe_add]
    refine congrArg _ ?_
    unfold stR
    rw [Nat.mul_succ, Finset.sum_range_add, Finset.sum_mul]
    refine congrArg₂ (· + ·) (Finset.sum_congr rfl fun j _ => ?_) ?_
    · rw [show (((c * n + c : ℕ) : ℝ) - 1 - j) * l = (((c * n : ℕ) : ℝ) - 1 - j) * l + c * l by push_cast; ring, Real.exp_add]
      ring
    · rw [Finset.sum_range]
      refine Finset.sum_congr rfl fun j _ => ?_
      rw [show (((c * n + c : ℕ) : ℝ) - 1 - ((c * n + j.val : ℕ) : ℝ)) * l = ((c : ℝ) - 1 - j.val) * l by push_cast; ring]
      rfl

/-- Over the reals, a chunk's row is the closed form at that row. -/
theorem att_real (n : ℕ) (i : Fin c) (e : Fin 256) :
    att c (l : EReal) (fun r d => (q r d : EReal)) (fun r d => (k r d : EReal)) (fun r d => (v r d : EReal)) n i e
      = ((attR l q k v (c * n + i.val) e : ℝ) : EReal) := by
  unfold att
  simp only [st_real, exp_coe]
  have hif : ∀ j : Fin c, (if j ≤ i then ((Real.exp (((i.val : ℝ) - (j.val : ℝ)) * l) : ℝ) : EReal) else 0)
      = ((if j ≤ i then Real.exp (((i.val : ℝ) - (j.val : ℝ)) * l) else 0 : ℝ) : EReal) := fun j => by
    split <;> simp
  simp only [hif, ← EReal.coe_mul, ← coe_sum, ← EReal.coe_add]
  refine congrArg _ ?_
  unfold attR stR
  rw [show c * n + i.val + 1 = c * n + (i.val + 1) by ring, Finset.sum_range_add, add_comm]
  refine congrArg₂ (· + ·) ?_ ?_
  · simp only [Finset.mul_sum]
    rw [Finset.sum_comm]
    refine Finset.sum_congr rfl fun j _ => ?_
    rw [Finset.sum_mul, Finset.sum_mul]
    refine Finset.sum_congr rfl fun d _ => ?_
    rw [show (((c * n + i.val : ℕ) : ℝ) - j) * l = (((c * n : ℕ) : ℝ) - 1 - j) * l + ((i.val : ℝ) + 1) * l by push_cast; ring, Real.exp_add]
    show q _ d * _ * _ = q _ d * _ * _ * _
    unfold ck
    ring
  · have hs : Finset.range (i.val + 1) = (Finset.range c).filter (· ≤ i.val) := by
      ext x; simp only [Finset.mem_range, Finset.mem_filter]; omega
    rw [hs, Finset.sum_filter, Finset.sum_range]
    refine Finset.sum_congr rfl fun j _ => ?_
    by_cases h : j ≤ i
    · rw [if_pos h, if_pos (show j.val ≤ i.val from h),
        show (((c * n + i.val : ℕ) : ℝ) - ((c * n + j.val : ℕ) : ℝ)) * l = ((i.val : ℝ) - j.val) * l by push_cast; ring]
      rfl
    · rw [if_neg h, if_neg (show ¬ j.val ≤ i.val from h), mul_zero, zero_mul]

end Closed

/-- The head's entry that stands at place `d` once the two members of each rotated pair are next to each other. -/
def pair (d : Fin 256) : Fin 256 := ⟨128 * (d.val % 2) + d.val / 2, by omega⟩

/-- Every entry has one place. -/
theorem pair_bij : Function.Bijective pair := by
  refine Finite.injective_iff_bijective.1 fun a b h => Fin.ext ?_
  have h' : 128 * (a.val % 2) + a.val / 2 = 128 * (b.val % 2) + b.val / 2 := congrArg Fin.val h
  omega

/-- Chunks of 256 rows, and chunks of 64 rows with the pairs' members next to each other, give the same row. -/
theorem att_same (l : EReal) (q k v : Fin 2048 → Fin 256 → EReal) (hl : ∃ r : ℝ, l = r) (hq : ∀ r d, ∃ x : ℝ, q r d = x)
    (hk : ∀ r d, ∃ x : ℝ, k r d = x) (hv : ∀ r d, ∃ x : ℝ, v r d = x) (r : Fin 2048) (e : Fin 256) :
    att 256 l q k v (r.val / 256) ⟨r.val % 256, Nat.mod_lt _ (by decide)⟩ e
      = att 64 l (fun r d => q r (pair d)) (fun r d => k r (pair d)) v (r.val / 64) ⟨r.val % 64, Nat.mod_lt _ (by decide)⟩ e := by
  obtain ⟨l, rfl⟩ := hl
  choose q' hq using hq
  choose k' hk using hk
  choose v' hv using hv
  obtain rfl : q = fun r d => (q' r d : EReal) := funext fun r => funext fun d => hq r d
  obtain rfl : k = fun r d => (k' r d : EReal) := funext fun r => funext fun d => hk r d
  obtain rfl : v = fun r d => (v' r d : EReal) := funext fun r => funext fun d => hv r d
  rw [att_real, att_real 64 l (fun r d => q' r (pair d)) (fun r d => k' r (pair d)) v']
  dsimp only
  rw [Nat.div_add_mod, Nat.div_add_mod]
  unfold attR
  refine congrArg _ (Finset.sum_congr rfl fun j _ => congrArg (fun x : ℝ => x * _ * _) ?_)
  exact (pair_bij.sum_comp fun d => at' q' r.val d * at' k' j d).symm

/-- One entry normalised by its row's root mean square, weighted and gated. -/
def gated (o : Fin 256 → EReal) (w g : EReal) (e : Fin 256) : EReal :=
  o e * Ideal.rsqrt (Ideal.div (∑ x : Fin 256, o x * o x) (Ideal.ofBits .f32 1132462080#32) + Ideal.ofBits .f32 897988541#32) * w
    * (g * Ideal.logistic g)

/-- The rotation of a head's pairs by an angle each, the first members in the first half. -/
def rot (x : Fin 256 → EReal) (a : Fin 128 → EReal) (d : Fin 256) : EReal :=
  if h : d.val < 128 then x ⟨d.val, by omega⟩ * Ideal.cos (a ⟨d.val, h⟩) - x ⟨128 + d.val, by omega⟩ * Ideal.sin (a ⟨d.val, h⟩)
  else x ⟨d.val - 128, by omega⟩ * Ideal.sin (a ⟨d.val - 128, by omega⟩) + x ⟨128 + (d.val - 128), by omega⟩ * Ideal.cos (a ⟨d.val - 128, by omega⟩)

/-- The rotation of reals by real angles is real. -/
theorem rot_real (x : Fin 256 → EReal) (a : Fin 128 → EReal) (hx : ∀ d, ∃ r : ℝ, x d = r) (ha : ∀ d, ∃ r : ℝ, a d = r) (d : Fin 256) :
    ∃ r : ℝ, rot x a d = r := by
  unfold rot
  split
  · rename_i h
    obtain ⟨x0, h0⟩ := hx ⟨d.val, by omega⟩
    obtain ⟨x1, h1⟩ := hx ⟨128 + d.val, by omega⟩
    obtain ⟨t, ht⟩ := ha ⟨d.val, h⟩
    rw [h0, h1, ht]
    exact ⟨x0 * Real.cos t - x1 * Real.sin t, rfl⟩
  · obtain ⟨x0, h0⟩ := hx ⟨d.val - 128, by omega⟩
    obtain ⟨x1, h1⟩ := hx ⟨128 + (d.val - 128), by omega⟩
    obtain ⟨t, ht⟩ := ha ⟨d.val - 128, by omega⟩
    rw [h0, h1, ht]
    exact ⟨x0 * Real.sin t + x1 * Real.cos t, rfl⟩

/-- The frequency of a rotated pair. -/
def inv (d : Fin 128) : EReal :=
  Ideal.div 1 (Ideal.pow (Ideal.ofBits .f32 1176256512#32)
    (if d.val < 127 then
      0 * (1 - Ideal.div (FloatOps.sitofp (F := Ideal) FTy.f32 (BitVec.ofNat 32 d.val)) (Ideal.ofBits .f32 1123942400#32))
        + Ideal.div (FloatOps.sitofp (F := Ideal) FTy.f32 (BitVec.ofNat 32 d.val)) (Ideal.ofBits .f32 1123942400#32)
    else 1))

/-- The log decay of a head. -/
def lgam (h : Fin 4) : EReal :=
  Ideal.log1p (-Ideal.exp (Ideal.ofBits .f32 1060205080#32
    * (Ideal.ofBits .f32 3231711232#32 - FloatOps.sitofp (F := Ideal) FTy.f32 (BitVec.ofNat 32 h.val))))

/-- A quotient of reals is real. -/
theorem div_coe (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

/-- The frequencies are real. -/
theorem inv_real (d : Fin 128) : ∃ r : ℝ, inv d = r := by
  have h1 : Ideal.ofBits .f32 1176256512#32 = ((10000 : ℝ) : EReal) := by
    simp [Ideal.ofBits, Ideal.ieee, -EReal.coe_mul]; norm_num
  have h2 : Ideal.ofBits .f32 1123942400#32 = ((127 : ℝ) : EReal) := by
    simp [Ideal.ofBits, Ideal.ieee, -EReal.coe_mul]; norm_num
  have hp : ∀ x : ℝ, ∃ r : ℝ, Ideal.div 1 (Ideal.pow ((10000 : ℝ) : EReal) (x : EReal)) = r := fun x => by
    have h : Ideal.pow ((10000 : ℝ) : EReal) (x : EReal) = ((Real.rpow 10000 x : ℝ) : EReal) := rfl
    rw [h, ← EReal.coe_one, div_coe 1 (Real.rpow 10000 x) (Real.rpow_pos_of_pos (by norm_num) x).ne']
    exact ⟨_, rfl⟩
  unfold inv
  rw [h1, h2]
  split
  · have hs : FloatOps.sitofp (F := Ideal) FTy.f32 (BitVec.ofNat 32 d.val) = (((BitVec.ofNat 32 d.val).toInt : ℝ) : EReal) := rfl
    rw [hs, div_coe _ _ (by norm_num), zero_mul, zero_add]
    exact hp _
  · rw [← EReal.coe_one]
    exact hp 1

/-- The log decays are real. -/
theorem lgam_real (h : Fin 4) : ∃ r : ℝ, lgam h = r := by
  have h1 : Ideal.ofBits .f32 1060205080#32 = ((11629080 / 16777216 : ℝ) : EReal) := by
    simp [Ideal.ofBits, Ideal.ieee, -EReal.coe_mul]; norm_num
  have h2 : Ideal.ofBits .f32 3231711232#32 = ((-5 : ℝ) : EReal) := by
    simp [Ideal.ofBits, Ideal.ieee, -EReal.coe_mul, -EReal.coe_neg]; norm_num
  have hs : FloatOps.sitofp (F := Ideal) FTy.f32 (BitVec.ofNat 32 h.val) = ((h.val : ℝ) : EReal) := by
    have e : (BitVec.ofNat 32 h.val).toInt = h.val := by
      rw [BitVec.toInt_eq_toNat_of_lt] <;> simp only [BitVec.toNat_ofNat] <;> omega
    show (((BitVec.ofNat 32 h.val).toInt : ℝ) : EReal) = _
    rw [e]
    push_cast
    rfl
  unfold lgam
  rw [h1, h2, hs, ← EReal.coe_sub, exp_coe]
  have hx : Real.exp (11629080 / 16777216 * (-5 - (h.val : ℝ))) < 1 := by
    rw [Real.exp_lt_one_iff]
    have : (0 : ℝ) ≤ h.val := Nat.cast_nonneg _
    nlinarith
  refine ⟨Real.log (1 + -Real.exp (11629080 / 16777216 * (-5 - (h.val : ℝ)))), ?_⟩
  unfold Ideal.log1p
  rw [← EReal.coe_neg, ← EReal.coe_one, ← EReal.coe_add]
  exact if_neg (by linarith)

end Cert.RetTie
-- ==== Proof.RetRun.lean ====
/-
  The run of the retention kernel at one point of its grid.
-/
module

public import proofs.«01_k».proof.Proof.Gen.RetIdeal.Frame.Runs
public import Idealize.ShloMosaic.Lib.Pipeline.ValueKit
public import Idealize.ShloMosaic.Lib.Pipeline.ReadBack
public import proofs.«01_k».proof.Proof.Gen.RetRefIdeal.Run

@[expose] public section

set_option maxRecDepth 16384

noncomputable section

namespace Cert.RetTie

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A store through the whole of a buffer is what is read back. -/
theorem read_store {κ : Kind} {sp : Space} {s : Shape} {e : EltTy} (v : View sig κ sp s e) (f : v.ty.Contents (Elt F))
    {off : Fin s.rank → Nat} (h0 : ∀ a, off a = 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  refine View.read_writes_cons_hit_of_coords v f (Rect.unit off s.size inb) w L y y fun a => ?_
  simp [Rect.unit, h0 a]

set_option maxHeartbeats 1000000 in
/-- The run of the whole body at one grid point: what it needs and what it leaves. -/
theorem body_run (c : Dev nD) (i : grid0.Coords) (arg2 : Memref sig .tc .vmem S1x2048x1 .i32) (harg2 : arg2.IsWhole) (arg3 : Memref sig .tc .vmem S1x128 .f32) (harg3 : arg3.IsWhole) (arg4 : Memref sig .tc .vmem S1x8x128 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x256 .f32) (harg9 : arg9.IsWhole) (arg10 : Memref sig .tc .vmem S2048x256 .bf16) (harg10 : arg10.IsWhole) (arg11 : Memref sig .tc .vmem S256x256 .f32) (harg11 : arg11.IsWhole)
    (x0 : Vec F S1x2048x1 .i32) (x1 : Vec F S1x128 .f32) (x2 : Vec F S1x8x128 .f32) (x3 : Vec F S2048x256 .bf16) (x4 : Vec F S2048x256 .bf16) (x5 : Vec F S2048x256 .bf16) (x6 : Vec F S2048x256 .bf16) (x7 : Vec F S1x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg10.view.loc (c : Thread nD τ) ↦[arg10.view.set]{fullShare} f) ∗ ⌜∃ v0 G10 G11, v0 (ix3 0 0 0) = x2 (ix3 0 0 0) ∧ arg11.view.read (Elt F) G11 = k0_pay4 ∧ f = arg10.view.writes (Elt F) G10 (pb_k0_t1 (F := F) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k0_t1_loop.trips).1⌝) ∗ (∃ d, owns (c : Thread nD τ) arg11 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K := by
  intro E K
  simp only [cc0_retention_eq_skeleton]; unfold cc0_retention_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitl; · iexact H8

    ipureintro; refine ⟨_, _, _, ?_, ?_, rfl⟩
    · rw [View.readAt_eq_ld, harg4.read_unread]
      exact congrArg x2 (funext fun a => Fin.ext (by fin_cases a <;> rfl))
    · unfold body_run.sl.HS0_1
      exact read_store arg11.view _ (by decide) _ _ _
  iexists _, _; isplitr; swap; · iexact HS0
  ipureintro; rfl

end Cert.RetTie
-- ==== Proof.RetBody.lean ====
/-
  The retention kernel's loop read at its indices.
-/
module

public import proofs.«01_k».proof.Proof.RetMath
public import proofs.«01_k».proof.Proof.RetRun
public import Idealize.ShloMosaic.Lib.Pointwise

@[expose] public section

set_option maxRecDepth 16384

noncomputable section

namespace Cert.RetTie

open Idealize.ShloMosaic Idealize.ShloMosaic.TcCoe Idealize.SL.Sem Idealize.ShloMosaic.Pipeline
open Cert.RetIdeal Cert.RetIdeal.Gen

/-- The difference of two row numbers, as a real. -/
theorem row_sub (I J : Fin 256) : FloatOps.sitofp (F := Ideal) FTy.f32 (IntOp.subi (BitVec.ofNat 32 I.val) (BitVec.ofNat 32 J.val)) = (((I.val : ℝ) - (J.val : ℝ) : ℝ) : EReal) := by
  have hI : (BitVec.ofNat 32 I.val).toInt = I.val := by
    rw [BitVec.toInt_eq_toNat_of_lt] <;> simp only [BitVec.toNat_ofNat] <;> omega
  have hJ : (BitVec.ofNat 32 J.val).toInt = J.val := by
    rw [BitVec.toInt_eq_toNat_of_lt] <;> simp only [BitVec.toNat_ofNat] <;> omega
  have h : (BitVec.ofNat 32 I.val - BitVec.ofNat 32 J.val).toInt = (I.val : ℤ) - J.val := by
    rw [BitVec.toInt_sub, hI, hJ]
    unfold Int.bmod
    simp only
    split <;> omega
  show (((BitVec.ofNat 32 I.val - BitVec.ofNat 32 J.val).toInt : ℝ) : EReal) = _
  rw [h]
  push_cast
  rfl

/-- A row number, as a real. -/
theorem row_val (I : Fin 256) : FloatOps.sitofp (F := Ideal) FTy.f32 (BitVec.ofNat 32 I.val) = ((I.val : ℝ) : EReal) := by
  have hI : (BitVec.ofNat 32 I.val).toInt = I.val := by
    rw [BitVec.toInt_eq_toNat_of_lt] <;> simp only [BitVec.toNat_ofNat] <;> omega
  show (((BitVec.ofNat 32 I.val).toInt : ℝ) : EReal) = _
  rw [hI]
  push_cast
  rfl

/-- A block of 256 rows holds rows `256 k` on of the array. -/
def Blk {n : ℕ} {φ : FTy} (k : ℕ) (b : FVec Ideal ⟨2, ![256, n]⟩ φ) (x : FVec Ideal ⟨2, ![2048, n]⟩ φ) : Prop :=
  ∀ (I : Fin 256) c, b (ix2 I c) = x (ix2 (ck 256 k I) c)

/-- A block of 256 positions holds positions `256 k` on. -/
def BlkP (k : ℕ) (b : IVec S1x256x1 32) (x : IVec S1x2048x1 32) : Prop :=
  ∀ I : Fin 256, b (ix3 0 I 0) = x (ix3 0 (ck 256 k I) 0)

/-- The angle of a row's pair. -/
def ang (x0 : IVec S1x2048x1 32) (x1 : FVec Ideal S1x128 .f32) (r : Fin 2048) (d : Fin 128) : EReal :=
  (((x0 (ix3 0 r 0)).toInt : ℝ) : EReal) * x1 (ix2 0 d)

/-- The rotated query of a row. -/
def qr (x0 : IVec S1x2048x1 32) (x1 : FVec Ideal S1x128 .f32) (x3 : FVec Ideal S2048x256 .bf16) (r : Fin 2048) : Fin 256 → EReal :=
  rot (fun d => x3 (ix2 r d)) (ang x0 x1 r)

/-- The rotated and scaled key of a row. -/
def kr (x0 : IVec S1x2048x1 32) (x1 : FVec Ideal S1x128 .f32) (x4 : FVec Ideal S2048x256 .bf16) (r : Fin 2048) (d : Fin 256) : EReal :=
  rot (fun d => x4 (ix2 r d)) (ang x0 x1 r) d * Ideal.ofBits .f32 0x3D800000#32

/-- The state before chunk `n`, as the kernel stores it. -/
def stv (lam : EReal) (x0 : IVec S1x2048x1 32) (x1 : FVec Ideal S1x128 .f32) (x4 x5 : FVec Ideal S2048x256 .bf16) (n : ℕ) : FVec Ideal S256x256 .f32 := fun y =>
  st 256 lam (kr x0 x1 x4) (fun r e => x5 (ix2 r e)) n (y 0) (y 1)

/-- The output block. -/
def OUT (x0 : IVec S1x2048x1 32) (x1 : FVec Ideal S1x128 .f32) (lam : EReal) (x3 x4 x5 x6 : FVec Ideal S2048x256 .bf16) (x7 : FVec Ideal S1x256 .f32) :
    FVec Ideal S2048x256 .bf16 := fun y =>
  gated (att 256 lam (qr x0 x1 x3) (kr x0 x1 x4) (fun r e => x5 (ix2 r e)) ((y 0).val / 256) ⟨(y 0).val % 256, Nat.mod_lt _ (by decide)⟩)
    (x7 (ix2 0 (y 1))) (x6 (ix2 (y 0) (y 1))) (y 1)

/-- The decay between two rows of a chunk. -/
theorem pay2_apply (v0 : FVec Ideal S1x1x1 .f32) (I J : Fin 256) : k0_pay2 (F := Ideal) v0 (ix2 I J)
    = if J ≤ I then Ideal.exp ((((I.val : ℝ) - (J.val : ℝ) : ℝ) : EReal) * v0 (ix3 0 0 0)) else 0 := by
  pointwise [k0_pay2, k0_pay1]
  rw [row_sub]
  have h0 : (0 : EReal) ≤ (((I.val : ℝ) - (J.val : ℝ) : ℝ) : EReal) ↔ J ≤ I := by
    rw [← EReal.coe_zero, EReal.coe_le_coe_iff, sub_nonneg, Nat.cast_le]
    rfl
  by_cases h : J ≤ I
  · rw [if_pos h, if_pos (h0.2 h), max_eq_left (h0.2 h)]
  · rw [if_neg h, if_neg (fun h' => h (h0.1 h'))]

/-- The rotated queries of a block. -/
theorem pay10_apply (k : ℕ) (b0 : IVec S1x256x1 32) (x0 : IVec S1x2048x1 32) (x1 : FVec Ideal S1x128 .f32) (b3 : FVec Ideal S256x256 .bf16) (x3 : FVec Ideal S2048x256 .bf16)
    (h0 : BlkP k b0 x0) (h3 : Blk k b3 x3) (I d : Fin 256) : k0_pay10 (F := Ideal) b0 x1 b3 (ix2 I d) = qr x0 x1 x3 (ck 256 k I) d := by
  unfold qr rot ang
  pointwise [k0_pay10, k0_pay9, k0_pay8, k0_pay7]
  have h3' := fun c => h3 I c
  rw [h0 I]
  simp only [h3']
  rfl

/-- The rotated and scaled keys of a block. -/
theorem pay11_apply (k : ℕ) (b0 : IVec S1x256x1 32) (x0 : IVec S1x2048x1 32) (x1 : FVec Ideal S1x128 .f32) (b3 : FVec Ideal S256x256 .bf16) (x3 : FVec Ideal S2048x256 .bf16)
    (h0 : BlkP k b0 x0) (h3 : Blk k b3 x3) (I d : Fin 256) : k0_pay11 (F := Ideal) b0 x1 b3 (ix2 I d) = kr x0 x1 x3 (ck 256 k I) d := by
  refine Eq.trans ?_ (congrArg (fun z => z * Ideal.ofBits .f32 0x3D800000#32) (pay10_apply k b0 x0 x1 b3 x3 h0 h3 I d))
  rfl

/-- The queries against the keys, decayed. -/
theorem pay12_apply (k : ℕ) (v0 : FVec Ideal S1x1x1 .f32) (b0 : IVec S1x256x1 32) (x0 : IVec S1x2048x1 32) (x1 : FVec Ideal S1x128 .f32) (b3 b4 : FVec Ideal S256x256 .bf16) (x3 x4 : FVec Ideal S2048x256 .bf16)
    (h0 : BlkP k b0 x0) (h3 : Blk k b3 x3) (h4 : Blk k b4 x4) (I J : Fin 256) :
    k0_pay12 (F := Ideal) (k0_pay2 v0) b0 x1 b3 b4 (ix2 I J) = (∑ d : Fin 256, qr x0 x1 x3 (ck 256 k I) d * kr x0 x1 x4 (ck 256 k J) d)
      * (if J ≤ I then Ideal.exp ((((I.val : ℝ) - (J.val : ℝ) : ℝ) : EReal) * v0 (ix3 0 0 0)) else 0) := by
  pointwise [k0_pay12]
  rw [pay2_apply]
  simp only [pay10_apply k b0 x0 x1 b3 x3 h0 h3, pay11_apply k b0 x0 x1 b4 x4 h0 h4]

/-- The number of rows of a chunk. -/
theorem c256 : Ideal.ofBits .f32 1132462080#32 = (((256 : ℕ) : ℝ) : EReal) := by
  simp [Ideal.ofBits, Ideal.ieee, -EReal.coe_mul]; norm_num

/-- The number of rows of a chunk, less one. -/
theorem c255 : Ideal.ofBits .f32 1132396544#32 = ((((256 : ℕ) : ℝ) - 1 : ℝ) : EReal) := by
  have h : Ideal.ofBits .f32 1132396544#32 = ((255 : ℝ) : EReal) := by
    simp [Ideal.ofBits, Ideal.ieee, -EReal.coe_mul]; norm_num
  rw [h]
  exact congrArg _ (by norm_num)

/-- The next state. -/
theorem pay5_apply (k : ℕ) (v0 : FVec Ideal S1x1x1 .f32) (b0 : IVec S1x256x1 32) (x0 : IVec S1x2048x1 32) (x1 : FVec Ideal S1x128 .f32) (b4 b5 : FVec Ideal S256x256 .bf16) (x4 x5 : FVec Ideal S2048x256 .bf16)
    (h0 : BlkP k b0 x0) (h4 : Blk k b4 x4) (h5 : Blk k b5 x5) :
    k0_pay5 (F := Ideal) v0 (k0_pay11 b0 x1 b4) b5 (stv (v0 (ix3 0 0 0)) x0 x1 x4 x5 k) = stv (v0 (ix3 0 0 0)) x0 x1 x4 x5 (k + 1) := by
  funext y
  idx_vars y
  pointwise [k0_pay5, k0_pay3, k0_pay1]
  have h5' := fun I c => h5 I c
  simp only [pay11_apply k b0 x0 x1 b4 x4 h0 h4, row_val, c255, c256, ← EReal.coe_sub, h5']
  rfl

/-- The output rows of a block. -/
theorem pay6_apply (k : ℕ) (hk : k < 8) (v0 : FVec Ideal S1x1x1 .f32) (b0 : IVec S1x256x1 32) (x0 : IVec S1x2048x1 32) (x1 : FVec Ideal S1x128 .f32) (b3 b4 b5 b6 : FVec Ideal S256x256 .bf16)
    (x3 x4 x5 x6 : FVec Ideal S2048x256 .bf16) (x7 : FVec Ideal S1x256 .f32)
    (h0 : BlkP k b0 x0) (h3 : Blk k b3 x3) (h4 : Blk k b4 x4) (h5 : Blk k b5 x5) (h6 : Blk k b6 x6) (I J : Fin 256) :
    k0_pay6 (F := Ideal) v0 (k0_pay10 b0 x1 b3) b5 (stv (v0 (ix3 0 0 0)) x0 x1 x4 x5 k) (k0_pay12 (k0_pay2 v0) b0 x1 b3 b4) b6 x7 (ix2 I J)
      = OUT x0 x1 (v0 (ix3 0 0 0)) x3 x4 x5 x6 x7 (ix2 (ck 256 k I) J) := by
  pointwise [k0_pay6, k0_pay3, k0_pay1]
  have h1 : (ck 256 k I).val / 256 = k := by
    show (256 * k + I.val) % 2048 / 256 = k
    omega
  have h2 : (⟨(ck 256 k I).val % 256, Nat.mod_lt _ (by decide)⟩ : Fin 256) = I := Fin.ext (by
    show (256 * k + I.val) % 2048 % 256 = I.val
    omega)
  have h5' := fun I c => h5 I c
  have h6' := fun c => h6 I c
  simp only [pay10_apply k b0 x0 x1 b3 x3 h0 h3, pay12_apply k v0 b0 x0 x1 b3 b4 x3 x4 h0 h3 h4, row_val, h5', h6']
  show _ = gated (att 256 (v0 (ix3 0 0 0)) (qr x0 x1 x3) (kr x0 x1 x4) (fun r e => x5 (ix2 r e)) ((ck 256 k I).val / 256)
    ⟨(ck 256 k I).val % 256, Nat.mod_lt _ (by decide)⟩) (x7 (ix2 0 J)) (x6 (ix2 (ck 256 k I) J)) J
  rw [h1, h2]
  unfold gated att
  rw [EReal.coe_add, EReal.coe_one]
  rfl

end Cert.RetTie
-- ==== Proof.RetLoop.lean ====
/-
  The retention kernel's loop over the eight chunks of 256 rows, at exact arithmetic: each trip leaves the
  next state in the scratch array and the chunk's rows of the output.
-/
module

public import proofs.«01_k».proof.Proof.RetBody
public import Idealize.ShloMosaic.Lib.Pipeline.ValueKit

@[expose] public section

set_option maxRecDepth 16384

noncomputable section

namespace Cert.RetTie

open Idealize.ShloMosaic Idealize.ShloMosaic.TcCoe Idealize.SL.Sem Idealize.ShloMosaic.Pipeline
open Cert.RetIdeal Cert.RetIdeal.Gen

variable (c : Dev nD) (i : grid0.Coords) (arg2 : Memref sig .tc .vmem S1x2048x1 .i32) (harg2 : arg2.IsWhole) (arg3 : Memref sig .tc .vmem S1x128 .f32) (harg3 : arg3.IsWhole) (arg4 : Memref sig .tc .vmem S1x8x128 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S1x256 .f32) (harg9 : arg9.IsWhole) (arg10 : Memref sig .tc .vmem S2048x256 .bf16) (harg10 : arg10.IsWhole) (arg11 : Memref sig .tc .vmem S256x256 .f32) (harg11 : arg11.IsWhole)
  (v0 : FVec Ideal S1x1x1 .f32) (x0 : IVec S1x2048x1 32) (x1 : FVec Ideal S1x128 .f32) (x3 x4 x5 x6 : FVec Ideal S2048x256 .bf16) (x7 : FVec Ideal S1x256 .f32)

/-- Rows `256 k` on of an array, read as a block. -/
theorem blk_ld (k : ℕ) (hk : k < 8) (x : FVec Ideal S2048x256 .bf16) (off : Fin 2 → ℕ) (ho : off = ![256 * k, 0])
    (inb : ∀ a, off a + S256x256.size a ≤ S2048x256.size a) :
    Blk k (View.ld (Val := Elt Ideal) (e' := .bf16) (S := S2048x256) x (Rect.unit (s := S2048x256) off S256x256.size inb)) x := by
  intro I d
  subst ho
  refine congrArg x (funext fun a => Fin.ext ?_)
  match a with
  | 0 =>
    show 256 * k + 1 * I.val = (256 * k + I.val) % 2048
    omega
  | 1 =>
    show 0 + 1 * d.val = d.val
    omega

/-- Positions `256 k` on, read as a block. -/
theorem blkP_ld (k : ℕ) (hk : k < 8) (x : IVec S1x2048x1 32) (off : Fin 3 → ℕ) (ho : off = ![0, 256 * k, 0])
    (inb : ∀ a, off a + S1x256x1.size a ≤ S1x2048x1.size a) :
    BlkP k (View.ld (Val := Elt Ideal) (e' := .i32) (S := S1x2048x1) x (Rect.unit (s := S1x2048x1) off S1x256x1.size inb)) x := by
  intro I
  subst ho
  refine congrArg x (funext fun a => Fin.ext ?_)
  match a with
  | 0 => rfl
  | 1 =>
    show 256 * k + 1 * I.val = (256 * k + I.val) % 2048
    omega
  | 2 => rfl

/-- An index of a chunk's block of output rows. -/
theorem emb_eq (n : ℕ) (hn : n < 8) (off : Fin 2 → ℕ) (ho : off = ![256 * n, 0])
    (inb : ∀ a, off a + S256x256.size a ≤ S2048x256.size a) (I J : Fin 256) :
    (Rect.unit (s := S2048x256) off S256x256.size inb).emb (ix2 I J) = ix2 (ck 256 n I) J := by
  subst ho
  refine funext fun a => Fin.ext ?_
  match a with
  | 0 =>
    show 256 * n + 1 * I.val = (256 * n + I.val) % 2048
    omega
  | 1 =>
    show 0 + 1 * J.val = J.val
    omega

/-- One trip of the loop leaves the next state of the recurrence in the scratch array. -/
theorem trip_state (k : Fin k0_t1_loop.trips) (f10 : BufTy.Contents (Elt Ideal) arg10.view.ty) (f11 : BufTy.Contents (Elt Ideal) arg11.view.ty)
    (hf : arg11.view.read (Elt Ideal) f11 = stv (v0 (ix3 0 0 0)) x0 x1 x4 x5 k.val) :
    ∃ L inb, (tripL_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) k f10 f11).2
      = ⟨Rect.unit ![0, 0] S256x256.size inb, stv (v0 (ix3 0 0 0)) x0 x1 x4 x5 (k.val + 1)⟩ :: L := by
  have hk : k.val < 8 := k.isLt
  unfold tripL_k0_t1 trip_k0_t1
  dsimp only
  refine ⟨_, inb_S256x256_S256x256_0_0, congrArg₂ List.cons (congrArg (Sigma.mk _) ?_) rfl⟩
  unfold trip_k0_t1.sl.r_1 trip_k0_t1.sl.r_2 trip_k0_t1.sl.r_3
  simp only [View.readAt_eq_ld, harg2.read_unread, harg3.read_unread, harg6.read_unread, harg7.read_unread, hf]
  have e1 := View.ld_unit_lit (Val := Elt Ideal) (S := S1x128) (off := ![0, 0]) (e := .f32) inb_S1x128_S1x128_0_0 x1 (by decide)
  have e2 := View.ld_unit_lit (Val := Elt Ideal) (S := S256x256) (off := ![0, 0]) (e := .f32) inb_S256x256_S256x256_0_0 (stv (v0 (ix3 0 0 0)) x0 x1 x4 x5 k.val) (by decide)
  rw [e1, e2]
  exact pay5_apply k.val v0 _ x0 x1 _ _ x4 x5 (blkP_ld k.val hk x0 _ (k0_off1_eq k) _) (blk_ld k.val hk x4 _ (k0_off2_eq k) _) (blk_ld k.val hk x5 _ (k0_off2_eq k) _)

/-- One trip of the loop leaves its 256 rows of the output. -/
theorem trip_rows (k : Fin k0_t1_loop.trips) (f10 : BufTy.Contents (Elt Ideal) arg10.view.ty) (f11 : BufTy.Contents (Elt Ideal) arg11.view.ty)
    (hf : arg11.view.read (Elt Ideal) f11 = stv (v0 (ix3 0 0 0)) x0 x1 x4 x5 k.val) :
    ∀ p ∈ (tripL_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) k f10 f11).1,
      ∀ y, p.2 y = OUT x0 x1 (v0 (ix3 0 0 0)) x3 x4 x5 x6 x7 (p.1.emb y) := by
  have hk : k.val < 8 := k.isLt
  unfold tripL_k0_t1 trip_k0_t1
  dsimp only
  intro p hp
  simp only [List.mem_cons, List.not_mem_nil, or_false] at hp
  subst hp
  intro y
  idx_vars y
  refine Eq.trans ?_ (congrArg (OUT x0 x1 (v0 (ix3 0 0 0)) x3 x4 x5 x6 x7) (emb_eq k.val hk _ (k0_off2_eq k) _ _ _)).symm
  show k0_pay6 _ _ _ _ _ _ _ (ix2 _ _) = _
  unfold trip_k0_t1.sl.r trip_k0_t1.sl.r_2 trip_k0_t1.sl.r_3 trip_k0_t1.sl.r_4
  simp only [View.readAt_eq_ld, harg2.read_unread, harg3.read_unread, harg5.read_unread, harg6.read_unread, harg7.read_unread, harg8.read_unread, harg9.read_unread, hf]
  have e1 := View.ld_unit_lit (Val := Elt Ideal) (S := S1x128) (off := ![0, 0]) (e := .f32) inb_S1x128_S1x128_0_0 x1 (by decide)
  have e2 := View.ld_unit_lit (Val := Elt Ideal) (S := S256x256) (off := ![0, 0]) (e := .f32) inb_S256x256_S256x256_0_0 (stv (v0 (ix3 0 0 0)) x0 x1 x4 x5 k.val) (by decide)
  have e3 := View.ld_unit_lit (Val := Elt Ideal) (S := S1x256) (off := ![0, 0]) (e := .f32) inb_S1x256_S1x256_0_0 x7 (by decide)
  rw [e1, e2, e3]
  exact pay6_apply k.val hk v0 _ x0 x1 _ _ _ _ x3 x4 x5 x6 x7 (blkP_ld k.val hk x0 _ (k0_off1_eq k) _) (blk_ld k.val hk x3 _ (k0_off2_eq k) _)
    (blk_ld k.val hk x4 _ (k0_off2_eq k) _) (blk_ld k.val hk x5 _ (k0_off2_eq k) _) (blk_ld k.val hk x6 _ (k0_off2_eq k) _) _ _

/-- Before trip `k`: the scratch array holds the state, and every block stored so far is a block of `OUT`. -/
theorem trips (G10 : BufTy.Contents (Elt Ideal) arg10.view.ty) (G11 : BufTy.Contents (Elt Ideal) arg11.view.ty)
    (h0 : arg11.view.read (Elt Ideal) G11 = k0_pay4 (F := Ideal)) (k : ℕ) : k ≤ 8 →
    arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k).2) = stv (v0 (ix3 0 0 0)) x0 x1 x4 x5 k
    ∧ ∀ p ∈ (pb_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k).1, ∀ y, p.2 y = OUT x0 x1 (v0 (ix3 0 0 0)) x3 x4 x5 x6 x7 (p.1.emb y) := by
  induction k with
  | zero =>
    intro _
    refine ⟨?_, fun p hp => absurd hp List.not_mem_nil⟩
    refine Eq.trans h0 ?_
    funext y
    idx_vars y
    pointwise [k0_pay4]
    simp [stv, st, Ideal.ofBits, Ideal.ieee]
  | succ k ih =>
    intro hk
    obtain ⟨ih1, ih2⟩ := ih (by omega)
    have e := pb_k0_t1_succ (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 ⟨k, hk⟩
    rw [show k + 1 = (⟨k, hk⟩ : Fin k0_t1_loop.trips).val + 1 from rfl, e]
    constructor
    · obtain ⟨L, inb, hL⟩ := trip_state c i arg2 harg2 arg3 harg3 arg4 harg4 arg5 harg5 arg6 harg6 arg7 harg7 arg8 harg8 arg9 harg9 arg10 harg10 arg11 harg11 v0 x0 x1 x3 x4 x5 x6 x7 ⟨k, hk⟩
        (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k).1) _ ih1
      rw [hL]
      dsimp only
      rw [View.writes_append]
      exact read_store _ _ (by decide) _ _ _
    · intro p hp
      rcases List.mem_append.1 hp with hp | hp
      · exact trip_rows c i arg2 harg2 arg3 harg3 arg4 harg4 arg5 harg5 arg6 harg6 arg7 harg7 arg8 harg8 arg9 harg9 arg10 harg10 arg11 harg11 v0 x0 x1 x3 x4 x5 x6 x7 ⟨k, hk⟩ _ _ ih1 p hp
      · exact ih2 p hp

/-- The blocks stored tile the output. -/
theorem covered (G10 : BufTy.Contents (Elt Ideal) arg10.view.ty) (G11 : BufTy.Contents (Elt Ideal) arg11.view.ty) (y : S2048x256.Idx) :
    ∃ p ∈ (pb_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k0_t1_loop.trips).1, y ∈ p.1.set :=
  View.cover_of_tiledL (pb_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k0_t1_loop.trips).1 S256x256.size (by sl_kernel_rfl) y

/-- The output block after the loop. -/
theorem loop_out (G10 : BufTy.Contents (Elt Ideal) arg10.view.ty) (G11 : BufTy.Contents (Elt Ideal) arg11.view.ty)
    (h0 : arg11.view.read (Elt Ideal) G11 = k0_pay4 (F := Ideal)) :
    arg10.view.read (Elt Ideal) (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 v0 (harg2.unread x0) (harg3.unread x1) (harg5.unread x3) (harg6.unread x4) (harg7.unread x5) (harg8.unread x6) (harg9.unread x7) G10 G11 k0_t1_loop.trips).1) = OUT x0 x1 (v0 (ix3 0 0 0)) x3 x4 x5 x6 x7 := by
  funext y
  exact View.read_writes_apply_of_pieces _ _ _ _ (trips c i arg2 harg2 arg3 harg3 arg4 harg4 arg5 harg5 arg6 harg6 arg7 harg7 arg8 harg8 arg9 harg9 arg10 harg10 arg11 harg11 v0 x0 x1 x3 x4 x5 x6 x7 G10 G11 h0 8 le_rfl).2 y
    (covered c i arg2 harg2 arg3 harg3 arg4 harg4 arg5 harg5 arg6 harg6 arg7 harg7 arg8 harg8 arg9 harg9 arg10 harg10 arg11 harg11 v0 x0 x1 x3 x4 x5 x6 x7 G10 G11 y)

end Cert.RetTie
-- ==== Proof.RetLaunch.lean ====
/-
  The retention kernel's launch at exact arithmetic: the 32 grid points, one batch element and one head each,
  leave their blocks of the output array; the arguments end as they began and no semaphore is held.
-/
module

public import proofs.«01_k».proof.Defs
public import proofs.«01_k».proof.Proof.RetLoop
public import Idealize.ShloMosaic.Lib.Claim

@[expose] public section

set_option maxRecDepth 16384

noncomputable section

namespace Cert.RetTie

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.RetIdeal Cert.RetIdeal.Gen

local notation "𝕄" => MT nD τ sig Unit (Elt Ideal) ℕ (UR sig nD τ) ℕ

variable (m : (ℓ : Loc nD τ sig) → Buf (Elt Ideal) ℓ) (ρ : Dev nD → PrngReg)

/-- The output block of grid point `t`, from the point's eight input blocks. -/
def outBlk (c : Dev nD) (t : Fin cfg0.N) : FVec Ideal S2048x256 .bf16 :=
  OUT (iblk m c 0 t) (iblk m c 1 t) ((iblk m c 2 t : FVec Ideal S1x8x128 .f32) (ix3 0 0 0)) (iblk m c 3 t) (iblk m c 4 t) (iblk m c 5 t) (iblk m c 6 t) (iblk m c 7 t)

/-- What each window's buffer holds after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ _ := Pipeline.ΦA spec0 c
  q w := Pipeline.shareOf spec0 w
  owed _ := 0

/-- The arrays as the launch finds them. -/
theorem dats_A (c : Dev nD) (w : Fin cfg0.W) : (dats m 0 c).A w = V m c (Pipeline.arrRef spec0 w) := by
  dsimp only [dats]

/-- The block that a point leaves in window 0. -/
theorem after_0 (c : Dev nD) (t : Fin cfg0.N) : (dats m 0 c).after 0 t = iblk m c 0 t := by dsimp only [dats]
/-- The block that a point leaves in window 1. -/
theorem after_1 (c : Dev nD) (t : Fin cfg0.N) : (dats m 0 c).after 1 t = iblk m c 1 t := by dsimp only [dats]
/-- The block that a point leaves in window 2. -/
theorem after_2 (c : Dev nD) (t : Fin cfg0.N) : (dats m 0 c).after 2 t = iblk m c 2 t := by dsimp only [dats]
/-- The block that a point leaves in window 3. -/
theorem after_3 (c : Dev nD) (t : Fin cfg0.N) : (dats m 0 c).after 3 t = iblk m c 3 t := by dsimp only [dats]
/-- The block that a point leaves in window 4. -/
theorem after_4 (c : Dev nD) (t : Fin cfg0.N) : (dats m 0 c).after 4 t = iblk m c 4 t := by dsimp only [dats]
/-- The block that a point leaves in window 5. -/
theorem after_5 (c : Dev nD) (t : Fin cfg0.N) : (dats m 0 c).after 5 t = iblk m c 5 t := by dsimp only [dats]
/-- The block that a point leaves in window 6. -/
theorem after_6 (c : Dev nD) (t : Fin cfg0.N) : (dats m 0 c).after 6 t = iblk m c 6 t := by dsimp only [dats]
/-- The block that a point leaves in window 7. -/
theorem after_7 (c : Dev nD) (t : Fin cfg0.N) : (dats m 0 c).after 7 t = iblk m c 7 t := by dsimp only [dats]
/-- The block that a point leaves in window 8. -/
theorem after_8 (c : Dev nD) (t : Fin cfg0.N) : (dats m 0 c).after 8 t = outBlk m c t := by dsimp only [dats]
/-- The block that a point reads in window 0. -/
theorem before_0 (c : Dev nD) (t : Fin cfg0.N) (d) : (dats m 0 c).before 0 t d = iblk m c 0 t :=
  before0_0_of m (dats m 0 c) (dats_A m c 0) (after_0 m c) t d
/-- The block that a point reads in window 1. -/
theorem before_1 (c : Dev nD) (t : Fin cfg0.N) (d) : (dats m 0 c).before 1 t d = iblk m c 1 t :=
  before0_1_of m (dats m 0 c) (dats_A m c 1) (after_1 m c) t d
/-- The block that a point reads in window 2. -/
theorem before_2 (c : Dev nD) (t : Fin cfg0.N) (d) : (dats m 0 c).before 2 t d = iblk m c 2 t :=
  before0_2_of m (dats m 0 c) (dats_A m c 2) (after_2 m c) t d
/-- The block that a point reads in window 3. -/
theorem before_3 (c : Dev nD) (t : Fin cfg0.N) (d) : (dats m 0 c).before 3 t d = iblk m c 3 t :=
  before0_3_of m (dats m 0 c) (dats_A m c 3) (after_3 m c) t d
/-- The block that a point reads in window 4. -/
theorem before_4 (c : Dev nD) (t : Fin cfg0.N) (d) : (dats m 0 c).before 4 t d = iblk m c 4 t :=
  before0_4_of m (dats m 0 c) (dats_A m c 4) (after_4 m c) t d
/-- The block that a point reads in window 5. -/
theorem before_5 (c : Dev nD) (t : Fin cfg0.N) (d) : (dats m 0 c).before 5 t d = iblk m c 5 t :=
  before0_5_of m (dats m 0 c) (dats_A m c 5) (after_5 m c) t d
/-- The block that a point reads in window 6. -/
theorem before_6 (c : Dev nD) (t : Fin cfg0.N) (d) : (dats m 0 c).before 6 t d = iblk m c 6 t :=
  before0_6_of m (dats m 0 c) (dats_A m c 6) (after_6 m c) t d
/-- The block that a point reads in window 7. -/
theorem before_7 (c : Dev nD) (t : Fin cfg0.N) (d) : (dats m 0 c).before 7 t d = iblk m c 7 t :=
  before0_7_of m (dats m 0 c) (dats_A m c 7) (after_7 m c) t d

set_option maxHeartbeats 1000000 in
/-- The body at any grid point, from the input blocks to `outBlk`. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t)
            ∗ owns (c : Thread nD τ) (ms0_6 t) fullShare ((dats m 0 c).after 6 t)
            ∗ owns (c : Thread nD τ) (ms0_7 t) fullShare ((dats m 0 c).after 7 t)
            ∗ owns (c : Thread nD τ) (ms0_8 t) fullShare ((dats m 0 c).after 8 t))) := by
  unfold bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%f8, H8, %hf8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists f8; isplitr
  swap; · iexact H8
  ipureintro
  obtain ⟨v0, G10, G11, hv, h0, rfl⟩ := hf8
  unfold outBlk
  rw [← hv]
  exact loop_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) v0 (iblk m c 0 t) (iblk m c 1 t) (iblk m c 3 t) (iblk m c 4 t) (iblk m c 5 t) (iblk m c 6 t) (iblk m c 7 t) G10 G11 h0

/-- The body of the pipeline at every point. -/
theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- Every execution ends, with the arrays the points leave and no semaphore held. -/
theorem launched : θ_run defs (onTc (τ := τ) (main (F := Ideal))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

/-- The arguments end as they began, and no semaphore is held. -/
theorem kernel_frame : Cert.quiescent_RetIdeal := fun m ρ _ =>
  θ_run_and (frame_of m ρ (dats m) (dats_A m) ((θ_run defs _ _).mono (fun _ h => h.1) (launched m ρ)))
    ((θ_run defs _ _).mono (fun _ h => h.2) (launched m ρ))

end Cert.RetTie

end
-- ==== Proof.RetValue.lean ====
/-
  The retention kernel's array, head by head and row by row: retention over the whole sequence, as one
  function of the three arguments.
-/
module

public import proofs.«01_k».proof.Proof.RetLaunch
public import Idealize.ShloMosaic.Lib.Pipeline.ValueKit
public import Idealize.ShloMosaic.Lib.Pointwise

@[expose] public section

set_option maxRecDepth 16384

noncomputable section

namespace Cert.RetTie

open Idealize.ShloMosaic Idealize.ShloMosaic.TcCoe Idealize.SL.Sem Idealize.ShloMosaic.Pipeline
open Cert.RetIdeal Cert.RetIdeal.Gen

section Whole

variable (z : FVec Ideal S16384x7168 .bf16) (pos : IVec S8x2048 32) (w : FVec Ideal S1024 .f32) (b : Fin 8) (h : Fin 4)

/-- Row `r` of batch element `b`. -/
def row (r : Fin 2048) : Fin 16384 := ⟨2048 * b.val + r.val, by omega⟩

/-- The angles of a row. -/
def angOf (r : Fin 2048) (d : Fin 128) : EReal := (((pos (ix2 b r)).toInt : ℝ) : EReal) * inv d

/-- The rotated queries of head `h` of batch element `b`. -/
def qOf (r : Fin 2048) : Fin 256 → EReal := rot (fun d => z (ix2 (row b r) ⟨256 * h.val + d.val, by omega⟩)) (angOf pos b r)

/-- Its rotated and scaled keys. -/
def kOf (r : Fin 2048) (d : Fin 256) : EReal :=
  rot (fun d => z (ix2 (row b r) ⟨1024 + (256 * h.val + d.val), by omega⟩)) (angOf pos b r) d * Ideal.ofBits .f32 0x3D800000#32

/-- Its values. -/
def vOf (r : Fin 2048) (e : Fin 256) : EReal := z (ix2 (row b r) ⟨2048 + (256 * h.val + e.val), by omega⟩)

/-- One entry of the result. -/
def headOf (r : Fin 2048) (e : Fin 256) : EReal :=
  gated (att 256 (lgam h) (qOf z pos b h) (kOf z pos b h) (vOf z b h) (r.val / 256) ⟨r.val % 256, Nat.mod_lt _ (by decide)⟩)
    (w (ix1 ⟨256 * h.val + e.val, by omega⟩)) (z (ix2 (row b r) ⟨3072 + (256 * h.val + e.val), by omega⟩)) e

/-- The result, at row `y 0` and column `y 1`. -/
def G : FVec Ideal S16384x1024 .bf16 := fun y =>
  headOf z pos w ⟨(y 0).val / 2048, by have : (y 0).val < 16384 := (y 0).isLt; omega⟩ ⟨(y 1).val / 256, by have : (y 1).val < 1024 := (y 1).isLt; omega⟩ ⟨(y 0).val % 2048, Nat.mod_lt _ (by decide)⟩ ⟨(y 1).val % 256, Nat.mod_lt _ (by decide)⟩

/-- The specification at a row and a column of one head. -/
theorem G_at (r : Fin 2048) (e : Fin 256) (hC : 256 * h.val + e.val < 1024) :
    G z pos w (ix2 (row b r) ⟨256 * h.val + e.val, hC⟩) = headOf z pos w b h r e := by
  have e1 : (⟨(row b r).val / 2048, by have := (row b r).isLt; omega⟩ : Fin 8) = b := Fin.ext (by unfold row; dsimp only; omega)
  have e2 : (⟨(256 * h.val + e.val) / 256, by omega⟩ : Fin 4) = h := Fin.ext (by dsimp only; omega)
  have e3 : (⟨(row b r).val % 2048, Nat.mod_lt _ (by decide)⟩ : Fin 2048) = r := Fin.ext (by unfold row; dsimp only; omega)
  have e4 : (⟨(256 * h.val + e.val) % 256, Nat.mod_lt _ (by decide)⟩ : Fin 256) = e := Fin.ext (by dsimp only; omega)
  show headOf z pos w ⟨(row b r).val / 2048, _⟩ ⟨(256 * h.val + e.val) / 256, _⟩ ⟨(row b r).val % 2048, _⟩ ⟨(256 * h.val + e.val) % 256, _⟩ = _
  rw [e1, e2, e3, e4]

end Whole

variable (m : (ℓ : Loc nD τ sig) → Buf (Elt Ideal) ℓ)

/-- The block indices of the launch, point by point. -/
theorem idx : ∀ t : Fin cfg0.N,
    win0_0.index t = ![(win0_8.index t) 0, 0, 0] ∧ win0_1.index t = ![0, 0] ∧ win0_2.index t = ![(win0_8.index t) 1, 0, 0]
    ∧ win0_3.index t = ![(win0_8.index t) 0, (win0_8.index t) 1] ∧ win0_4.index t = ![(win0_8.index t) 0, 4 + (win0_8.index t) 1]
    ∧ win0_5.index t = ![(win0_8.index t) 0, 8 + (win0_8.index t) 1] ∧ win0_6.index t = ![(win0_8.index t) 0, 12 + (win0_8.index t) 1]
    ∧ win0_7.index t = ![0, (win0_8.index t) 1] ∧ (win0_8.index t) 0 < 8 ∧ (win0_8.index t) 1 < 4 :=
  (by decide +kernel : ∀ t : Fin grid0.N, win0_0.index t = ![(win0_8.index t) 0, 0, 0] ∧ win0_1.index t = ![0, 0] ∧ win0_2.index t = ![(win0_8.index t) 1, 0, 0]
    ∧ win0_3.index t = ![(win0_8.index t) 0, (win0_8.index t) 1] ∧ win0_4.index t = ![(win0_8.index t) 0, 4 + (win0_8.index t) 1]
    ∧ win0_5.index t = ![(win0_8.index t) 0, 8 + (win0_8.index t) 1] ∧ win0_6.index t = ![(win0_8.index t) 0, 12 + (win0_8.index t) 1]
    ∧ win0_7.index t = ![0, (win0_8.index t) 1] ∧ (win0_8.index t) 0 < 8 ∧ (win0_8.index t) 1 < 4)

/-- The rotation's frequencies. -/
theorem V_v5 (c : Dev nD) (d : Fin 128) : (V m c main_v5 : FVec Ideal S1x128 .f32) (ix2 0 d) = inv d := by
  have e : V m c main_v5 = shapeCast S1x128 (Host.divf (broadcastInDim S128 ![] bcast_S_S128 (constant (F := Ideal) S_ .f32 0x3F800000#32))
      (Host.powf (broadcastInDim S128 ![] bcast_S_S128 (constant (F := Ideal) S_ .f32 0x461C4000#32))
        (concatenate S128 0 [⟨S127, addf
            (mulf (broadcastInDim S127 ![0] bcast_S1_S127_0 (shapeCast S1 (constant (F := Ideal) S_ .f32 0x00000000#32) shapeCasts_S_S1))
              (subf (broadcastInDim S127 ![] bcast_S_S127 (constant (F := Ideal) S_ .f32 0x3F800000#32)) (Host.divf (sitofp .f32 (iotaInDim S127 32 0)) (broadcastInDim S127 ![] bcast_S_S127 (constant (F := Ideal) S_ .f32 0x42FE0000#32)))))
            (mulf (broadcastInDim S127 ![0] bcast_S1_S127_0 (shapeCast S1 (constant (F := Ideal) S_ .f32 0x3F800000#32) shapeCasts_S_S1))
              (Host.divf (sitofp .f32 (iotaInDim S127 32 0)) (broadcastInDim S127 ![] bcast_S_S127 (constant (F := Ideal) S_ .f32 0x42FE0000#32))))⟩,
          ⟨S1, broadcastInDim S1 ![] bcast_S_S1 (constant (F := Ideal) S_ .f32 0x3F800000#32)⟩] concatenates_S127_S1_S128_d0))) shapeCasts_S128_S1x128 := by
    simp only [V, hostOps0, hostOps0_1, hostOps0_2, List.flatten_cons, List.flatten_nil, List.append_nil, List.cons_append, List.nil_append]
    rfl
  rw [e]
  pointwise []
  unfold inv
  split <;> rfl

/-- The heads' log decays. -/
theorem V_v15 (c : Dev nD) (h : Fin 4) : (V m c main_v15 : FVec Ideal S4x8x128 .f32) (ix3 h 0 0) = lgam h := by
  simp only [V, hostOps0, hostOps0_1, hostOps0_2, List.flatten_cons, List.flatten_nil, List.append_nil, List.cons_append, List.nil_append]
  after_reads_simp
  pointwise []
  rfl

/-- The positions, one to a row. -/
theorem V_v16 (c : Dev nD) (b : Fin 8) (r : Fin 2048) : (V m c main_v16 : IVec S8x2048x1 32) (ix3 b r 0) = (m ((c : Thread nD τ).loc main_arg1) : IVec S8x2048 32) (ix2 b r) := by
  have e : V m c main_v16 = shapeCast S8x2048x1 (m ((c : Thread nD τ).loc main_arg1)) shapeCasts_S8x2048_S8x2048x1 := by
    simp only [V, hostOps0, hostOps0_1, hostOps0_2, List.flatten_cons, List.flatten_nil, List.append_nil, List.cons_append, List.nil_append]
    rfl
  rw [e]
  pointwise []

/-- The norm's weight as a row. -/
theorem V_v17 (c : Dev nD) (d : Fin 1024) : (V m c main_v17 : FVec Ideal S1x1024 .f32) (ix2 0 d) = m ((c : Thread nD τ).loc main_arg2) (ix1 d) := by
  have e : V m c main_v17 = shapeCast S1x1024 (m ((c : Thread nD τ).loc main_arg2)) shapeCasts_S1024_S1x1024 := by
    simp only [V, hostOps0, hostOps0_1, hostOps0_2, List.flatten_cons, List.flatten_nil, List.append_nil, List.cons_append, List.nil_append]
    rfl
  rw [e]
  pointwise []

/-- Windows 0 and 1 stage the rows' angles. -/
theorem ang_blk (c : Dev nD) (t : Fin cfg0.N) (b : Fin 8) (hb : b.val = (win0_8.index t) 0) :
    ang (iblk m c 0 t) (iblk m c 1 t) = angOf (m ((c : Thread nD τ).loc main_arg1)) b := by
  funext r d
  have h0 : (iblk m c 0 t : IVec S1x2048x1 32) (ix3 0 r 0) = (V m c main_v16 : IVec S8x2048x1 32) (ix3 b r 0) := by
    blk_point [iblk, idx t]
  have h1 : (iblk m c 1 t : FVec Ideal S1x128 .f32) (ix2 0 d) = (V m c main_v5 : FVec Ideal S1x128 .f32) (ix2 0 d) := by
    blk_point [iblk, idx t]
  unfold ang angOf
  rw [h0, h1, V_v16, V_v5]

/-- Window 2 stages the head's log decay. -/
theorem lam_blk (c : Dev nD) (t : Fin cfg0.N) (h : Fin 4) (hh : h.val = (win0_8.index t) 1) :
    (iblk m c 2 t : FVec Ideal S1x8x128 .f32) (ix3 0 0 0) = lgam h := by
  refine Eq.trans ?_ (V_v15 m c h)
  blk_point [iblk, idx t]

/-- Window 3 stages the head's queries. -/
theorem q_blk (c : Dev nD) (t : Fin cfg0.N) (b : Fin 8) (hb : b.val = (win0_8.index t) 0) (h : Fin 4) (hh : h.val = (win0_8.index t) 1) :
    qr (iblk m c 0 t) (iblk m c 1 t) (iblk m c 3 t) = qOf (m ((c : Thread nD τ).loc main_arg0)) (m ((c : Thread nD τ).loc main_arg1)) b h := by
  funext r
  unfold qr qOf
  rw [ang_blk m c t b hb]
  refine congrArg (fun x => rot x _) (funext fun d => ?_)
  unfold row
  blk_point [iblk, V, idx t]

/-- Window 4 stages its keys. -/
theorem k_blk (c : Dev nD) (t : Fin cfg0.N) (b : Fin 8) (hb : b.val = (win0_8.index t) 0) (h : Fin 4) (hh : h.val = (win0_8.index t) 1) :
    kr (iblk m c 0 t) (iblk m c 1 t) (iblk m c 4 t) = kOf (m ((c : Thread nD τ).loc main_arg0)) (m ((c : Thread nD τ).loc main_arg1)) b h := by
  funext r d
  unfold kr kOf
  rw [ang_blk m c t b hb]
  refine congrArg (fun x => rot x _ d * _) (funext fun d => ?_)
  unfold row
  blk_point [iblk, V, idx t]

/-- Window 5 stages its values. -/
theorem v_blk (c : Dev nD) (t : Fin cfg0.N) (b : Fin 8) (hb : b.val = (win0_8.index t) 0) (h : Fin 4) (hh : h.val = (win0_8.index t) 1) :
    (fun r e => (iblk m c 5 t : FVec Ideal S2048x256 .bf16) (ix2 r e)) = vOf (m ((c : Thread nD τ).loc main_arg0)) b h := by
  funext r d
  unfold vOf row
  blk_point [iblk, V, idx t]

/-- Window 6 stages its output gate. -/
theorem g_blk (c : Dev nD) (t : Fin cfg0.N) (b : Fin 8) (hb : b.val = (win0_8.index t) 0) (h : Fin 4) (hh : h.val = (win0_8.index t) 1) (r : Fin 2048) (e : Fin 256) :
    (iblk m c 6 t : FVec Ideal S2048x256 .bf16) (ix2 r e) = m ((c : Thread nD τ).loc main_arg0) (ix2 (row b r) ⟨3072 + (256 * h.val + e.val), by omega⟩) := by
  unfold row
  blk_point [iblk, V, idx t]

/-- Window 7 stages its norm weight. -/
theorem w_blk (c : Dev nD) (t : Fin cfg0.N) (h : Fin 4) (hh : h.val = (win0_8.index t) 1) (e : Fin 256) :
    (iblk m c 7 t : FVec Ideal S1x256 .f32) (ix2 0 e) = m ((c : Thread nD τ).loc main_arg2) (ix1 ⟨256 * h.val + e.val, by omega⟩) := by
  refine Eq.trans ?_ (V_v17 m c _)
  blk_point [iblk, idx t]

/-- The kernel's array after all grid points is `G`. -/
theorem array (c : Dev nD) : (dats m 0 c).arrAt 8 cfg0.N = G (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after_8]
  obtain ⟨-, -, -, -, -, -, -, -, h8, h4⟩ := idx t
  have hy : (win0_8.blk t).view.emb y = ix2 (row ⟨(win0_8.index t) 0, h8⟩ (y 0)) ⟨256 * (win0_8.index t) 1 + (y 1).val, by have : (y 1).val < 256 := (y 1).isLt; omega⟩ := by
    idx_vars y
    unfold row
    blk_point []
  rw [hy]
  idx_vars y
  refine Eq.trans ?_ (G_at _ _ _ ⟨(win0_8.index t) 0, h8⟩ ⟨(win0_8.index t) 1, h4⟩ y0 y1 _).symm
  unfold outBlk OUT headOf
  have e1 := lam_blk m c t ⟨(win0_8.index t) 1, h4⟩ rfl
  have e2 := q_blk m c t ⟨(win0_8.index t) 0, h8⟩ rfl ⟨(win0_8.index t) 1, h4⟩ rfl
  have e3 := k_blk m c t ⟨(win0_8.index t) 0, h8⟩ rfl ⟨(win0_8.index t) 1, h4⟩ rfl
  have e4 := v_blk m c t ⟨(win0_8.index t) 0, h8⟩ rfl ⟨(win0_8.index t) 1, h4⟩ rfl
  have e5 := g_blk m c t ⟨(win0_8.index t) 0, h8⟩ rfl ⟨(win0_8.index t) 1, h4⟩ rfl y0 y1
  have e6 := w_blk m c t ⟨(win0_8.index t) 1, h4⟩ rfl y1
  rw [e1, e2, e3, e4]
  exact congrArg₂ (fun a b => gated _ a b _) e6 e5

/-- The kernel ends with `G` of its arguments, which end as they began. -/
theorem run_value (ρ : Dev nD → PrngReg) : θ_run defs (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 8).trans (array m c), h.2 c⟩)
    (θ_run_and (launched m ρ) (frame_of m ρ (dats m) (dats_A m) ((θ_run defs _ _).mono (fun _ h => h.1) (launched m ρ))))

end Cert.RetTie

end
-- ==== Proof.RetRefStep.lean ====
/-
  The retention reference's scan: what the carried state and the collected rows hold after any number
  of chunks, at exact arithmetic.
-/
module

public import proofs.«01_k».proof.Proof.RetValue
public import proofs.«01_k».proof.Proof.Gen.RetRefIdeal.Run
public import Idealize.ShloMosaic.Lib.DynamicIndex
public import Idealize.ShloMosaic.Lib.Pointwise

@[expose] public section

set_option maxRecDepth 16384

noncomputable section

namespace Cert.RetTie

open Idealize.ShloMosaic Idealize.ShloMosaic.TcCoe Idealize.SL.Sem Idealize.ShloMosaic.Pipeline
open Cert.RetRefIdeal Cert.RetRefIdeal.Value Cert.RetRefIdeal.Gen

/-- Chunk `n` cut out of the chunked values. -/
theorem cut256 (x : FVec Ideal S32x8x64x4x256 .f32) (start : Fin 5 → Int) (n : Fin 32) (hs : start = ![(n.val : Int), 0, 0, 0, 0])
    (b : Fin 8) (j : Fin 64) (h : Fin 4) (d : Fin 256) :
    shapeCast S8x64x4x256 (Host.dynamicSlice S1x8x64x4x256 x start sliceFits_S32x8x64x4x256_S1x8x64x4x256) shapeCasts_S1x8x64x4x256_S8x64x4x256 (ix4 b j h d)
      = x (ix5 n b j h d) := by
  rw [Host.dynamicSlice_eq_extractStridedSlice S1x8x64x4x256 x start ![n.val, 0, 0, 0, 0] sliceFits_S32x8x64x4x256_S1x8x64x4x256 ⟨rfl, fun a => by
      fin_cases a
      · show n.val + 1 ≤ 32; omega
      · show 0 + 8 ≤ 8; omega
      · show 0 + 64 ≤ 64; omega
      · show 0 + 4 ≤ 4; omega
      · show 0 + 256 ≤ 256; omega⟩
    (by subst hs; intro a; fin_cases a <;> rfl)]
  pointwise

/-- Head `h` of batch element `b`, row by row, out of an array cut into chunks. -/
def unchunk {D : ℕ} (x : Fin 32 → Fin 8 → Fin 64 → Fin 4 → Fin D → EReal) (b : Fin 8) (h : Fin 4) (r : Fin 2048) (d : Fin D) : EReal :=
  x ⟨r.val / 64, by omega⟩ b ⟨r.val % 64, Nat.mod_lt _ (by decide)⟩ h d

/-- At row `j` of chunk `n`. -/
theorem unchunk_ck {D : ℕ} (x : Fin 32 → Fin 8 → Fin 64 → Fin 4 → Fin D → EReal) (b : Fin 8) (h : Fin 4) (n : Fin 32) (j : Fin 64) (d : Fin D) :
    unchunk x b h (ck 64 n.val j) d = x n b j h d := by
  have e1 : (⟨(ck 64 n.val j).val / 64, by have := (ck 64 n.val j).isLt; omega⟩ : Fin 32) = n := Fin.ext (by unfold ck; dsimp only; omega)
  have e2 : (⟨(ck 64 n.val j).val % 64, Nat.mod_lt _ (by decide)⟩ : Fin 64) = j := Fin.ext (by unfold ck; dsimp only; omega)
  unfold unchunk
  rw [e1, e2]

/-- Chunk `n` of the collected rows replaced. -/
theorem put256 (O : FVec Ideal S32x8x64x4x256 .f32) (U : FVec Ideal S1x8x64x4x256 .f32) (start : Fin 5 → Int) (n : Fin 32) (hs : start = ![(n.val : Int), 0, 0, 0, 0])
    (N : Fin 32) (b : Fin 8) (i : Fin 64) (h : Fin 4) (e : Fin 256) :
    (Host.dynamicUpdateSlice O U start updateFits_S32x8x64x4x256_S1x8x64x4x256 : FVec Ideal S32x8x64x4x256 .f32) (ix5 N b i h e)
      = if N = n then U (ix5 0 b i h e) else O (ix5 N b i h e) := by
  have hc : ∀ a, Host.clampedStart S32x8x64x4x256 S1x8x64x4x256 updateFits_S32x8x64x4x256_S1x8x64x4x256.1 start a = (![n.val, 0, 0, 0, 0] : Fin 5 → ℕ) a := by
    intro a
    subst hs
    refine Host.clampedStart_of_le _ _ _ _ ?_ ?_
    · fin_cases a <;> rfl
    · fin_cases a
      · show n.val + 1 ≤ 32; omega
      · show 0 + 8 ≤ 8; omega
      · show 0 + 64 ≤ 64; omega
      · show 0 + 4 ≤ 4; omega
      · show 0 + 256 ≤ 256; omega
  rw [Host.dynamicUpdateSlice_apply]
  by_cases hN : N = n
  · subst hN
    rw [if_pos rfl, dif_pos]
    · refine congrArg U (funext fun a => Fin.ext ?_)
      rw [Shape.Idx.norm_def]
      dsimp only
      rw [hc]
      fin_cases a
      · show N.val - N.val = 0; omega
      all_goals rfl
    · intro a
      rw [hc]
      fin_cases a
      · show N.val ≤ N.val ∧ N.val < N.val + 1; omega
      · show 0 ≤ b.val ∧ b.val < 0 + 8; omega
      · show 0 ≤ i.val ∧ i.val < 0 + 64; omega
      · show 0 ≤ h.val ∧ h.val < 0 + 4; omega
      · show 0 ≤ e.val ∧ e.val < 0 + 256; omega
  · rw [if_neg hN, dif_neg]
    intro hin
    have h0 := hin 0
    rw [hc] at h0
    have h1 : n.val ≤ N.val ∧ N.val < n.val + 1 := h0
    exact hN (Fin.ext (by omega))

/-- The state after a chunk, from the chunk's arrays. -/
theorem state_pure (D : FVec Ideal S4 .f32) (B : FVec Ideal S64x4 .f32) (X Y : FVec Ideal S8x64x4x256 .f32) (S : FVec Ideal S8x4x256x256 .f32)
    (b : Fin 8) (h : Fin 4) (d e : Fin 256) :
    (id (addf (mulf S (broadcastInDim S8x4x256x256 ![0, 1, 2, 3] bcast_S1x4x1x1_S8x4x256x256_0_1_2_3 (broadcastInDim S1x4x1x1 ![1, 2, 3] bcast_S4x1x1_S1x4x1x1_1_2_3 (broadcastInDim S4x1x1 ![0] bcast_S4_S4x1x1_0 D))))
      (Host.dotGeneral dot_S8x64x4x256_S8x64x4x256_S8x4x256x256_1_1_3_3_02_02 none (mulf X (broadcastInDim S8x64x4x256 ![0, 1, 2, 3] bcast_S1x64x4x1_S8x64x4x256_0_1_2_3 (broadcastInDim S1x64x4x1 ![1, 2, 3] bcast_S64x4x1_S1x64x4x1_1_2_3 (broadcastInDim S64x4x1 ![0, 1] bcast_S64x4_S64x4x1_0_1 B)))) Y)) : FVec Ideal S8x4x256x256 .f32) (ix4 b h d e)
      = S (ix4 b h d e) * D (ix1 h) + ∑ j : Fin 64, (X (ix4 b j h d) * B (ix2 j h)) * Y (ix4 b j h e) := by
  rw [id_eq]
  pointwise

/-- A chunk's rows, from the chunk's arrays. -/
theorem rows_pure (M : FVec Ideal S4x64x64 .f32) (A : FVec Ideal S64x4 .f32) (Q X Y : FVec Ideal S8x64x4x256 .f32) (S : FVec Ideal S8x4x256x256 .f32)
    (b : Fin 8) (i : Fin 64) (h : Fin 4) (e : Fin 256) :
    (broadcastInDim S1x8x64x4x256 ![1, 2, 3, 4] bcast_S8x64x4x256_S1x8x64x4x256_1_2_3_4 (addf (transpose S8x64x4x256 [0, 3, 1, 2] (Host.dotGeneral dot_S8x64x4x256_S8x4x64x64_S8x4x256x64_1_3_3_2_02_01 none Y (mulf (Host.dotGeneral dot_S8x64x4x256_S8x64x4x256_S8x4x64x64_3_3_1_1_02_02 none Q X) (broadcastInDim S8x4x64x64 ![0, 1, 2, 3] bcast_S1x4x64x64_S8x4x64x64_0_1_2_3 (broadcastInDim S1x4x64x64 ![1, 2, 3] bcast_S4x64x64_S1x4x64x64_1_2_3 M)))) transposes_S8x4x256x64_S8x64x4x256_0_3_1_2) (transpose S8x64x4x256 [0, 3, 1, 2] (Host.dotGeneral dot_S8x4x256x256_S8x64x4x256_S8x4x256x64_2_3_3_1_01_02 none S (mulf Q (broadcastInDim S8x64x4x256 ![0, 1, 2, 3] bcast_S1x64x4x1_S8x64x4x256_0_1_2_3 (broadcastInDim S1x64x4x1 ![1, 2, 3] bcast_S64x4x1_S1x64x4x1_1_2_3 (broadcastInDim S64x4x1 ![0, 1] bcast_S64x4_S64x4x1_0_1 A))))) transposes_S8x4x256x64_S8x64x4x256_0_3_1_2)) : FVec Ideal S1x8x64x4x256 .f32) (ix5 0 b i h e)
      = (∑ j : Fin 64, Y (ix4 b j h e) * ((∑ d : Fin 256, Q (ix4 b i h d) * X (ix4 b j h d)) * M (ix3 h i j)))
        + ∑ d : Fin 256, S (ix4 b h d e) * (Q (ix4 b i h d) * A (ix2 i h)) := by
  pointwise

section Step

variable (Q K W : FVec Ideal S32x8x64x4x256 .f32)

/-- Queries, keys and values as plain functions. -/
abbrev five (x : FVec Ideal S32x8x64x4x256 .f32) (n : Fin 32) (b : Fin 8) (j : Fin 64) (h : Fin 4) (d : Fin 256) : EReal := x (ix5 n b j h d)

/-- The state before chunk `n`. -/
abbrev stE (b : Fin 8) (h : Fin 4) (n : ℕ) (d e : Fin 256) : EReal :=
  st 64 (lgam h) (unchunk (five K) b h) (unchunk (five W) b h) n d e

/-- The retention's rows. -/
abbrev attE (b : Fin 8) (h : Fin 4) (n : ℕ) (i : Fin 64) (e : Fin 256) : EReal :=
  att 64 (lgam h) (unchunk (five Q) b h) (unchunk (five K) b h) (unchunk (five W) b h) n i e

variable (V0 : Valuation τ sig (Elt Ideal)) (n : Fin 32) (hc : V0 (Proc.devRef .tc main_v136_7) = fun _ => BitVec.ofNat 32 n.val)
  (hQ : V0 (Proc.devRef .tc main_v136_0) = Q) (hK : V0 (Proc.devRef .tc main_v136_1) = K) (hW : V0 (Proc.devRef .tc main_v136_2) = W)
  (M : FVec Ideal S4x64x64 .f32) (hM : V0 (Proc.devRef .tc main_v136_3) = M)
  (hM' : ∀ h i j, (M (ix3 h i j) : EReal) = if j ≤ i then Ideal.exp ((((i.val : ℝ) - (j.val : ℝ) : ℝ) : EReal) * lgam h) else 0)
  (A : FVec Ideal S64x4 .f32) (hA : V0 (Proc.devRef .tc main_v136_4) = A)
  (hA' : ∀ i h, (A (ix2 i h) : EReal) = Ideal.exp ((((i.val : ℝ) + 1 : ℝ) : EReal) * lgam h))
  (D : FVec Ideal S4 .f32) (hD : V0 (Proc.devRef .tc main_v136_5) = D) (hD' : ∀ h, (D (ix1 h) : EReal) = Ideal.exp ((((64 : ℕ) : ℝ) : EReal) * lgam h))
  (B : FVec Ideal S64x4 .f32) (hB : V0 (Proc.devRef .tc main_v136_6) = B)
  (hB' : ∀ j h, (B (ix2 j h) : EReal) = Ideal.exp (((((64 : ℕ) : ℝ) - 1 - (j.val : ℝ) : ℝ) : EReal) * lgam h))
  (S : FVec Ideal S8x4x256x256 .f32) (hS : V0 (Proc.devRef .tc main_v136_8) = S)

include hc in
/-- Where chunk `n` starts. -/
theorem start_at : (fun k => (((![V0 (Proc.devRef .tc main_v136_7), constantI S_ 32 0#32, constantI S_ 32 0#32, constantI S_ 32 0#32, constantI S_ 32 0#32] : Fin 5 → (⟨S_, .i32⟩ : BufTy).Contents (Elt Ideal))) k (Shape.Idx.first h_S_)).toInt)
    = ![(n.val : Int), 0, 0, 0, 0] := by
  funext k
  fin_cases k
  · show ((V0 (Proc.devRef .tc main_v136_7) : IVec S_ 32) (Shape.Idx.first h_S_)).toInt = (n.val : Int)
    rw [hc]
    exact (by decide +kernel : ∀ n : Fin 32, (BitVec.ofNat 32 n.val).toInt = (n.val : Int)) n
  all_goals rfl

include hc hQ in
/-- The chunk's queries. -/
theorem q_at (b : Fin 8) (j : Fin 64) (h : Fin 4) (d : Fin 256) :
    (res_main_while0b_v158 V0 : FVec Ideal S8x64x4x256 .f32) (ix4 b j h d) = unchunk (five Q) b h (ck 64 n.val j) d := by
  rw [unchunk_ck]
  subst hQ
  unfold res_main_while0b_v158
  exact cut256 _ _ n (start_at V0 n hc) b j h d

include hc hK in
/-- The chunk's keys. -/
theorem k_at (b : Fin 8) (j : Fin 64) (h : Fin 4) (d : Fin 256) :
    (res_main_while0b_v159 V0 : FVec Ideal S8x64x4x256 .f32) (ix4 b j h d) = unchunk (five K) b h (ck 64 n.val j) d := by
  rw [unchunk_ck]
  subst hK
  unfold res_main_while0b_v159
  exact cut256 _ _ n (start_at V0 n hc) b j h d

include hc hW in
/-- The chunk's values. -/
theorem v_at (b : Fin 8) (j : Fin 64) (h : Fin 4) (e : Fin 256) :
    (res_main_while0b_v160 V0 : FVec Ideal S8x64x4x256 .f32) (ix4 b j h e) = unchunk (five W) b h (ck 64 n.val j) e := by
  rw [unchunk_ck]
  subst hW
  unfold res_main_while0b_v160
  exact cut256 _ _ n (start_at V0 n hc) b j h e

include hc hK hW hD hD' hB hB' hS in
/-- The state after the chunk. -/
theorem state_step (hS' : ∀ b h d e, S (ix4 b h d e) = stE K W b h n.val d e) (b : Fin 8) (h : Fin 4) (d e : Fin 256) :
    (step_main_v136_8 V0 : FVec Ideal S8x4x256x256 .f32) (ix4 b h d e) = stE K W b h (n.val + 1) d e := by
  unfold step_main_v136_8
  rw [hS, hD, hB]
  refine (state_pure D B (res_main_while0b_v159 V0) (res_main_while0b_v160 V0) S b h d e).trans ?_
  unfold stE st
  refine congrArg₂ (fun x y : EReal => x + y) ?_ (Finset.sum_congr rfl fun j _ => ?_)
  · rw [hS', hD']
  · rw [k_at K V0 n hc hK, v_at W V0 n hc hW, hB']

include hc hQ hK hW hM hM' hA hA' hS in
/-- The chunk's rows. -/
theorem rows_step (O : FVec Ideal S32x8x64x4x256 .f32) (hO : V0 (Proc.devRef .tc main_v136_9) = O)
    (hS' : ∀ b h d e, S (ix4 b h d e) = stE K W b h n.val d e) (N : Fin 32) (b : Fin 8) (i : Fin 64) (h : Fin 4) (e : Fin 256) :
    (step_main_v136_9 V0 : FVec Ideal S32x8x64x4x256 .f32) (ix5 N b i h e) = if N = n then attE Q K W b h n.val i e else O (ix5 N b i h e) := by
  have hr : ∀ (b : Fin 8) (i : Fin 64) (h : Fin 4) (e : Fin 256), _ = attE Q K W b h n.val i e := fun b i h e =>
    (rows_pure M A (res_main_while0b_v158 V0) (res_main_while0b_v159 V0) (res_main_while0b_v160 V0) S b i h e).trans (by
      unfold attE att
      refine congrArg₂ (fun x y : EReal => x + y) (Finset.sum_congr rfl fun j _ => ?_) (Finset.sum_congr rfl fun d _ => ?_)
      · rw [v_at W V0 n hc hW, mul_comm, hM']
        refine congrArg (fun x : EReal => x * _ * _) (Finset.sum_congr rfl fun d _ => ?_)
        rw [q_at Q V0 n hc hQ, k_at K V0 n hc hK]
      · rw [hS', q_at Q V0 n hc hQ, hA', mul_comm])
  unfold step_main_v136_9
  rw [hM, hS, hO, hA, id_eq]
  refine (put256 O _ _ n (start_at V0 n hc) N b i h e).trans ?_
  rw [hr b i h e]

end Step

end Cert.RetTie

end
-- ==== Proof.RetRefEntry.lean ====
/-
  The queries and keys the retention reference's scan is entered with, at exact arithmetic.
-/
module

public import proofs.«01_k».proof.Proof.RetRefStep

@[expose] public section

set_option maxRecDepth 16384

noncomputable section

namespace Cert.RetTie

open Idealize.ShloMosaic Idealize.ShloMosaic.TcCoe Idealize.SL.Sem Idealize.ShloMosaic.Pipeline Idealize.ShloMosaic.StableHlo
open Cert.RetRefIdeal Cert.RetRefIdeal.Value Cert.RetRefIdeal.Gen

/-- Frequencies up to the last, and the last. -/
def cat128 (a : FVec Ideal S127 .f32) (b : FVec Ideal S1 .f32) : FVec Ideal S128 .f32 := concatenate S128 0 [⟨S127, a⟩, ⟨S1, b⟩] concatenates_S127_S1_S128_d0

/-- It is the concatenation. -/
theorem cat128_eq (a : FVec Ideal S127 .f32) (b : FVec Ideal S1 .f32) : concatenate S128 0 [⟨S127, a⟩, ⟨S1, b⟩] concatenates_S127_S1_S128_d0 = cat128 a b := rfl

/-- The pairs' members, one next to the other. -/
def cat2 (a b : FVec Ideal S8x2048x4x128x1 .f32) : FVec Ideal S8x2048x4x128x2 .f32 := concatenate S8x2048x4x128x2 4 [⟨S8x2048x4x128x1, a⟩, ⟨S8x2048x4x128x1, b⟩] concatenates_S8x2048x4x128x1_S8x2048x4x128x1_S8x2048x4x128x2_d4

/-- It is the concatenation. -/
theorem cat2_eq (a b : FVec Ideal S8x2048x4x128x1 .f32) : concatenate S8x2048x4x128x2 4 [⟨S8x2048x4x128x1, a⟩, ⟨S8x2048x4x128x1, b⟩] concatenates_S8x2048x4x128x1_S8x2048x4x128x1_S8x2048x4x128x2_d4 = cat2 a b := rfl

/-- The member of a pair at an even place is the first, at an odd place the second. -/
theorem cat2_at (a b : FVec Ideal S8x2048x4x128x1 .f32) (x : Fin 8) (r : Fin 2048) (h : Fin 4) (p : Fin 128) (o : Fin 2) :
    cat2 a b (ix5 x r h p o) = if o.val = 0 then a (ix5 x r h p 0) else b (ix5 x r h p 0) := by
  unfold cat2
  pointwise
  by_cases ho : o.val = 0
  · rw [dif_pos (by omega), if_pos ho]
    exact congrArg a (congrArg (ix5 x r h p) (Fin.ext ho))
  · rw [dif_neg (by omega), if_neg ho]
    exact congrArg b (congrArg (ix5 x r h p) (Fin.ext (by dsimp only; omega)))

/-- A row's number. -/
theorem row_num (i : Fin 64) : FloatOps.sitofp (F := Ideal) FTy.f32 (BitVec.ofNat 32 i.val) = ((i.val : ℝ) : EReal) := row_val ⟨i.val, by omega⟩

/-- Sixty-four. -/
theorem c64 : Ideal.ofBits .f32 1115684864#32 = (((64 : ℕ) : ℝ) : EReal) := by
  simp [Ideal.ofBits, Ideal.ieee, -EReal.coe_mul]; norm_num

/-- Sixty-three. -/
theorem c63 : Ideal.ofBits .f32 1115422720#32 = ((((64 : ℕ) : ℝ) - 1 : ℝ) : EReal) := by
  have h : Ideal.ofBits .f32 1115422720#32 = ((63 : ℝ) : EReal) := by
    simp [Ideal.ofBits, Ideal.ieee, -EReal.coe_mul]; norm_num
  rw [h]
  exact congrArg _ (by norm_num)

/-- The halves of each head back to the pairs. -/
theorem pairs_pure (Y : FVec Ideal S8x2048x1024 .f32) (b : Fin 8) (r : Fin 2048) (h : Fin 4) (d : Fin 256) :
    (shapeCast S8x2048x4x256 (transpose S8x2048x4x128x2 [0, 1, 2, 4, 3] (shapeCast S8x2048x4x2x128 Y shapeCasts_S8x2048x1024_S8x2048x4x2x128) transposes_S8x2048x4x2x128_S8x2048x4x128x2_0_1_2_4_3) shapeCasts_S8x2048x4x128x2_S8x2048x4x256 : FVec Ideal S8x2048x4x256 .f32) (ix4 b r h d)
      = Y (ix3 b r ⟨256 * h.val + (pair d).val, by omega⟩) := by
  pointwise
  refine congrArg Y (congrArg (ix3 b r) (Fin.ext ?_))
  unfold pair
  dsimp only
  omega

/-- The first members of the pairs. -/
theorem first_pure (W : FVec Ideal S8x2048x4x256 .f32) (b : Fin 8) (r : Fin 2048) (h : Fin 4) (p : Fin 128) :
    (shapeCast S8x2048x4x128 (extractStridedSlice S8x2048x4x128x1 ![0, 0, 0, 0, 0] (shapeCast S8x2048x4x128x2 W shapeCasts_S8x2048x4x256_S8x2048x4x128x2) slices_S8x2048x4x128x2_S8x2048x4x128x1_0_0_0_0_0) shapeCasts_S8x2048x4x128x1_S8x2048x4x128 : FVec Ideal S8x2048x4x128 .f32) (ix4 b r h p)
      = W (ix4 b r h ⟨2 * p.val, by omega⟩) := by
  pointwise
  refine congrArg W (congrArg (ix4 b r h) (Fin.ext ?_))
  dsimp only
  omega

/-- The second members. -/
theorem second_pure (W : FVec Ideal S8x2048x4x256 .f32) (b : Fin 8) (r : Fin 2048) (h : Fin 4) (p : Fin 128) :
    (shapeCast S8x2048x4x128 (extractStridedSlice S8x2048x4x128x1 ![0, 0, 0, 0, 1] (shapeCast S8x2048x4x128x2 W shapeCasts_S8x2048x4x256_S8x2048x4x128x2) slices_S8x2048x4x128x2_S8x2048x4x128x1_0_0_0_0_1) shapeCasts_S8x2048x4x128x1_S8x2048x4x128 : FVec Ideal S8x2048x4x128 .f32) (ix4 b r h p)
      = W (ix4 b r h ⟨2 * p.val + 1, by omega⟩) := by
  pointwise
  refine congrArg W (congrArg (ix4 b r h) (Fin.ext ?_))
  dsimp only
  omega

/-- The rows cut into chunks of 64. -/
theorem chunks_pure (W : FVec Ideal S8x2048x4x256 .f32) (n : Fin 32) (b : Fin 8) (j : Fin 64) (h : Fin 4) (d : Fin 256) :
    (transpose S32x8x64x4x256 [1, 0, 2, 3, 4] (shapeCast S8x32x64x4x256 W shapeCasts_S8x2048x4x256_S8x32x64x4x256) transposes_S8x32x64x4x256_S32x8x64x4x256_1_0_2_3_4 : FVec Ideal S32x8x64x4x256 .f32) (ix5 n b j h d)
      = W (ix4 b ⟨64 * n.val + j.val, by omega⟩ h d) := by
  pointwise
  refine congrArg W (congrArg (fun r => ix4 b r h d) (Fin.ext ?_))
  dsimp only
  omega

/-- The pairs turned by the angles, one pair after the other. -/
def turned (E O : FVec Ideal S8x2048x4x128 .f32) (T : FVec Ideal S8x2048x128 .f32) : FVec Ideal S8x2048x4x256 .f32 :=
  shapeCast S8x2048x4x256 (cat2
      (broadcastInDim S8x2048x4x128x1 ![0, 1, 2, 3] bcast_S8x2048x4x128_S8x2048x4x128x1_0_1_2_3 (subf
        (mulf E (broadcastInDim S8x2048x4x128 ![0, 1, 2, 3] bcast_S8x2048x1x128_S8x2048x4x128_0_1_2_3 (broadcastInDim S8x2048x1x128 ![0, 1, 3] bcast_S8x2048x128_S8x2048x1x128_0_1_3 (Host.cos T))))
        (mulf O (broadcastInDim S8x2048x4x128 ![0, 1, 2, 3] bcast_S8x2048x1x128_S8x2048x4x128_0_1_2_3 (broadcastInDim S8x2048x1x128 ![0, 1, 3] bcast_S8x2048x128_S8x2048x1x128_0_1_3 (Host.sin T))))))
      (broadcastInDim S8x2048x4x128x1 ![0, 1, 2, 3] bcast_S8x2048x4x128_S8x2048x4x128x1_0_1_2_3 (addf
        (mulf E (broadcastInDim S8x2048x4x128 ![0, 1, 2, 3] bcast_S8x2048x1x128_S8x2048x4x128_0_1_2_3 (broadcastInDim S8x2048x1x128 ![0, 1, 3] bcast_S8x2048x128_S8x2048x1x128_0_1_3 (Host.sin T))))
        (mulf O (broadcastInDim S8x2048x4x128 ![0, 1, 2, 3] bcast_S8x2048x1x128_S8x2048x4x128_0_1_2_3 (broadcastInDim S8x2048x1x128 ![0, 1, 3] bcast_S8x2048x128_S8x2048x1x128_0_1_3 (Host.cos T))))))) shapeCasts_S8x2048x4x128x2_S8x2048x4x256

/-- The turned pairs, entry by entry. -/
theorem turned_at (E O : FVec Ideal S8x2048x4x128 .f32) (T : FVec Ideal S8x2048x128 .f32) (b : Fin 8) (r : Fin 2048) (h : Fin 4) (d : Fin 256) :
    (turned E O T (ix4 b r h d) : EReal)
      = if d.val % 2 = 0 then E (ix4 b r h ⟨d.val / 2, by omega⟩) * Ideal.cos (T (ix3 b r ⟨d.val / 2, by omega⟩)) - O (ix4 b r h ⟨d.val / 2, by omega⟩) * Ideal.sin (T (ix3 b r ⟨d.val / 2, by omega⟩))
        else E (ix4 b r h ⟨d.val / 2, by omega⟩) * Ideal.sin (T (ix3 b r ⟨d.val / 2, by omega⟩)) + O (ix4 b r h ⟨d.val / 2, by omega⟩) * Ideal.cos (T (ix3 b r ⟨d.val / 2, by omega⟩)) := by
  unfold turned
  pointwise
  simp only [cat2_at]
  pointwise

/-- They are the rotation of the head. -/
theorem turned_rot (E O : FVec Ideal S8x2048x4x128 .f32) (T : FVec Ideal S8x2048x128 .f32) (b : Fin 8) (r : Fin 2048) (h : Fin 4) (d : Fin 256)
    (x : Fin 256 → EReal) (a : Fin 128 → EReal) (hE : ∀ p : Fin 128, (E (ix4 b r h p) : EReal) = x ⟨p.val, by omega⟩)
    (hO : ∀ p : Fin 128, (O (ix4 b r h p) : EReal) = x ⟨128 + p.val, by omega⟩) (hT : ∀ p : Fin 128, (T (ix3 b r p) : EReal) = a p) :
    (turned E O T (ix4 b r h d) : EReal) = rot x a (pair d) := by
  rw [turned_at]
  simp only [hE, hO, hT]
  unfold rot
  by_cases hd : d.val % 2 = 0
  · have hp : (pair d).val = d.val / 2 := by unfold pair; dsimp only; omega
    rw [if_pos hd, dif_pos (by omega)]
    simp only [hp]
  · have hp : (pair d).val = 128 + d.val / 2 := by unfold pair; dsimp only; omega
    have hp' : 128 + d.val / 2 - 128 = d.val / 2 := by omega
    rw [if_neg hd, dif_neg (by omega)]
    simp only [hp, hp']

variable (m : (ℓ : Loc nD τ sig) → Buf (Elt Ideal) ℓ) (c : Dev nD)

set_option maxHeartbeats 2000000 in
/-- The queries the scan is entered with. -/
theorem entry_q (n : Fin 32) (b : Fin 8) (j : Fin 64) (h : Fin 4) (d : Fin 256) :
    (entryContents preI m c (Proc.devRef .tc main_v136_0) : FVec Ideal S32x8x64x4x256 .f32) (ix5 n b j h d)
      = qOf (m ((c.tc : Thread nD τ).loc main_arg0)) (m ((c.tc : Thread nD τ).loc main_arg1)) b h ⟨64 * n.val + j.val, by omega⟩ (pair d) := by
  simp only [entryContents, preI, afterL_cons, afterL_nil]
  after_reads_simp
  rw [id_eq]
  simp only [cat2_eq]
  after_reads_simp
  simp only [TRef.toBuf, TRef.ofBuf, cast_eq, cat128_eq]
  after_reads_simp
  simp only [TRef.toBuf, TRef.ofBuf, cast_eq, id_eq]
  generalize hF : Host.divf (broadcastInDim S128 ![] bcast_S_S128 (constant (F := Ideal) S_ .f32 0x3F800000#32)) _ = F
  have hF' : ∀ p : Fin 128, (F (ix1 p) : EReal) = inv p := fun p => by
    rw [← hF]
    pointwise [cat128]
    unfold inv
    split <;> rfl
  clear hF
  generalize hT : (mulf _ _ : FVec Ideal S8x2048x128 .f32) = T
  have hT' : ∀ (r : Fin 2048) (p : Fin 128), (T (ix3 b r p) : EReal) = angOf (m ((c.tc : Thread nD τ).loc main_arg1)) b r p := fun r p => by
    rw [← hT]
    pointwise
    rw [hF']
    rfl
  clear hT
  refine (chunks_pure _ n b j h d).trans ?_
  unfold qOf
  refine turned_rot _ _ T b _ h d _ _ (fun p => (first_pure _ b _ h p).trans ((pairs_pure _ b _ h _).trans ?_)) (fun p => (second_pure _ b _ h p).trans ((pairs_pure _ b _ h _).trans ?_)) (hT' _)
  · unfold pair row
    pointwise
    refine congrArg _ (congrArg₂ ix2 (Fin.ext ?_) (Fin.ext ?_)) <;> dsimp only <;> omega
  · unfold pair row
    pointwise
    refine congrArg _ (congrArg₂ ix2 (Fin.ext ?_) (Fin.ext ?_)) <;> dsimp only <;> omega

set_option maxHeartbeats 2000000 in
/-- The keys. -/
theorem entry_k (n : Fin 32) (b : Fin 8) (j : Fin 64) (h : Fin 4) (d : Fin 256) :
    (entryContents preI m c (Proc.devRef .tc main_v136_1) : FVec Ideal S32x8x64x4x256 .f32) (ix5 n b j h d)
      = kOf (m ((c.tc : Thread nD τ).loc main_arg0)) (m ((c.tc : Thread nD τ).loc main_arg1)) b h ⟨64 * n.val + j.val, by omega⟩ (pair d) := by
  simp only [entryContents, preI, afterL_cons, afterL_nil]
  after_reads_simp
  rw [id_eq]
  simp only [cat2_eq]
  after_reads_simp
  simp only [TRef.toBuf, TRef.ofBuf, cast_eq, cat128_eq]
  after_reads_simp
  simp only [TRef.toBuf, TRef.ofBuf, cast_eq, id_eq]
  generalize hF : Host.divf (broadcastInDim S128 ![] bcast_S_S128 (constant (F := Ideal) S_ .f32 0x3F800000#32)) _ = F
  have hF' : ∀ p : Fin 128, (F (ix1 p) : EReal) = inv p := fun p => by
    rw [← hF]
    pointwise [cat128]
    unfold inv
    split <;> rfl
  clear hF
  generalize hT : (mulf _ _ : FVec Ideal S8x2048x128 .f32) = T
  have hT' : ∀ (r : Fin 2048) (p : Fin 128), (T (ix3 b r p) : EReal) = angOf (m ((c.tc : Thread nD τ).loc main_arg1)) b r p := fun r p => by
    rw [← hT]
    pointwise
    rw [hF']
    rfl
  clear hT
  refine (chunks_pure _ n b j h d).trans ?_
  unfold kOf
  refine congrArg (fun x : EReal => x * Ideal.ofBits .f32 0x3D800000#32) ?_
  refine turned_rot _ _ T b _ h d _ _ (fun p => (first_pure _ b _ h p).trans ((pairs_pure _ b _ h _).trans ?_)) (fun p => (second_pure _ b _ h p).trans ((pairs_pure _ b _ h _).trans ?_)) (hT' _)
  · unfold pair row
    pointwise
    refine congrArg _ (congrArg₂ ix2 (Fin.ext ?_) (Fin.ext ?_)) <;> dsimp only <;> omega
  · unfold pair row
    pointwise
    refine congrArg _ (congrArg₂ ix2 (Fin.ext ?_) (Fin.ext ?_)) <;> dsimp only <;> omega

end Cert.RetTie

end
-- ==== Proof.RetRefValue.lean ====
/-
  The other arrays the retention reference's scan is entered with, and what the scan holds after any
  number of chunks, at exact arithmetic.
-/
module

public import proofs.«01_k».proof.Proof.RetRefEntry

@[expose] public section

set_option maxRecDepth 16384

noncomputable section

namespace Cert.RetTie

open Idealize.ShloMosaic Idealize.ShloMosaic.TcCoe Idealize.SL.Sem Idealize.ShloMosaic.Pipeline Idealize.ShloMosaic.StableHlo
open Cert.RetRefIdeal Cert.RetRefIdeal.Value Cert.RetRefIdeal.Gen

variable (m : (ℓ : Loc nD τ sig) → Buf (Elt Ideal) ℓ) (c : Dev nD)

set_option maxHeartbeats 2000000 in
/-- The values. -/
theorem entry_v (n : Fin 32) (b : Fin 8) (j : Fin 64) (h : Fin 4) (d : Fin 256) :
    (entryContents preI m c (Proc.devRef .tc main_v136_2) : FVec Ideal S32x8x64x4x256 .f32) (ix5 n b j h d)
      = vOf (m ((c.tc : Thread nD τ).loc main_arg0)) b h ⟨64 * n.val + j.val, by omega⟩ d := by
  unfold vOf row
  simp only [entryContents, preI, afterL_cons, afterL_nil]
  after_reads_simp
  rw [id_eq]
  pointwise
  refine (congrArg _ (congrArg₂ ix2 (Fin.ext ?_) (Fin.ext ?_))) <;> dsimp only <;> omega

set_option maxHeartbeats 2000000 in
/-- How much of the state a chunk keeps. -/
theorem entry_D (h : Fin 4) : (entryContents preI m c (Proc.devRef .tc main_v136_5) : FVec Ideal S4 .f32) (ix1 h) = Ideal.exp ((((64 : ℕ) : ℝ) : EReal) * lgam h) := by
  simp only [entryContents, preI, afterL_cons, afterL_nil]
  after_reads_simp
  rw [id_eq]
  pointwise
  rw [c64]
  rfl

set_option maxHeartbeats 2000000 in
/-- How much of the state before the chunk a row sees. -/
theorem entry_A (i : Fin 64) (h : Fin 4) : (entryContents preI m c (Proc.devRef .tc main_v136_4) : FVec Ideal S64x4 .f32) (ix2 i h) = Ideal.exp ((((i.val : ℝ) + 1 : ℝ) : EReal) * lgam h) := by
  simp only [entryContents, preI, afterL_cons, afterL_nil]
  after_reads_simp
  rw [id_eq]
  pointwise
  rw [row_num, EReal.coe_add]
  rfl

set_option maxHeartbeats 2000000 in
/-- How much of a row the state after the chunk keeps. -/
theorem entry_B (j : Fin 64) (h : Fin 4) : (entryContents preI m c (Proc.devRef .tc main_v136_6) : FVec Ideal S64x4 .f32) (ix2 j h) = Ideal.exp (((((64 : ℕ) : ℝ) - 1 - (j.val : ℝ) : ℝ) : EReal) * lgam h) := by
  simp only [entryContents, preI, afterL_cons, afterL_nil]
  after_reads_simp
  rw [id_eq]
  pointwise
  rw [row_num, c63, ← EReal.coe_sub]
  rfl

set_option maxHeartbeats 2000000 in
/-- How much of row `j` row `i` of the same chunk sees. -/
theorem entry_M (h : Fin 4) (i j : Fin 64) : (entryContents preI m c (Proc.devRef .tc main_v136_3) : FVec Ideal S4x64x64 .f32) (ix3 h i j)
    = if j ≤ i then Ideal.exp ((((i.val : ℝ) - (j.val : ℝ) : ℝ) : EReal) * lgam h) else (0 : EReal) := by
  simp only [entryContents, preI, afterL_cons, afterL_nil]
  after_reads_simp
  simp only [TRef.toBuf, TRef.ofBuf, cast_eq, id_eq]
  pointwise
  rw [row_num, row_num, ← EReal.coe_sub]
  by_cases hij : j ≤ i
  · have h0 : (0 : EReal) ≤ (((i.val : ℝ) - (j.val : ℝ) : ℝ) : EReal) := by
      rw [← EReal.coe_zero, EReal.coe_le_coe_iff, sub_nonneg]
      exact_mod_cast hij
    rw [if_pos h0, if_pos hij, max_eq_left h0]
    rfl
  · have h0 : ¬ (0 : EReal) ≤ (((i.val : ℝ) - (j.val : ℝ) : ℝ) : EReal) := by
      rw [← EReal.coe_zero, EReal.coe_le_coe_iff, sub_nonneg]
      exact_mod_cast hij
    rw [if_neg h0, if_neg hij]

set_option maxHeartbeats 2000000 in
/-- The state starts at zero. -/
theorem entry_state (b : Fin 8) (h : Fin 4) (d e : Fin 256) :
    (entryContents preI m c (Proc.devRef .tc main_v136_8) : FVec Ideal S8x4x256x256 .f32) (ix4 b h d e) = (0 : EReal) := by
  simp only [entryContents, preI, afterL_cons, afterL_nil]
  after_reads_simp
  rw [id_eq]
  pointwise

/-- One chunk on: the scan's arrays after trip `k` are one step from those before. -/
theorem trip_step (k : ℕ) : Agree (atK m (k + 1) c) (STEP (atK m k c)) := trip_agree (atK m k c)

section Scan

/-- The chunks of the queries that the scan reads. -/
abbrev eQ : FVec Ideal S32x8x64x4x256 .f32 := entryContents preI m c (Proc.devRef .tc main_v136_0)
/-- Those of the keys. -/
abbrev eK : FVec Ideal S32x8x64x4x256 .f32 := entryContents preI m c (Proc.devRef .tc main_v136_1)
/-- Those of the values. -/
abbrev eW : FVec Ideal S32x8x64x4x256 .f32 := entryContents preI m c (Proc.devRef .tc main_v136_2)

/-- What the scan only reads stays; the state is the recurrence's; the rows of the chunks done are the retention's. -/
theorem scan (k : ℕ) (hk : k ≤ 32) :
    atK m k c (Proc.devRef .tc main_v136_0) = eQ m c ∧ atK m k c (Proc.devRef .tc main_v136_1) = eK m c ∧ atK m k c (Proc.devRef .tc main_v136_2) = eW m c
    ∧ atK m k c (Proc.devRef .tc main_v136_3) = entryContents preI m c (Proc.devRef .tc main_v136_3) ∧ atK m k c (Proc.devRef .tc main_v136_4) = entryContents preI m c (Proc.devRef .tc main_v136_4)
    ∧ atK m k c (Proc.devRef .tc main_v136_5) = entryContents preI m c (Proc.devRef .tc main_v136_5) ∧ atK m k c (Proc.devRef .tc main_v136_6) = entryContents preI m c (Proc.devRef .tc main_v136_6)
    ∧ (∀ b h d e, (atK m k c (Proc.devRef .tc main_v136_8) : FVec Ideal S8x4x256x256 .f32) (ix4 b h d e) = stE (eK m c) (eW m c) b h k d e)
    ∧ (∀ (N : Fin 32) b i h e, N.val < k → (atK m k c (Proc.devRef .tc main_v136_9) : FVec Ideal S32x8x64x4x256 .f32) (ix5 N b i h e) = attE (eQ m c) (eK m c) (eW m c) b h N.val i e) := by
  induction k with
  | zero => exact ⟨rfl, rfl, rfl, rfl, rfl, rfl, rfl, fun b h d e => entry_state m c b h d e, fun _ _ _ _ _ h => absurd h (Nat.not_lt_zero _)⟩
  | succ k ih =>
    obtain ⟨hQ, hK, hW, hM, hA, hD, hB, hS, hO⟩ := ih (by omega)
    have hc : atK m k c (Proc.devRef .tc main_v136_7) = fun _ => BitVec.ofNat 32 (⟨k, by omega⟩ : Fin 32).val := by
      rw [atK_ctr]
      funext _
      exact (by decide +kernel : ∀ k : Fin 32, Scf.iv 0#32 1#32 k.val = BitVec.ofNat 32 k.val) ⟨k, by omega⟩
    have hs := trip_step m c k
    refine ⟨?_, ?_, ?_, ?_, ?_, ?_, ?_, fun b h d e => ?_, fun N b i h e hN => ?_⟩
    · rw [hs main_v136_0 (by decide), STEP_main_v136_0, hQ]
    · rw [hs main_v136_1 (by decide), STEP_main_v136_1, hK]
    · rw [hs main_v136_2 (by decide), STEP_main_v136_2, hW]
    · rw [hs main_v136_3 (by decide), STEP_main_v136_3, hM]
    · rw [hs main_v136_4 (by decide), STEP_main_v136_4, hA]
    · rw [hs main_v136_5 (by decide), STEP_main_v136_5, hD]
    · rw [hs main_v136_6 (by decide), STEP_main_v136_6, hB]
    · rw [hs main_v136_8 (by decide), STEP_main_v136_8]
      exact state_step (eK m c) (eW m c) _ ⟨k, by omega⟩ hc hK hW _ hD (entry_D m c) _ hB (entry_B m c) _ rfl hS b h d e
    · rw [hs main_v136_9 (by decide), STEP_main_v136_9]
      refine (rows_step (eQ m c) (eK m c) (eW m c) _ ⟨k, by omega⟩ hc hQ hK hW _ hM (entry_M m c) _ hA (entry_A m c) _ rfl _ rfl hS N b i h e).trans ?_
      by_cases hNk : N = (⟨k, by omega⟩ : Fin 32)
      · rw [if_pos hNk, hNk]
      · rw [if_neg hNk]
        exact hO N b i h e (by have : N.val ≠ k := fun h => hNk (Fin.ext h); omega)

end Scan

end Cert.RetTie

end
-- ==== Proof.RetReference.lean ====
/-
  The retention reference's run: its result is the retention of its arguments, head by head, and its
  arguments are left as they were; with finite heads it is the kernel's result.
-/
module

public import proofs.«01_k».proof.Proof.RetRefValue
public import Idealize.ShloMosaic.Lib.Quiescent

@[expose] public section

set_option maxRecDepth 16384

noncomputable section

namespace Cert.RetTie

open Idealize.ShloMosaic Idealize.ShloMosaic.TcCoe Idealize.SL.Sem Idealize.ShloMosaic.Pipeline Idealize.ShloMosaic.StableHlo
open Cert.RetRefIdeal Cert.RetRefIdeal.Value Cert.RetRefIdeal.Gen

set_option maxHeartbeats 2000000 in
/-- What follows the scan: the collected rows normalised over each head, weighted and gated. -/
theorem post_value (X : Valuation τ sig (Elt Ideal)) (O : FVec Ideal S32x8x64x4x256 .f32) (hO : X (Proc.devRef .tc main_v136_9) = O)
    (w : FVec Ideal S1024 .f32) (hw : X (Proc.devRef .tc main_arg2) = w) (g : FVec Ideal S8x2048x1024 .f32) (hg : X (Proc.devRef .tc main_v5) = g)
    (I : Fin 16384) (C : Fin 1024) :
    (afterL postI X (Proc.devRef .tc main_v157) : FVec Ideal S16384x1024 .bf16) (ix2 I C)
      = gated (fun e => O (ix5 ⟨I.val % 2048 / 64, by omega⟩ ⟨I.val / 2048, by omega⟩ ⟨I.val % 2048 % 64, by omega⟩ ⟨C.val / 256, by omega⟩ e)) (w (ix1 C))
          (g (ix3 ⟨I.val / 2048, by omega⟩ ⟨I.val % 2048, by omega⟩ C)) ⟨C.val % 256, by omega⟩ := by
  unfold gated
  simp only [postI, afterL_cons, afterL_nil]
  after_reads_simp
  simp only [TRef.toBuf, TRef.ofBuf, cast_eq, hO, hw, hg]
  pointwise
  have hC : ∀ p : C.val / 256 * 256 + C.val % 256 < 1024, (⟨C.val / 256 * 256 + C.val % 256, p⟩ : Fin 1024) = C := fun p => Fin.ext (by dsimp only; omega)
  simp only [hC]
  rfl

variable (m : (ℓ : Loc nD τ sig) → Buf (Elt Ideal) ℓ) (c : Dev nD)

/-- A buffer no operation of the scan writes holds what it held at the scan's entry. -/
theorem atK_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (k : ℕ) :
    atK m k c (Proc.devRef .tc r) = entryContents preI m c (Proc.devRef .tc r) := by
  induction k with
  | zero => rfl
  | succ k ih =>
    rw [show atK m (k + 1) c = afterL bodyI (after condOps (atK m k c)) from rfl]
    simp only [bodyI, afterL_cons, afterL_nil]
    rw [after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, ih]
    rfl

set_option maxHeartbeats 2000000 in
/-- The output gate the arguments hold. -/
theorem entry_gate (b : Fin 8) (r : Fin 2048) (C : Fin 1024) :
    (entryContents preI m c (Proc.devRef .tc main_v5) : FVec Ideal S8x2048x1024 .f32) (ix3 b r C)
      = (m ((c.tc : Thread nD τ).loc main_arg0) : FVec Ideal S16384x7168 .bf16) (ix2 (row b r) ⟨3072 + C.val, by omega⟩) := by
  unfold row
  simp only [entryContents, preI, afterL_cons, afterL_nil]
  after_reads_simp
  pointwise
  refine congrArg _ (congrArg₂ ix2 (Fin.ext ?_) (Fin.ext ?_)) <;> dsimp only <;> omega

/-- A row is row `r % 64` of chunk `r / 64`. -/
theorem row_split (r : Fin 2048) (p : 64 * (r.val / 64) + r.val % 64 < 2048) : (⟨64 * (r.val / 64) + r.val % 64, p⟩ : Fin 2048) = r := Fin.ext (by dsimp only; omega)

/-- An argument is as it was at launch when the scan ends. -/
theorem atK_arg (r : Ref sig .tc) (hk : ∀ k, atK m k c (Proc.devRef .tc r) = entryContents preI m c (Proc.devRef .tc r))
    (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (hc : r ∉ condOps_W) :
    after condOps (atK m 32 c) (Proc.devRef .tc r) = m ((c.tc : Thread nD τ).loc r) := by
  rw [after_of_writes_sub condOps _ condOps_writes hc, hk 32]
  simp only [entryContents, preI, afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1, after_of_writes_sub hostOps0 _ hostOps0_writes h0]

/-- Argument 0 is as it was when the scan ends. -/
theorem arg0_scan : after condOps (atK m 32 c) (Proc.devRef .tc main_arg0) = m ((c.tc : Thread nD τ).loc main_arg0) :=
  atK_arg m c main_arg0 (atK_keep m c main_arg0 (by decide +kernel) (by decide +kernel) (by decide +kernel) (by decide +kernel) (by decide +kernel) (by decide +kernel) (by decide +kernel)) (by decide +kernel) (by decide +kernel) (by decide +kernel) (by decide +kernel) (by decide +kernel) (by decide +kernel) (by decide +kernel) (by decide +kernel)

/-- And at the end. -/
theorem arg0_end : finalContents condOps preI bodyI postI 32 m c (Proc.devRef .tc main_arg0) = m ((c.tc : Thread nD τ).loc main_arg0) := by
  refine Eq.trans ?_ (arg0_scan m c)
  show afterL postI (after condOps (atK m 32 c)) _ = _
  generalize after condOps (atK m 32 c) = X
  simp only [postI, afterL_cons, afterL_nil]
  after_reads_simp

/-- Argument 1 is as it was when the scan ends. -/
theorem arg1_scan : after condOps (atK m 32 c) (Proc.devRef .tc main_arg1) = m ((c.tc : Thread nD τ).loc main_arg1) :=
  atK_arg m c main_arg1 (atK_keep m c main_arg1 (by decide +kernel) (by decide +kernel) (by decide +kernel) (by decide +kernel) (by decide +kernel) (by decide +kernel) (by decide +kernel)) (by decide +kernel) (by decide +kernel) (by decide +kernel) (by decide +kernel) (by decide +kernel) (by decide +kernel) (by decide +kernel) (by decide +kernel)

/-- And at the end. -/
theorem arg1_end : finalContents condOps preI bodyI postI 32 m c (Proc.devRef .tc main_arg1) = m ((c.tc : Thread nD τ).loc main_arg1) := by
  refine Eq.trans ?_ (arg1_scan m c)
  show afterL postI (after condOps (atK m 32 c)) _ = _
  generalize after condOps (atK m 32 c) = X
  simp only [postI, afterL_cons, afterL_nil]
  after_reads_simp

/-- Argument 2 is as it was when the scan ends. -/
theorem arg2_scan : after condOps (atK m 32 c) (Proc.devRef .tc main_arg2) = m ((c.tc : Thread nD τ).loc main_arg2) :=
  atK_arg m c main_arg2 (atK_keep m c main_arg2 (by decide +kernel) (by decide +kernel) (by decide +kernel) (by decide +kernel) (by decide +kernel) (by decide +kernel) (by decide +kernel)) (by decide +kernel) (by decide +kernel) (by decide +kernel) (by decide +kernel) (by decide +kernel) (by decide +kernel) (by decide +kernel) (by decide +kernel)

/-- And at the end. -/
theorem arg2_end : finalContents condOps preI bodyI postI 32 m c (Proc.devRef .tc main_arg2) = m ((c.tc : Thread nD τ).loc main_arg2) := by
  refine Eq.trans ?_ (arg2_scan m c)
  show afterL postI (after condOps (atK m 32 c)) _ = _
  generalize after condOps (atK m 32 c) = X
  simp only [postI, afterL_cons, afterL_nil]
  after_reads_simp

/-- The scan's queries, head by head. -/
theorem unchunk_q (b : Fin 8) (h : Fin 4) : unchunk (five (eQ m c)) b h = fun r d => qOf (m ((c.tc : Thread nD τ).loc main_arg0)) (m ((c.tc : Thread nD τ).loc main_arg1)) b h r (pair d) := by
  funext r d
  exact (entry_q m c _ b _ h d).trans (by rw [row_split])

/-- The scan's keys, head by head. -/
theorem unchunk_k (b : Fin 8) (h : Fin 4) : unchunk (five (eK m c)) b h = fun r d => kOf (m ((c.tc : Thread nD τ).loc main_arg0)) (m ((c.tc : Thread nD τ).loc main_arg1)) b h r (pair d) := by
  funext r d
  exact (entry_k m c _ b _ h d).trans (by rw [row_split])

/-- The scan's values, head by head. -/
theorem unchunk_v (b : Fin 8) (h : Fin 4) : unchunk (five (eW m c)) b h = vOf (m ((c.tc : Thread nD τ).loc main_arg0)) b h := by
  funext r d
  exact (entry_v m c _ b _ h d).trans (by rw [row_split])

/-- One element of the reference's result: retention in chunks of 64 rows with a pair's members next to each other. -/
def refOf (z : FVec Ideal S16384x7168 .bf16) (pos : IVec S8x2048 32) (w : FVec Ideal S1024 .f32) (b : Fin 8) (h : Fin 4) (r : Fin 2048) (e : Fin 256) : EReal :=
  gated (att 64 (lgam h) (fun r d => qOf z pos b h r (pair d)) (fun r d => kOf z pos b h r (pair d)) (vOf z b h) (r.val / 64) ⟨r.val % 64, Nat.mod_lt _ (by decide)⟩)
    (w (ix1 ⟨256 * h.val + e.val, by omega⟩)) (z (ix2 (row b r) ⟨3072 + (256 * h.val + e.val), by omega⟩)) e

/-- The reference's result. -/
def Gref (z : FVec Ideal S16384x7168 .bf16) (pos : IVec S8x2048 32) (w : FVec Ideal S1024 .f32) : FVec Ideal S16384x1024 .bf16 := fun y =>
  refOf z pos w ⟨(y 0).val / 2048, by have : (y 0).val < 16384 := (y 0).isLt; omega⟩ ⟨(y 1).val / 256, by have : (y 1).val < 1024 := (y 1).isLt; omega⟩
    ⟨(y 0).val % 2048, Nat.mod_lt _ (by decide)⟩ ⟨(y 1).val % 256, Nat.mod_lt _ (by decide)⟩

/-- The result is the retention of the arguments. -/
theorem ref_value : finalContents condOps preI bodyI postI 32 m c (Proc.devRef .tc main_v157) = Gref (m ((c.tc : Thread nD τ).loc main_arg0)) (m ((c.tc : Thread nD τ).loc main_arg1)) (m ((c.tc : Thread nD τ).loc main_arg2)) := by
  funext j
  obtain ⟨I, C, rfl⟩ : ∃ (I : Fin 16384) (C : Fin 1024), j = ix2 I C := ⟨j 0, j 1, by funext a; fin_cases a <;> rfl⟩
  refine (post_value (after condOps (atK m 32 c)) _ rfl _ (arg2_scan m c) _ rfl I C).trans ?_
  show gated _ _ _ _ = refOf (m ((c.tc : Thread nD τ).loc main_arg0)) (m ((c.tc : Thread nD τ).loc main_arg1)) (m ((c.tc : Thread nD τ).loc main_arg2)) ⟨I.val / 2048, _⟩ ⟨C.val / 256, _⟩ ⟨I.val % 2048, _⟩ ⟨C.val % 256, _⟩
  unfold refOf
  have hO : ∀ (N : Fin 32) b i h e, (after condOps (atK m 32 c) (Proc.devRef .tc main_v136_9) : FVec Ideal S32x8x64x4x256 .f32) (ix5 N b i h e)
      = att 64 (lgam h) (fun r d => qOf (m ((c.tc : Thread nD τ).loc main_arg0)) (m ((c.tc : Thread nD τ).loc main_arg1)) b h r (pair d)) (fun r d => kOf (m ((c.tc : Thread nD τ).loc main_arg0)) (m ((c.tc : Thread nD τ).loc main_arg1)) b h r (pair d)) (vOf (m ((c.tc : Thread nD τ).loc main_arg0)) b h) N.val i e := fun N b i h e => by
    rw [cond_keeps _ main_v136_9 (by decide), (scan m c 32 le_rfl).2.2.2.2.2.2.2.2 N b i h e N.isLt]
    unfold attE
    rw [unchunk_q, unchunk_k, unchunk_v]
  have hg : (after condOps (atK m 32 c) (Proc.devRef .tc main_v5) : FVec Ideal S8x2048x1024 .f32) (ix3 ⟨I.val / 2048, by omega⟩ ⟨I.val % 2048, by omega⟩ C)
      = (m ((c.tc : Thread nD τ).loc main_arg0) : FVec Ideal S16384x7168 .bf16) (ix2 (row ⟨I.val / 2048, by omega⟩ ⟨I.val % 2048, by omega⟩) ⟨3072 + C.val, by omega⟩) := by
    rw [after_of_writes_sub condOps _ condOps_writes (by decide +kernel : main_v5 ∉ condOps_W), atK_keep m c main_v5 (by decide +kernel) (by decide +kernel) (by decide +kernel) (by decide +kernel) (by decide +kernel) (by decide +kernel) (by decide +kernel) 32]
    exact entry_gate m c _ _ C
  have hC : ∀ p : 256 * (C.val / 256) + C.val % 256 < 1024, (⟨256 * (C.val / 256) + C.val % 256, p⟩ : Fin 1024) = C := fun p => Fin.ext (by dsimp only; omega)
  have hC' : ∀ p : 3072 + (256 * (C.val / 256) + C.val % 256) < 7168, (⟨3072 + (256 * (C.val / 256) + C.val % 256), p⟩ : Fin 7168) = ⟨3072 + C.val, by omega⟩ := fun p => Fin.ext (by dsimp only; omega)
  rw [hg]
  dsimp only
  rw [hC, hC']
  refine congrArg (fun o => gated o _ _ _) (funext fun e => ?_)
  exact hO _ _ _ _ e

/-- With real queries, keys and values the reference's result is the kernel's. -/
theorem Gref_eq (z : FVec Ideal S16384x7168 .bf16) (pos : IVec S8x2048 32) (w : FVec Ideal S1024 .f32)
    (hz : ∀ (i : Fin 16384) (j : Fin 3072), ∃ x : ℝ, (z (ix2 i ⟨j.val, by omega⟩) : EReal) = x) : Gref z pos w = G z pos w := by
  have ha : ∀ b r d, ∃ x : ℝ, angOf pos b r d = x := fun b r d => by
    obtain ⟨x, hx⟩ := inv_real d
    unfold angOf
    rw [hx, ← EReal.coe_mul]
    exact ⟨_, rfl⟩
  have hq : ∀ b h r d, ∃ x : ℝ, qOf z pos b h r d = x := fun b h r d => by
    unfold qOf
    exact rot_real _ _ (fun d => hz _ ⟨256 * h.val + d.val, by omega⟩) (ha b r) d
  have hk : ∀ b h r d, ∃ x : ℝ, kOf z pos b h r d = x := fun b h r d => by
    unfold kOf
    obtain ⟨x, hx⟩ := rot_real (fun d : Fin 256 => z (ix2 (row b r) ⟨1024 + (256 * h.val + d.val), by omega⟩)) (angOf pos b r)
      (fun d => hz _ ⟨1024 + (256 * h.val + d.val), by omega⟩) (ha b r) d
    have hs : Ideal.ofBits .f32 0x3D800000#32 = ((1 / 16 : ℝ) : EReal) := by
      simp [Ideal.ofBits, Ideal.ieee, -EReal.coe_mul]; norm_num
    rw [hx, hs, ← EReal.coe_mul]
    exact ⟨_, rfl⟩
  have hv : ∀ b h r d, ∃ x : ℝ, vOf z b h r d = x := fun b h r d => by
    unfold vOf
    exact hz _ ⟨2048 + (256 * h.val + d.val), by omega⟩
  funext y
  show refOf _ _ _ _ _ _ _ = headOf _ _ _ _ _ _ _
  unfold refOf headOf
  refine congrArg (fun o => gated o _ _ _) (funext fun e => ?_)
  exact (att_same _ _ _ _ (lgam_real _) (hq _ _) (hk _ _) (hv _ _) _ e).symm

variable (ρ : Dev nD → PrngReg)

/-- The run, at exact arithmetic. -/
theorem ref_run : θ_run defs (onTc (τ := τ) (main (F := Ideal))) ⟨m, fun _ => 0, ρ⟩ fun r => ∀ c : Dev nD,
      r.2.mem ((c.tc : Thread nD τ).loc main_v157) = Gref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v157 rfl).trans (ref_value m c), (h c main_arg0 rfl).trans (arg0_end m c), (h c main_arg1 rfl).trans (arg1_end m c),
    (h c main_arg2 rfl).trans (arg2_end m c)⟩) (run_fold m ρ)

/-- The reference ends with its arguments as they were and no semaphore held. -/
theorem reference_frame : Cert.quiescent_RetRefIdeal := fun m g _ =>
  (θ_run Cert.RetRefIdeal.defs _ _).mono
    (fun r h => ⟨fun c => (h c).2, Idealize.ShloMosaic.sem_eq_zero_of_no_sems (by decide) r.2⟩) (ref_run m g)

end Cert.RetTie

end
-- ==== Proof.RetAlgebraic.lean ====
/-
  The retention kernel's result is the reference's where the queries, keys and values are finite.
-/
module

public import proofs.«01_k».proof.Proof.RetReference
public import proofs.«01_k».proof.Defs

@[expose] public section

set_option maxRecDepth 16384

noncomputable section

namespace Cert.RetTie

open Idealize.ShloMosaic Idealize.ShloMosaic.TcCoe Idealize.SL.Sem

/-- What the precondition's operations take of the shapes. -/
theorem pre_facts : Cert.Pre_finite_heads.Facts where
  slices_S16384x7168_S16384x3072_0_0 := by decide
  bitsLt_bf16_f32 := by decide
  bcast_S_S16384x3072 := by decide

/-- An extended real of finite size is real. -/
theorem real_of_size (x : EReal) (h : max x (-x) < ⊤) : ∃ r : ℝ, x = r := by
  induction x using EReal.rec with
  | bot => exact absurd h (by simp)
  | coe r => exact ⟨r, rfl⟩
  | top => exact absurd h (by simp)

/-- Where the precondition holds the queries, keys and values are real. -/
theorem real_of_pre [Cert.Pre_finite_heads.Facts] (z : FVec Ideal Cert.Pre_finite_heads.S16384x7168 .bf16) (pos : IVec Cert.Pre_finite_heads.S8x2048 32) (w : FVec Ideal Cert.Pre_finite_heads.S1024 .f32)
    (hp : Cert.Pre_finite_heads.fn (F := Ideal) z pos w = fun _ => 1#1) (i : Fin 16384) (j : Fin 3072) : ∃ x : ℝ, (z (ix2 i ⟨j.val, by omega⟩) : EReal) = x := by
  have h := congrFun hp (ix2 i j)
  refine real_of_size _ ?_
  by_contra hn
  refine absurd h ?_
  unfold Cert.Pre_finite_heads.fn
  pointwise
  have ht : Ideal.ofBits .f32 2139095040#32 = (⊤ : EReal) := by
    simp [Ideal.ofBits, Ideal.ieee]
  rw [ht, decide_eq_false (show ¬ FloatOps.absf (F := Ideal) (φ := .f32) (z (ix2 i ⟨j.val, _⟩)) < (⊤ : EReal) from hn)]
  decide

/-- The kernel and the reference hold the same array on the same arguments, where the queries, keys and values are finite. -/
theorem algebraic [Cert.Pre_finite_heads.Facts] : Cert.algebraic_RetIdeal_RetRefIdeal_pre_finite_heads := by
  pair_intro
  · run_from Cert.RetTie.run_value m g
  · run_from Cert.RetTie.ref_run m' g'
    exact Gref_eq _ _ _ (real_of_pre _ _ _ (hpre c))

end Cert.RetTie

end
-- ==== Proof.lean ====
/- The certificate: every claim about the printed programs, each from its own module. -/
module

public import proofs.«01_k».proof.Defs
public import proofs.«01_k».proof.Proof.Gen.FfnUp.Frame
public import proofs.«01_k».proof.Proof.Gen.FfnDown.Frame
public import proofs.«01_k».proof.Proof.FfnDownValue
public import proofs.«01_k».proof.Proof.FfnUpValue
public import proofs.«01_k».proof.Proof.InputFrame
public import proofs.«01_k».proof.Proof.InputValue
public import proofs.«01_k».proof.Proof.Gen.MixOut.Frame
public import proofs.«01_k».proof.Proof.MixOutValue
public import proofs.«01_k».proof.Proof.Gen.Qkv.Frame
public import proofs.«01_k».proof.Proof.QkvValue
public import proofs.«01_k».proof.Proof.Gen.AttOut.Frame
public import proofs.«01_k».proof.Proof.AttOutValue
public import proofs.«01_k».proof.Proof.Gen.Ple.Frame
public import proofs.«01_k».proof.Proof.PleValue
public import proofs.«01_k».proof.Proof.Gen.FinalNorm.Frame
public import proofs.«01_k».proof.Proof.FinalNormValue
public import proofs.«01_k».proof.Proof.GlaReference
public import proofs.«01_k».proof.Proof.GlaFrame
public import proofs.«01_k».proof.Proof.RetFrame
public import proofs.«01_k».proof.Proof.RetAlgebraic
public import Idealize.ShloMosaic.Init

@[expose] public section

noncomputable section

namespace Cert.Proof

open Idealize.ShloMosaic Idealize.SL.Sem

/-- Every claim of the certificate. -/
theorem claim : Cert.Claim :=
  ⟨Cert.Gla.Gen.facts, Cert.GlaIdeal.Gen.facts, Cert.GlaRefIdeal.Gen.facts,
    Cert.Ret.Gen.facts, Cert.RetIdeal.Gen.facts, Cert.RetRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.Input.Gen.facts, Cert.InputIdeal.Gen.facts, Cert.InputRefIdeal.Gen.facts,
    Cert.MixOut.Gen.facts, Cert.MixOutIdeal.Gen.facts, Cert.MixOutRefIdeal.Gen.facts,
    Cert.Qkv.Gen.facts, Cert.QkvIdeal.Gen.facts, Cert.QkvRefIdeal.Gen.facts,
    Cert.AttOut.Gen.facts, Cert.AttOutIdeal.Gen.facts, Cert.AttOutRefIdeal.Gen.facts,
    Cert.Ple.Gen.facts, Cert.PleIdeal.Gen.facts, Cert.PleRefIdeal.Gen.facts,
    Cert.FinalNorm.Gen.facts, Cert.FinalNormIdeal.Gen.facts, Cert.FinalNormRefIdeal.Gen.facts, Cert.RetTie.pre_facts,
    Cert.GlaEnds.kernel_frame, Cert.GlaTie.kernel_frame, Cert.GlaTie.reference_frame,
    Cert.RetEnds.kernel_frame, Cert.RetTie.kernel_frame, fun m g _ => Cert.RetTie.kernel_frame m g trivial,
    Cert.RetTie.reference_frame, fun m g _ => Cert.RetTie.reference_frame m g trivial,
    fun m g _ => Cert.FfnUp.Gen.frame m g, fun m g _ => Cert.FfnUpIdeal.Gen.frame m g, Cert.FfnUpTie.reference_frame,
    fun m g _ => Cert.FfnDown.Gen.frame m g, fun m g _ => Cert.FfnDownIdeal.Gen.frame m g, Cert.FfnDownTie.reference_frame,
    Cert.InputEnds.kernel_frame, Cert.InputTie.kernel_frame, Cert.InputTie.reference_frame,
    fun m g _ => Cert.MixOut.Gen.frame m g, fun m g _ => Cert.MixOutIdeal.Gen.frame m g, Cert.MixOutTie.reference_frame,
    fun m g _ => Cert.Qkv.Gen.frame m g, fun m g _ => Cert.QkvIdeal.Gen.frame m g, Cert.QkvTie.reference_frame,
    fun m g _ => Cert.AttOut.Gen.frame m g, fun m g _ => Cert.AttOutIdeal.Gen.frame m g, Cert.AttOutTie.reference_frame,
    fun m g _ => Cert.Ple.Gen.frame m g, fun m g _ => Cert.PleIdeal.Gen.frame m g, Cert.PleTie.reference_frame,
    fun m g _ => Cert.FinalNorm.Gen.frame m g, fun m g _ => Cert.FinalNormIdeal.Gen.frame m g, Cert.FinalNormTie.reference_frame,
    trivial, Cert.GlaTie.algebraic, trivial, @Cert.RetTie.algebraic Cert.RetTie.pre_facts,
    trivial, Cert.FfnUpTie.algebraic, trivial, Cert.FfnDownTie.algebraic,
    trivial, Cert.InputTie.algebraic,
    trivial, Cert.MixOutTie.algebraic,
    trivial, Cert.QkvTie.algebraic,
    trivial, Cert.AttOutTie.algebraic,
    trivial, Cert.PleTie.algebraic,
    trivial, Cert.FinalNormTie.algebraic⟩

end Cert.Proof

end
